-- ==== Defs.lean ====
def Pre_Kernel [hPre_blocks_named : Cert.Pre_blocks_named.Facts] (m : (ℓ : Loc Cert.Kernel.nD Cert.Kernel.τ Cert.Kernel.sig) → Buf (Elt Bits) ℓ) : Prop :=
  ∀ c : Dev Cert.Kernel.nD,
    (Cert.Pre_blocks_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_blocks_named : Cert.Pre_blocks_named.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_named [hPre_blocks_named : Cert.Pre_blocks_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_experts_named [hPre_experts_named : Cert.Pre_experts_named.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_named.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_named [hPre_experts_named : Cert.Pre_experts_named.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_named.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] [hPre_blocks_named : Cert.Pre_blocks_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_blocks_named : Cert.Pre_blocks_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_blocks_named [hReferenceIdeal : Cert.ReferenceIdeal.Facts] [hPre_blocks_named : Cert.Pre_blocks_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_experts_named [hKernel5Ideal : Cert.Kernel5Ideal.Facts] [hPre_experts_named : Cert.Pre_experts_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_experts_named m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_experts_named [hReference5Ideal : Cert.Reference5Ideal.Facts] [hPre_experts_named : Cert.Pre_experts_named.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_named m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_blocks_named : Cert.Pre_blocks_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v101_0)) (v1 : (c : Dev Cert.Kernel2Ideal.nD) → Buf (Elt Ideal) ((c.tc : Thread Cert.Kernel2Ideal.nD Cert.Kernel2Ideal.τ).loc Cert.Kernel2Ideal.main_v101_1)) (v2 : (c : Dev Cert.Kernel2Ideal.nD) → Buf (Elt Ideal) ((c.tc : Thread Cert.Kernel2Ideal.nD Cert.Kernel2Ideal.τ).loc Cert.Kernel2Ideal.main_v101_2)) (v3 : (c : Dev Cert.Kernel2Ideal.nD) → Buf (Elt Ideal) ((c.tc : Thread Cert.Kernel2Ideal.nD Cert.Kernel2Ideal.τ).loc Cert.Kernel2Ideal.main_v101_3)) (v4 : (c : Dev Cert.Kernel2Ideal.nD) → Buf (Elt Ideal) ((c.tc : Thread Cert.Kernel2Ideal.nD Cert.Kernel2Ideal.τ).loc Cert.Kernel2Ideal.main_v101_4)) (v5 : (c : Dev Cert.Kernel2Ideal.nD) → Buf (Elt Ideal) ((c.tc : Thread Cert.Kernel2Ideal.nD Cert.Kernel2Ideal.τ).loc Cert.Kernel2Ideal.main_v101_5)) (v6 : (c : Dev Cert.Kernel2Ideal.nD) → Buf (Elt Ideal) ((c.tc : Thread Cert.Kernel2Ideal.nD Cert.Kernel2Ideal.τ).loc Cert.Kernel2Ideal.main_v101_6)) (v7 : (c : Dev Cert.Kernel2Ideal.nD) → Buf (Elt Ideal) ((c.tc : Thread Cert.Kernel2Ideal.nD Cert.Kernel2Ideal.τ).loc Cert.Kernel2Ideal.main_v101_7)) (v8 : (c : Dev Cert.Kernel2Ideal.nD) → Buf (Elt Ideal) ((c.tc : Thread Cert.Kernel2Ideal.nD Cert.Kernel2Ideal.τ).loc Cert.Kernel2Ideal.main_v101_8)) (v9 : (c : Dev Cert.Kernel2Ideal.nD) → Buf (Elt Ideal) ((c.tc : Thread Cert.Kernel2Ideal.nD Cert.Kernel2Ideal.τ).loc Cert.Kernel2Ideal.main_v101_9)) (v10 : (c : Dev Cert.Kernel2Ideal.nD) → Buf (Elt Ideal) ((c.tc : Thread Cert.Kernel2Ideal.nD Cert.Kernel2Ideal.τ).loc Cert.Kernel2Ideal.main_v101_10)) (v11 : (c : Dev Cert.Kernel2Ideal.nD) → Buf (Elt Ideal) ((c.tc : Thread Cert.Kernel2Ideal.nD Cert.Kernel2Ideal.τ).loc Cert.Kernel2Ideal.main_v101_11)) (v12 : (c : Dev Cert.Kernel2Ideal.nD) → Buf (Elt Ideal) ((c.tc : Thread Cert.Kernel2Ideal.nD Cert.Kernel2Ideal.τ).loc Cert.Kernel2Ideal.main_v101_12)) (v13 : (c : Dev Cert.Kernel2Ideal.nD) → Buf (Elt Ideal) ((c.tc : Thread Cert.Kernel2Ideal.nD Cert.Kernel2Ideal.τ).loc Cert.Kernel2Ideal.main_v101_13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v101_0) = v0 c
          ∧ r.2.mem ((c.tc : Thread Cert.Kernel2Ideal.nD Cert.Kernel2Ideal.τ).loc Cert.Kernel2Ideal.main_v101_1) = v1 c
          ∧ r.2.mem ((c.tc : Thread Cert.Kernel2Ideal.nD Cert.Kernel2Ideal.τ).loc Cert.Kernel2Ideal.main_v101_2) = v2 c
          ∧ r.2.mem ((c.tc : Thread Cert.Kernel2Ideal.nD Cert.Kernel2Ideal.τ).loc Cert.Kernel2Ideal.main_v101_3) = v3 c
          ∧ r.2.mem ((c.tc : Thread Cert.Kernel2Ideal.nD Cert.Kernel2Ideal.τ).loc Cert.Kernel2Ideal.main_v101_4) = v4 c
          ∧ r.2.mem ((c.tc : Thread Cert.Kernel2Ideal.nD Cert.Kernel2Ideal.τ).loc Cert.Kernel2Ideal.main_v101_5) = v5 c
          ∧ r.2.mem ((c.tc : Thread Cert.Kernel2Ideal.nD Cert.Kernel2Ideal.τ).loc Cert.Kernel2Ideal.main_v101_6) = v6 c
          ∧ r.2.mem ((c.tc : Thread Cert.Kernel2Ideal.nD Cert.Kernel2Ideal.τ).loc Cert.Kernel2Ideal.main_v101_7) = v7 c
          ∧ r.2.mem ((c.tc : Thread Cert.Kernel2Ideal.nD Cert.Kernel2Ideal.τ).loc Cert.Kernel2Ideal.main_v101_8) = v8 c
          ∧ r.2.mem ((c.tc : Thread Cert.Kernel2Ideal.nD Cert.Kernel2Ideal.τ).loc Cert.Kernel2Ideal.main_v101_9) = v9 c
          ∧ r.2.mem ((c.tc : Thread Cert.Kernel2Ideal.nD Cert.Kernel2Ideal.τ).loc Cert.Kernel2Ideal.main_v101_10) = v10 c
          ∧ r.2.mem ((c.tc : Thread Cert.Kernel2Ideal.nD Cert.Kernel2Ideal.τ).loc Cert.Kernel2Ideal.main_v101_11) = v11 c
          ∧ r.2.mem ((c.tc : Thread Cert.Kernel2Ideal.nD Cert.Kernel2Ideal.τ).loc Cert.Kernel2Ideal.main_v101_12) = v12 c
          ∧ r.2.mem ((c.tc : Thread Cert.Kernel2Ideal.nD Cert.Kernel2Ideal.τ).loc Cert.Kernel2Ideal.main_v101_13) = v13 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v103) = v1 c
          ∧ r.2.mem ((c.tc : Thread Cert.Reference2Ideal.nD Cert.Reference2Ideal.τ).loc Cert.Reference2Ideal.main_v142) = v2 c
          ∧ r.2.mem ((c.tc : Thread Cert.Reference2Ideal.nD Cert.Reference2Ideal.τ).loc Cert.Reference2Ideal.main_v181) = v3 c
          ∧ r.2.mem ((c.tc : Thread Cert.Reference2Ideal.nD Cert.Reference2Ideal.τ).loc Cert.Reference2Ideal.main_v220) = v4 c
          ∧ r.2.mem ((c.tc : Thread Cert.Reference2Ideal.nD Cert.Reference2Ideal.τ).loc Cert.Reference2Ideal.main_v259) = v5 c
          ∧ r.2.mem ((c.tc : Thread Cert.Reference2Ideal.nD Cert.Reference2Ideal.τ).loc Cert.Reference2Ideal.main_v298) = v6 c
          ∧ r.2.mem ((c.tc : Thread Cert.Reference2Ideal.nD Cert.Reference2Ideal.τ).loc Cert.Reference2Ideal.main_v337) = v7 c
          ∧ r.2.mem ((c.tc : Thread Cert.Reference2Ideal.nD Cert.Reference2Ideal.τ).loc Cert.Reference2Ideal.main_v338) = v8 c
          ∧ r.2.mem ((c.tc : Thread Cert.Reference2Ideal.nD Cert.Reference2Ideal.τ).loc Cert.Reference2Ideal.main_v21) = v9 c
          ∧ r.2.mem ((c.tc : Thread Cert.Reference2Ideal.nD Cert.Reference2Ideal.τ).loc Cert.Reference2Ideal.main_v18) = v10 c
          ∧ r.2.mem ((c.tc : Thread Cert.Reference2Ideal.nD Cert.Reference2Ideal.τ).loc Cert.Reference2Ideal.main_v15) = v11 c
          ∧ r.2.mem ((c.tc : Thread Cert.Reference2Ideal.nD Cert.Reference2Ideal.τ).loc Cert.Reference2Ideal.main_v25) = v12 c
          ∧ r.2.mem ((c.tc : Thread Cert.Reference2Ideal.nD Cert.Reference2Ideal.τ).loc Cert.Reference2Ideal.main_v344) = v13 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.bf16_pair.BufferStatement Cert.Kernel3Ideal.S65536x2x512 Cert.Kernel3Ideal.S65536x1x512
  ∧ IdealRules.bf16_pair.BufferStatement Cert.Kernel3Ideal.S512x2x512 Cert.Kernel3Ideal.S512x1x512
  ∧ IdealRules.bf16_pair.Statement Cert.Kernel3Ideal.S512x2x512 Cert.Kernel3Ideal.S512x1x512
  ∧ IdealRules.bf16_pack.Statement Cert.Kernel3Ideal.S512x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_experts_named [hKernel5Ideal : Cert.Kernel5Ideal.Facts] [hReference5Ideal : Cert.Reference5Ideal.Facts] [hPre_experts_named : Cert.Pre_experts_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_experts_named m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v29)) (v1 : (c : Dev Cert.Kernel5Ideal.nD) → Buf (Elt Ideal) ((c.tc : Thread Cert.Kernel5Ideal.nD Cert.Kernel5Ideal.τ).loc Cert.Kernel5Ideal.main_v22)) (v2 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_v22) = v1 c
          ∧ r.2.mem ((c.tc : Thread Cert.Kernel5Ideal.nD Cert.Kernel5Ideal.τ).loc Cert.Kernel5Ideal.main_v26) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_blocks_named : Cert.Pre_blocks_named.Facts) (hPre_experts_named : Cert.Pre_experts_named.Facts),
    quiescent_Kernel (hKernel := hKernel) (hPre_blocks_named := hPre_blocks_named)
    ∧ quiescent_KernelIdeal (hKernelIdeal := hKernelIdeal) (hPre_blocks_named := hPre_blocks_named)
    ∧ quiescent_ReferenceIdeal (hReferenceIdeal := hReferenceIdeal)
    ∧ quiescent_ReferenceIdeal_pre_blocks_named (hReferenceIdeal := hReferenceIdeal) (hPre_blocks_named := hPre_blocks_named)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_experts_named (hKernel5Ideal := hKernel5Ideal) (hPre_experts_named := hPre_experts_named)
    ∧ quiescent_Reference5Ideal (hReference5Ideal := hReference5Ideal)
    ∧ quiescent_Reference5Ideal_pre_experts_named (hReference5Ideal := hReference5Ideal) (hPre_experts_named := hPre_experts_named)
    ∧ preserves_Kernel_KernelIdeal
    ∧ algebraic_KernelIdeal_ReferenceIdeal (hKernelIdeal := hKernelIdeal) (hReferenceIdeal := hReferenceIdeal) (hPre_blocks_named := hPre_blocks_named)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_experts_named (hKernel5Ideal := hKernel5Ideal) (hReference5Ideal := hReference5Ideal) (hPre_experts_named := hPre_experts_named)
-- ==== Pre_blocks_named.lean ====
abbrev S589824x512 : Shape := ⟨2, ![589824, 512]⟩
abbrev S576 : Shape := ⟨1, ![576]⟩
abbrev S1 : Shape := ⟨1, ![1]⟩
abbrev S64x1024x512 : Shape := ⟨3, ![64, 1024, 512]⟩
abbrev S64x256x1024 : Shape := ⟨3, ![64, 256, 1024]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S589824x512 32) (main_arg1 : IVec S576 32) (main_arg2 : IVec S1 32) (main_arg3 : FVec F S64x1024x512 .f32) (main_arg4 : FVec F S64x256x1024 .f32) : IVec S_ 1 :=
  let main_c : IVec S_ 32 := constantI S_ 32 0#32
  let main_v0 : IVec S576 32 := broadcastInDim S576 ![] bcast_S_S576 main_c
  let main_v1 : IVec S576 1 := cmpi .sge main_arg1 main_v0
  let main_c_0 : IVec S_ 32 := constantI S_ 32 64#32
  let main_v2 : IVec S576 32 := broadcastInDim S576 ![] bcast_S_S576 main_c_0
  let main_v3 : IVec S576 1 := cmpi .slt main_arg1 main_v2
  let main_v4 : IVec S576 1 := andi main_v1 main_v3
  let main_c_1 : IVec S_ 1 := constantI S_ 1 1#1
  let main_v5 : IVec S_ 1 := (fun x v => Host.reduce IntOp.andi x v reducesTo_S576_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_experts_named.lean ====
abbrev S8x65536 : Shape := ⟨2, ![8, 65536]⟩
abbrev S64x1 : Shape := ⟨2, ![64, 1]⟩
abbrev S_ : Shape := ⟨0, ![]⟩

class Facts : Prop where
  bcast_S_S8x65536 : S_.BroadcastsInDim S8x65536 (![] : Fin 0 → Fin S8x65536.rank)
  reducesTo_S8x65536_S_d0_1 : S8x65536.ReducesTo [0, 1] S_
  h_S_ : 0 < S_.numel

variable [Facts]

def fn {F : FTy → Type} [FloatOps F] (main_arg0 : IVec S8x65536 32) (main_arg1 : IVec S8x65536 32) (main_arg2 : FVec F S64x1 .f32) : IVec S_ 1 :=
  let main_c : IVec S_ 32 := constantI S_ 32 0#32
  let main_v0 : IVec S8x65536 32 := broadcastInDim S8x65536 ![] bcast_S_S8x65536 main_c
  let main_v1 : IVec S8x65536 1 := cmpi .sge main_arg0 main_v0
  let main_c_0 : IVec S_ 32 := constantI S_ 32 64#32
  let main_v2 : IVec S8x65536 32 := broadcastInDim S8x65536 ![] bcast_S_S8x65536 main_c_0
  let main_v3 : IVec S8x65536 1 := cmpi .slt main_arg0 main_v2
  let main_v4 : IVec S8x65536 1 := andi main_v1 main_v3
  let main_c_1 : IVec S_ 1 := constantI S_ 1 1#1
  let main_v5 : IVec S_ 1 := (fun x v => Host.reduce IntOp.andi x v reducesTo_S8x65536_S_d0_1 h_S_) main_v4 main_c_1
  main_v5
-- ==== Kernel.lean ====
abbrev S589824x512 : Shape := ⟨2, ![589824, 512]⟩
abbrev S576 : Shape := ⟨1, ![576]⟩
abbrev S1 : Shape := ⟨1, ![1]⟩
abbrev S64x1024x512 : Shape := ⟨3, ![64, 1024, 512]⟩
abbrev S64x256x1024 : Shape := ⟨3, ![64, 256, 1024]⟩
abbrev S589824x1024 : Shape := ⟨2, ![589824, 1024]⟩
abbrev S1024x512 : Shape := ⟨2, ![1024, 512]⟩
abbrev S1x1024x512 : Shape := ⟨3, ![1, 1024, 512]⟩
abbrev S1x256x1024 : Shape := ⟨3, ![1, 256, 1024]⟩
abbrev S1024x1024 : Shape := ⟨2, ![1024, 1024]⟩
abbrev S1x512x512 : Shape := ⟨3, ![1, 512, 512]⟩
abbrev S512x512 : Shape := ⟨2, ![512, 512]⟩
abbrev S1024x256 : Shape := ⟨2, ![1024, 256]⟩
abbrev S256x1024 : Shape := ⟨2, ![256, 1024]⟩

abbrev nBuf : Space → Nat
  | .hbm => 6
  | .vmem => 8
  | .smem => 2
  | _ => 0

abbrev bufTy : (tb : Table) → Fin (tcTables nBuf tb) → BufTy
  | .hbm, ⟨0, _⟩ => ⟨S589824x512, .i32⟩
  | .hbm, ⟨1, _⟩ => ⟨S64x1024x512, .f32⟩
  | .hbm, ⟨2, _⟩ => ⟨S64x256x1024, .f32⟩
  | .hbm, ⟨3, _⟩ => ⟨S64x1024x512, .bf16⟩
  | .hbm, ⟨4, _⟩ => ⟨S64x256x1024, .bf16⟩
  | .hbm, ⟨5, _⟩ => ⟨S589824x1024, .f32⟩
  | .local _ .vmem, ⟨0, _⟩ => ⟨S1024x512, .i32⟩
  | .local _ .vmem, ⟨1, _⟩ => ⟨S1024x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .f32⟩
  | .local _ .vmem, ⟨7, _⟩ => ⟨S1024x1024, .f32⟩
  | .local _ .smem, ⟨0, _⟩ => ⟨S576, .i32⟩
  | .local _ .smem, ⟨1, _⟩ => ⟨S1, .i32⟩
  | _, _ => ⟨S589824x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S589824x512 : Shape := ⟨2, ![589824, 512]⟩
abbrev S576 : Shape := ⟨1, ![576]⟩
abbrev S1 : Shape := ⟨1, ![1]⟩
abbrev S64x1024x512 : Shape := ⟨3, ![64, 1024, 512]⟩
abbrev S64x256x1024 : Shape := ⟨3, ![64, 256, 1024]⟩
abbrev S_ : Shape := ⟨0, ![]⟩
abbrev S589824x1024 : Shape := ⟨2, ![589824, 1024]⟩
abbrev S576x1024x1024 : Shape := ⟨3, ![576, 1024, 1024]⟩
abbrev S576x1x1 : Shape := ⟨3, ![576, 1, 1]⟩
abbrev S576x1 : Shape := ⟨2, ![576, 1]⟩
abbrev S576x1024x512 : Shape := ⟨3, ![576, 1024, 512]⟩
abbrev S576x1024x256 : Shape := ⟨3, ![576, 1024, 256]⟩
abbrev S576x256x1024 : Shape := ⟨3, ![576, 256, 1024]⟩

abbrev nBuf : Space → Nat
  | .hbm => 58
  | .vmem => 0
  | .smem => 0
  | _ => 0

abbrev bufTy : (tb : Table) → Fin (tcTables nBuf tb) → BufTy
  | .hbm, ⟨0, _⟩ => ⟨S589824x512, .i32⟩
  | .hbm, ⟨1, _⟩ => ⟨S576, .i32⟩
  | .hbm, ⟨2, _⟩ => ⟨S1, .i32⟩
  | .hbm, ⟨3, _⟩ => ⟨S64x1024x512, .f32⟩
  | .hbm, ⟨4, _⟩ => ⟨S64x256x1024, .f32⟩
  | .hbm, ⟨5, _⟩ => ⟨S_, .i32⟩
  | .hbm, ⟨6, _⟩ => ⟨S589824x512, .i32⟩
  | .hbm, ⟨7, _⟩ => ⟨S589824x512, .i32⟩
  | .hbm, ⟨8, _⟩ => ⟨S589824x512, .f32⟩
  | .hbm, ⟨9, _⟩ => ⟨S_, .i32⟩
  | .hbm, ⟨10, _⟩ => ⟨S589824x512, .i32⟩
  | .hbm, ⟨11, _⟩ => ⟨S589824x512, .i32⟩
  | .hbm, ⟨12, _⟩ => ⟨S589824x512, .f32⟩
  | .hbm, ⟨13, _⟩ => ⟨S589824x1024, .f32⟩
  | .hbm, ⟨14, _⟩ => ⟨S576x1024x1024, .f32⟩
  | .hbm, ⟨15, _⟩ => ⟨S576, .i32⟩
  | .hbm, ⟨16, _⟩ => ⟨S_, .i32⟩
  | .hbm, ⟨17, _⟩ => ⟨S576, .i32⟩
  | .hbm, ⟨18, _⟩ => ⟨S576, .i1⟩
  | .hbm, ⟨19, _⟩ => ⟨S576x1x1, .i1⟩
  | .hbm, ⟨20, _⟩ => ⟨S_, .f32⟩
  | .hbm, ⟨21, _⟩ => ⟨S_, .f32⟩
  | .hbm, ⟨22, _⟩ => ⟨S576x1024x1024, .i1⟩
  | .hbm, ⟨23, _⟩ => ⟨S576x1024x1024, .f32⟩
  | .hbm, ⟨24, _⟩ => ⟨S576x1024x1024, .f32⟩
  | .hbm, ⟨25, _⟩ => ⟨S_, .i32⟩
  | .hbm, ⟨26, _⟩ => ⟨S576, .i32⟩
  | .hbm, ⟨27, _⟩ => ⟨S576, .i1⟩
  | .hbm, ⟨28, _⟩ => ⟨S_, .i32⟩
  | .hbm, ⟨29, _⟩ => ⟨S576, .i32⟩
  | .hbm, ⟨30, _⟩ => ⟨S576, .i32⟩
  | .hbm, ⟨31, _⟩ => ⟨S576, .i32⟩
  | .hbm, ⟨32, _⟩ => ⟨S576x1, .i32⟩
  | .hbm, ⟨33, _⟩ => ⟨S576x1024x512, .f32⟩
  | .hbm, ⟨34, _⟩ => ⟨S576x1024x512, .f32⟩
  | .hbm, ⟨35, _⟩ => ⟨S576x1024x256, .f32⟩
  | .hbm, ⟨36, _⟩ => ⟨S576x1024x256, .f32⟩
  | .hbm, ⟨37, _⟩ => ⟨S576x1024x256, .f32⟩
  | .hbm, ⟨38, _⟩ => ⟨S576x1024x256, .f32⟩
  | .hbm, ⟨39, _⟩ => ⟨S_, .f32⟩
  | .hbm, ⟨40, _⟩ => ⟨S576x1024x256, .f32⟩
  | .hbm, ⟨41, _⟩ => ⟨S576x1024x256, .f32⟩
  | .hbm, ⟨42, _⟩ => ⟨S_, .f32⟩
  | .hbm, ⟨43, _⟩ => ⟨S576x1024x256, .f32⟩
  | .hbm, ⟨44, _⟩ => ⟨S576x1024x256, .f32⟩
  | .hbm, ⟨45, _⟩ => ⟨S576x1024x256, .f32⟩
  | .hbm, ⟨46, _⟩ => ⟨S576x1024x256, .f32⟩
  | .hbm, ⟨47, _⟩ => ⟨S_, .i32⟩
  | .hbm, ⟨48, _⟩ => ⟨S576, .i32⟩
  | .hbm, ⟨49, _⟩ => ⟨S576, .i1⟩
  | .hbm, ⟨50, _⟩ => ⟨S_, .i32⟩
  | .hbm, ⟨51, _⟩ => ⟨S576, .i32⟩
  | .hbm, ⟨52, _⟩ => ⟨S576, .i32⟩
  | .hbm, ⟨53, _⟩ => ⟨S576, .i32⟩
  | .hbm, ⟨54, _⟩ => ⟨S576x1, .i32⟩
  | .hbm, ⟨55, _⟩ => ⟨S576x256x1024, .f32⟩
  | .hbm, ⟨56, _⟩ => ⟨S576x1024x1024, .f32⟩
  | .hbm, ⟨57, _⟩ => ⟨S589824x1024, .f32⟩
  | _, _ => ⟨S589824x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024x6788 : Shape := ⟨2, ![1024, 6788]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4 : Shape := ⟨1, ![4]⟩
abbrev S1x4 : Shape := ⟨2, ![1, 4]⟩
abbrev S4096x4 : Shape := ⟨2, ![4096, 4]⟩
abbrev S4096x24 : Shape := ⟨2, ![4096, 24]⟩
abbrev S4096x32 : Shape := ⟨2, ![4096, 32]⟩
abbrev S4096x28 : Shape := ⟨2, ![4096, 28]⟩
abbrev S1x4096x1x32 : Shape := ⟨4, ![1, 4096, 1, 32]⟩
abbrev S1x4096x4x32 : Shape := ⟨4, ![1, 4096, 4, 32]⟩
abbrev S65536x1024 : Shape := ⟨2, ![65536, 1024]⟩
abbrev S1024x512 : Shape := ⟨2, ![1024, 512]⟩
abbrev S1024x64 : Shape := ⟨2, ![1024, 64]⟩
abbrev S1024x128 : Shape := ⟨2, ![1024, 128]⟩
abbrev S1024x32 : Shape := ⟨2, ![1024, 32]⟩
abbrev S1024x4 : Shape := ⟨2, ![1024, 4]⟩
abbrev S1024x24 : Shape := ⟨2, ![1024, 24]⟩
abbrev S1024x1536 : Shape := ⟨2, ![1024, 1536]⟩
abbrev S1024x3072 : Shape := ⟨2, ![1024, 3072]⟩
abbrev S1024x1280 : Shape := ⟨2, ![1024, 1280]⟩
abbrev S1024x96 : Shape := ⟨2, ![1024, 96]⟩
abbrev S1024x256 : Shape := ⟨2, ![1024, 256]⟩
abbrev S1024x36 : Shape := ⟨2, ![1024, 36]⟩
abbrev S1024x92 : Shape := ⟨2, ![1024, 92]⟩
abbrev S1024x2304 : Shape := ⟨2, ![1024, 2304]⟩
abbrev S256x1024 : Shape := ⟨2, ![256, 1024]⟩
abbrev S65536x512 : Shape := ⟨2, ![65536, 512]⟩
abbrev S65536x64 : Shape := ⟨2, ![65536, 64]⟩
abbrev S65536x128 : Shape := ⟨2, ![65536, 128]⟩
abbrev S65536x32 : Shape := ⟨2, ![65536, 32]⟩
abbrev S65536x1536 : Shape := ⟨2, ![65536, 1536]⟩
abbrev S256x65536 : Shape := ⟨2, ![256, 65536]⟩
abbrev S65536x3072 : Shape := ⟨2, ![65536, 3072]⟩
abbrev S512x1024 : Shape := ⟨2, ![512, 1024]⟩
abbrev S512x128 : Shape := ⟨2, ![512, 128]⟩
abbrev S512x512 : Shape := ⟨2, ![512, 512]⟩
abbrev S512x64 : Shape := ⟨2, ![512, 64]⟩
abbrev S512x32 : Shape := ⟨2, ![512, 32]⟩
abbrev S512x1536 : Shape := ⟨2, ![512, 1536]⟩
abbrev S256x512 : Shape := ⟨2, ![256, 512]⟩
abbrev S512x3072 : Shape := ⟨2, ![512, 3072]⟩

abbrev nBuf : Space → Nat
  | .hbm => 135
  | .vmem => 47
  | .smem => 0
  | _ => 0

abbrev hbmTy0_0 (i : Nat) : BufTy := match i % 128 with
  | 0 => ⟨S16x4096x1024, .f32⟩
  | 1 => ⟨S1024x6788, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S8, .f32⟩
  | 10 => ⟨S_, .f32⟩
  | 11 => ⟨S8, .f32⟩
  | 12 => ⟨S8, .f32⟩
  | 13 => ⟨S4096, .f32⟩
  | 14 => ⟨S4096x1, .f32⟩
  | 15 => ⟨S1x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S_, .f32⟩
  | 22 => ⟨S4096x48, .f32⟩
  | 23 => ⟨S4096x64, .f32⟩
  | 24 => ⟨S4096x8, .f32⟩
  | 25 => ⟨S_, .f32⟩
  | 26 => ⟨S4096x56, .f32⟩
  | 27 => ⟨S4096x64, .f32⟩
  | 28 => ⟨S_, .f32⟩
  | 29 => ⟨S4096x8, .f32⟩
  | 30 => ⟨S_, .f32⟩
  | 31 => ⟨S4096x48, .f32⟩
  | 32 => ⟨S4096x64, .f32⟩
  | 33 => ⟨S1x4096x1x64, .f32⟩
  | 34 => ⟨S1x4096x2x64, .f32⟩
  | 35 => ⟨S4096x128, .f32⟩
  | 36 => ⟨S1x4096x1x64, .f32⟩
  | 37 => ⟨S1x4096x2x64, .f32⟩
  | 38 => ⟨S4096x128, .f32⟩
  | 39 => ⟨S1x4096x1x64, .f32⟩
  | 40 => ⟨S1x4096x2x64, .f32⟩
  | 41 => ⟨S4096x128, .f32⟩
  | 42 => ⟨S4, .f32⟩
  | 43 => ⟨S_, .f32⟩
  | 44 => ⟨S4, .f32⟩
  | 45 => ⟨S4, .f32⟩
  | 46 => ⟨S_, .f32⟩
  | 47 => ⟨S4, .f32⟩
  | 48 => ⟨S4, .f32⟩
  | 49 => ⟨S4, .f32⟩
  | 50 => ⟨S_, .f32⟩
  | 51 => ⟨S4, .f32⟩
  | 52 => ⟨S4, .f32⟩
  | 53 => ⟨S4096, .f32⟩
  | 54 => ⟨S4096x1, .f32⟩
  | 55 => ⟨S1x4, .f32⟩
  | 56 => ⟨S4096x4, .f32⟩
  | 57 => ⟨S4096x4, .f32⟩
  | 58 => ⟨S4096x4, .f32⟩
  | 59 => ⟨S4096x4, .f32⟩
  | 60 => ⟨S4096x4, .f32⟩
  | 61 => ⟨S_, .f32⟩
  | 62 => ⟨S4096x24, .f32⟩
  | 63 => ⟨S4096x32, .f32⟩
  | 64 => ⟨S4096x4, .f32⟩
  | 65 => ⟨S_, .f32⟩
  | 66 => ⟨S4096x28, .f32⟩
  | 67 => ⟨S4096x32, .f32⟩
  | 68 => ⟨S_, .f32⟩
  | 69 => ⟨S4096x4, .f32⟩
  | 70 => ⟨S_, .f32⟩
  | 71 => ⟨S4096x24, .f32⟩
  | 72 => ⟨S4096x32, .f32⟩
  | 73 => ⟨S1x4096x1x32, .f32⟩
  | 74 => ⟨S1x4096x4x32, .f32⟩
  | 75 => ⟨S4096x128, .f32⟩
  | 76 => ⟨S1x4096x1x32, .f32⟩
  | 77 => ⟨S1x4096x4x32, .f32⟩
  | 78 => ⟨S4096x128, .f32⟩
  | 79 => ⟨S1x4096x1x32, .f32⟩
  | 80 => ⟨S1x4096x4x32, .f32⟩
  | 81 => ⟨S4096x128, .f32⟩
  | 82 => ⟨S65536x1024, .f32⟩
  | 83 => ⟨S1024x512, .f32⟩
  | 84 => ⟨S1024x64, .f32⟩
  | 85 => ⟨S1024x128, .f32⟩
  | 86 => ⟨S1024x32, .f32⟩
  | 87 => ⟨S1024x4, .f32⟩
  | 88 => ⟨S1024x512, .f32⟩
  | 89 => ⟨S1024x64, .f32⟩
  | 90 => ⟨S1024x64, .f32⟩
  | 91 => ⟨S1024x64, .f32⟩
  | 92 => ⟨S1024x64, .f32⟩
  | 93 => ⟨S1024x64, .f32⟩
  | 94 => ⟨S1024x64, .f32⟩
  | 95 => ⟨S1024x24, .f32⟩
  | 96 => ⟨S1024x1536, .f32⟩
  | 97 => ⟨S1024x4, .f32⟩
  | 98 => ⟨S1024x4, .f32⟩
  | 99 => ⟨S1024x512, .f32⟩
  | 100 => ⟨S1024x3072, .f32⟩
  | 101 => ⟨S1024x1280, .f32⟩
  | 102 => ⟨S_, .f32⟩
  | 103 => ⟨S1024x96, .f32⟩
  | 104 => ⟨S1024x256, .f32⟩
  | 105 => ⟨S1024x36, .f32⟩
  | 106 => ⟨S_, .f32⟩
  | 107 => ⟨S1024x92, .f32⟩
  | 108 => ⟨S1024x128, .f32⟩
  | 109 => ⟨S_, .f32⟩
  | 110 => ⟨S1024x64, .f32⟩
  | 111 => ⟨S1024x2304, .f32⟩
  | 112 => ⟨S_, .f32⟩
  | 113 => ⟨S1024x64, .f32⟩
  | 114 => ⟨S1024x256, .f32⟩
  | 115 => ⟨S256x1024, .f32⟩
  | 116 => ⟨S1024x1280, .bf16⟩
  | 117 => ⟨S1024x256, .bf16⟩
  | 118 => ⟨S1024x2304, .bf16⟩
  | 119 => ⟨S256x1024, .bf16⟩
  | 120 => ⟨S1024x3072, .bf16⟩
  | 121 => ⟨S65536x512, .bf16⟩
  | 122 => ⟨S65536x512, .bf16⟩
  | 123 => ⟨S65536x64, .bf16⟩
  | 124 => ⟨S65536x64, .bf16⟩
  | 125 => ⟨S65536x64, .bf16⟩
  | 126 => ⟨S65536x64, .bf16⟩
  | 127 => ⟨S65536x128, .bf16⟩
  | _ => ⟨S16x4096x1024, .f32⟩

abbrev hbmTy0_1 (i : Nat) : BufTy := match i % 128 with
  | 0 => ⟨S65536x32, .bf16⟩
  | 1 => ⟨S65536x64, .bf16⟩
  | 2 => ⟨S65536x128, .f32⟩
  | 3 => ⟨S65536x512, .f32⟩
  | 4 => ⟨S65536x1536, .f32⟩
  | 5 => ⟨S256x65536, .bf16⟩
  | 6 => ⟨S65536x3072, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S1024x256, .bf16⟩
  | .local _ .vmem, ⟨4, _⟩ => ⟨S1024x2304, .bf16⟩
  | .local _ .vmem, ⟨5, _⟩ => ⟨S256x1024, .bf16⟩
  | .local _ .vmem, ⟨6, _⟩ => ⟨S1024x3072, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x64, .bf16⟩
  | .local _ .vmem, ⟨24, _⟩ => ⟨S512x64, .bf16⟩
  | .local _ .vmem, ⟨25, _⟩ => ⟨S512x64, .bf16⟩
  | .local _ .vmem, ⟨26, _⟩ => ⟨S512x64, .bf16⟩
  | .local _ .vmem, ⟨27, _⟩ => ⟨S512x64, .bf16⟩
  | .local _ .vmem, ⟨28, _⟩ => ⟨S512x64, .bf16⟩
  | .local _ .vmem, ⟨29, _⟩ => ⟨S512x64, .bf16⟩
  | .local _ .vmem, ⟨30, _⟩ => ⟨S512x64, .bf16⟩
  | .local _ .vmem, ⟨31, _⟩ => ⟨S512x128, .bf16⟩
  | .local _ .vmem, ⟨32, _⟩ => ⟨S512x128, .bf16⟩
  | .local _ .vmem, ⟨33, _⟩ => ⟨S512x32, .bf16⟩
  | .local _ .vmem, ⟨34, _⟩ => ⟨S512x32, .bf16⟩
  | .local _ .vmem, ⟨35, _⟩ => ⟨S512x64, .bf16⟩
  | .local _ .vmem, ⟨36, _⟩ => ⟨S512x64, .bf16⟩
  | .local _ .vmem, ⟨37, _⟩ => ⟨S512x128, .f32⟩
  | .local _ .vmem, ⟨38, _⟩ => ⟨S512x128, .f32⟩
  | .local _ .vmem, ⟨39, _⟩ => ⟨S512x512, .f32⟩
  | .local _ .vmem, ⟨40, _⟩ => ⟨S512x512, .f32⟩
  | .local _ .vmem, ⟨41, _⟩ => ⟨S512x1536, .f32⟩
  | .local _ .vmem, ⟨42, _⟩ => ⟨S512x1536, .f32⟩
  | .local _ .vmem, ⟨43, _⟩ => ⟨S256x512, .bf16⟩
  | .local _ .vmem, ⟨44, _⟩ => ⟨S256x512, .bf16⟩
  | .local _ .vmem, ⟨45, _⟩ => ⟨S512x3072, .f32⟩
  | .local _ .vmem, ⟨46, _⟩ => ⟨S512x3072, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_13 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_14 : Ref sig .tc := ⟨.hbm, 106, rfl⟩
abbrev main_v89 : Ref sig .tc := ⟨.hbm, 107, rfl⟩
abbrev main_v90 : Ref sig .tc := ⟨.hbm, 108, rfl⟩
abbrev main_cst_15 : Ref sig .tc := ⟨.hbm, 109, rfl⟩
abbrev main_v91 : Ref sig .tc := ⟨.hbm, 110, rfl⟩
abbrev main_v92 : Ref sig .tc := ⟨.hbm, 111, rfl⟩
abbrev main_cst_16 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101_0 : Ref sig .tc := ⟨.hbm, 121, rfl⟩
abbrev main_v101_1 : Ref sig .tc := ⟨.hbm, 122, rfl⟩
abbrev main_v101_2 : Ref sig .tc := ⟨.hbm, 123, rfl⟩
abbrev main_v101_3 : Ref sig .tc := ⟨.hbm, 124, rfl⟩
abbrev main_v101_4 : Ref sig .tc := ⟨.hbm, 125, rfl⟩
abbrev main_v101_5 : Ref sig .tc := ⟨.hbm, 126, rfl⟩
abbrev main_v101_6 : Ref sig .tc := ⟨.hbm, 127, rfl⟩
abbrev main_v101_7 : Ref sig .tc := ⟨.hbm, 128, rfl⟩
abbrev main_v101_8 : Ref sig .tc := ⟨.hbm, 129, rfl⟩
abbrev main_v101_9 : Ref sig .tc := ⟨.hbm, 130, rfl⟩
abbrev main_v101_10 : Ref sig .tc := ⟨.hbm, 131, rfl⟩
abbrev main_v101_11 : Ref sig .tc := ⟨.hbm, 132, rfl⟩
abbrev main_v101_12 : Ref sig .tc := ⟨.hbm, 133, rfl⟩
abbrev main_v101_13 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x32 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1536 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x3072 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference2Ideal.lean ====
abbrev S16x4096x1024 : Shape := ⟨3, ![16, 4096, 1024]⟩
abbrev S1024x6788 : Shape := ⟨2, ![1024, 6788]⟩
abbrev S65536x1024 : Shape := ⟨2, ![65536, 1024]⟩
abbrev S65536x6788 : Shape := ⟨2, ![65536, 6788]⟩
abbrev S65536x512 : Shape := ⟨2, ![65536, 512]⟩
abbrev S65536x64 : Shape := ⟨2, ![65536, 64]⟩
abbrev S65536x128 : Shape := ⟨2, ![65536, 128]⟩
abbrev S65536x32 : Shape := ⟨2, ![65536, 32]⟩
abbrev S65536x4 : Shape := ⟨2, ![65536, 4]⟩
abbrev S65536x24 : Shape := ⟨2, ![65536, 24]⟩
abbrev S65536x1536 : Shape := ⟨2, ![65536, 1536]⟩
abbrev S65536x3072 : Shape := ⟨2, ![65536, 3072]⟩
abbrev S_ : Shape := ⟨0, ![]⟩
abbrev S65536x92 : Shape := ⟨2, ![65536, 92]⟩
abbrev S65536x256 : Shape := ⟨2, ![65536, 256]⟩
abbrev S256x65536 : Shape := ⟨2, ![256, 65536]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S16x4096x8x64 : Shape := ⟨4, ![16, 4096, 8, 64]⟩
abbrev S16x4096x8x8 : Shape := ⟨4, ![16, 4096, 8, 8]⟩
abbrev S1x4096x1x8 : Shape := ⟨4, ![1, 4096, 1, 8]⟩
abbrev S16x4096x8x48 : Shape := ⟨4, ![16, 4096, 8, 48]⟩
abbrev S16x4096x1x64 : Shape := ⟨4, ![16, 4096, 1, 64]⟩
abbrev S16x4096x1x8 : Shape := ⟨4, ![16, 4096, 1, 8]⟩
abbrev S16x4096x1x48 : Shape := ⟨4, ![16, 4096, 1, 48]⟩
abbrev S4 : Shape := ⟨1, ![4]⟩
abbrev S1x4 : Shape := ⟨2, ![1, 4]⟩
abbrev S4096x4 : Shape := ⟨2, ![4096, 4]⟩
abbrev S4096x1x4 : Shape := ⟨3, ![4096, 1, 4]⟩
abbrev S16x4096x4x32 : Shape := ⟨4, ![16, 4096, 4, 32]⟩
abbrev S16x4096x4x4 : Shape := ⟨4, ![16, 4096, 4, 4]⟩
abbrev S1x4096x1x4 : Shape := ⟨4, ![1, 4096, 1, 4]⟩
abbrev S16x4096x4x24 : Shape := ⟨4, ![16, 4096, 4, 24]⟩
abbrev S16x4096x1x32 : Shape := ⟨4, ![16, 4096, 1, 32]⟩
abbrev S16x4096x1x4 : Shape := ⟨4, ![16, 4096, 1, 4]⟩
abbrev S16x4096x1x24 : Shape := ⟨4, ![16, 4096, 1, 24]⟩

abbrev nBuf : Space → Nat
  | .hbm => 375
  | .vmem => 0
  | .smem => 0
  | _ => 0

abbrev hbmTy0_0 (i : Nat) : BufTy := match i % 128 with
  | 0 => ⟨S16x4096x1024, .f32⟩
  | 1 => ⟨S1024x6788, .f32⟩
  | 2 => ⟨S65536x1024, .f32⟩
  | 3 => ⟨S65536x6788, .f32⟩
  | 4 => ⟨S65536x512, .f32⟩
  | 5 => ⟨S65536x64, .f32⟩
  | 6 => ⟨S65536x128, .f32⟩
  | 7 => ⟨S65536x32, .f32⟩
  | 8 => ⟨S65536x4, .f32⟩
  | 9 => ⟨S65536x512, .f32⟩
  | 10 => ⟨S65536x64, .f32⟩
  | 11 => ⟨S65536x64, .f32⟩
  | 12 => ⟨S65536x64, .f32⟩
  | 13 => ⟨S65536x64, .f32⟩
  | 14 => ⟨S65536x64, .f32⟩
  | 15 => ⟨S65536x64, .f32⟩
  | 16 => ⟨S65536x24, .f32⟩
  | 17 => ⟨S65536x1536, .f32⟩
  | 18 => ⟨S65536x4, .f32⟩
  | 19 => ⟨S65536x4, .f32⟩
  | 20 => ⟨S65536x512, .f32⟩
  | 21 => ⟨S65536x3072, .f32⟩
  | 22 => ⟨S_, .f32⟩
  | 23 => ⟨S65536x92, .f32⟩
  | 24 => ⟨S65536x128, .f32⟩
  | 25 => ⟨S_, .f32⟩
  | 26 => ⟨S65536x64, .f32⟩
  | 27 => ⟨S65536x256, .f32⟩
  | 28 => ⟨S256x65536, .f32⟩
  | 29 => ⟨S256x65536, .bf16⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S_, .f32⟩
  | 39 => ⟨S8, .f32⟩
  | 40 => ⟨S8, .f32⟩
  | 41 => ⟨S4096, .f32⟩
  | 42 => ⟨S4096x1, .f32⟩
  | 43 => ⟨S1x8, .f32⟩
  | 44 => ⟨S4096x8, .f32⟩
  | 45 => ⟨S4096x8, .f32⟩
  | 46 => ⟨S4096x8, .f32⟩
  | 47 => ⟨S4096x8, .f32⟩
  | 48 => ⟨S4096x1x8, .f32⟩
  | 49 => ⟨S4096x8, .f32⟩
  | 50 => ⟨S4096x1x8, .f32⟩
  | 51 => ⟨S16x4096x8x64, .f32⟩
  | 52 => ⟨S16x4096x8x8, .f32⟩
  | 53 => ⟨S16x4096x8x8, .f32⟩
  | 54 => ⟨S1x4096x1x8, .f32⟩
  | 55 => ⟨S16x4096x8x8, .f32⟩
  | 56 => ⟨S16x4096x8x8, .f32⟩
  | 57 => ⟨S1x4096x1x8, .f32⟩
  | 58 => ⟨S16x4096x8x8, .f32⟩
  | 59 => ⟨S16x4096x8x8, .f32⟩
  | 60 => ⟨S16x4096x8x8, .f32⟩
  | 61 => ⟨S1x4096x1x8, .f32⟩
  | 62 => ⟨S16x4096x8x8, .f32⟩
  | 63 => ⟨S16x4096x8x8, .f32⟩
  | 64 => ⟨S1x4096x1x8, .f32⟩
  | 65 => ⟨S16x4096x8x8, .f32⟩
  | 66 => ⟨S16x4096x8x8, .f32⟩
  | 67 => ⟨S16x4096x8x8, .f32⟩
  | 68 => ⟨S16x4096x8x48, .f32⟩
  | 69 => ⟨S16x4096x8x64, .f32⟩
  | 70 => ⟨S65536x512, .f32⟩
  | 71 => ⟨S65536x512, .bf16⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S4096, .f32⟩
  | 84 => ⟨S4096x1, .f32⟩
  | 85 => ⟨S1x8, .f32⟩
  | 86 => ⟨S4096x8, .f32⟩
  | 87 => ⟨S4096x8, .f32⟩
  | 88 => ⟨S4096x8, .f32⟩
  | 89 => ⟨S4096x8, .f32⟩
  | 90 => ⟨S4096x1x8, .f32⟩
  | 91 => ⟨S4096x8, .f32⟩
  | 92 => ⟨S4096x1x8, .f32⟩
  | 93 => ⟨S16x4096x8x64, .f32⟩
  | 94 => ⟨S16x4096x8x8, .f32⟩
  | 95 => ⟨S16x4096x8x8, .f32⟩
  | 96 => ⟨S1x4096x1x8, .f32⟩
  | 97 => ⟨S16x4096x8x8, .f32⟩
  | 98 => ⟨S16x4096x8x8, .f32⟩
  | 99 => ⟨S1x4096x1x8, .f32⟩
  | 100 => ⟨S16x4096x8x8, .f32⟩
  | 101 => ⟨S16x4096x8x8, .f32⟩
  | 102 => ⟨S16x4096x8x8, .f32⟩
  | 103 => ⟨S1x4096x1x8, .f32⟩
  | 104 => ⟨S16x4096x8x8, .f32⟩
  | 105 => ⟨S16x4096x8x8, .f32⟩
  | 106 => ⟨S1x4096x1x8, .f32⟩
  | 107 => ⟨S16x4096x8x8, .f32⟩
  | 108 => ⟨S16x4096x8x8, .f32⟩
  | 109 => ⟨S16x4096x8x8, .f32⟩
  | 110 => ⟨S16x4096x8x48, .f32⟩
  | 111 => ⟨S16x4096x8x64, .f32⟩
  | 112 => ⟨S65536x512, .f32⟩
  | 113 => ⟨S65536x512, .bf16⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S8, .f32⟩
  | 122 => ⟨S_, .f32⟩
  | 123 => ⟨S8, .f32⟩
  | 124 => ⟨S8, .f32⟩
  | 125 => ⟨S4096, .f32⟩
  | 126 => ⟨S4096x1, .f32⟩
  | 127 => ⟨S1x8, .f32⟩
  | _ => ⟨S16x4096x1024, .f32⟩

abbrev hbmTy0_1 (i : Nat) : BufTy := match i % 128 with
  | 0 => ⟨S4096x8, .f32⟩
  | 1 => ⟨S4096x8, .f32⟩
  | 2 => ⟨S4096x8, .f32⟩
  | 3 => ⟨S4096x8, .f32⟩
  | 4 => ⟨S4096x1x8, .f32⟩
  | 5 => ⟨S4096x8, .f32⟩
  | 6 => ⟨S4096x1x8, .f32⟩
  | 7 => ⟨S16x4096x1x64, .f32⟩
  | 8 => ⟨S16x4096x1x8, .f32⟩
  | 9 => ⟨S16x4096x1x8, .f32⟩
  | 10 => ⟨S1x4096x1x8, .f32⟩
  | 11 => ⟨S16x4096x1x8, .f32⟩
  | 12 => ⟨S16x4096x1x8, .f32⟩
  | 13 => ⟨S1x4096x1x8, .f32⟩
  | 14 => ⟨S16x4096x1x8, .f32⟩
  | 15 => ⟨S16x4096x1x8, .f32⟩
  | 16 => ⟨S16x4096x1x8, .f32⟩
  | 17 => ⟨S1x4096x1x8, .f32⟩
  | 18 => ⟨S16x4096x1x8, .f32⟩
  | 19 => ⟨S16x4096x1x8, .f32⟩
  | 20 => ⟨S1x4096x1x8, .f32⟩
  | 21 => ⟨S16x4096x1x8, .f32⟩
  | 22 => ⟨S16x4096x1x8, .f32⟩
  | 23 => ⟨S16x4096x1x8, .f32⟩
  | 24 => ⟨S16x4096x1x48, .f32⟩
  | 25 => ⟨S16x4096x1x64, .f32⟩
  | 26 => ⟨S65536x64, .f32⟩
  | 27 => ⟨S65536x64, .bf16⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S8, .f32⟩
  | 36 => ⟨S_, .f32⟩
  | 37 => ⟨S8, .f32⟩
  | 38 => ⟨S8, .f32⟩
  | 39 => ⟨S4096, .f32⟩
  | 40 => ⟨S4096x1, .f32⟩
  | 41 => ⟨S1x8, .f32⟩
  | 42 => ⟨S4096x8, .f32⟩
  | 43 => ⟨S4096x8, .f32⟩
  | 44 => ⟨S4096x8, .f32⟩
  | 45 => ⟨S4096x8, .f32⟩
  | 46 => ⟨S4096x1x8, .f32⟩
  | 47 => ⟨S4096x8, .f32⟩
  | 48 => ⟨S4096x1x8, .f32⟩
  | 49 => ⟨S16x4096x1x64, .f32⟩
  | 50 => ⟨S16x4096x1x8, .f32⟩
  | 51 => ⟨S16x4096x1x8, .f32⟩
  | 52 => ⟨S1x4096x1x8, .f32⟩
  | 53 => ⟨S16x4096x1x8, .f32⟩
  | 54 => ⟨S16x4096x1x8, .f32⟩
  | 55 => ⟨S1x4096x1x8, .f32⟩
  | 56 => ⟨S16x4096x1x8, .f32⟩
  | 57 => ⟨S16x4096x1x8, .f32⟩
  | 58 => ⟨S16x4096x1x8, .f32⟩
  | 59 => ⟨S1x4096x1x8, .f32⟩
  | 60 => ⟨S16x4096x1x8, .f32⟩
  | 61 => ⟨S16x4096x1x8, .f32⟩
  | 62 => ⟨S1x4096x1x8, .f32⟩
  | 63 => ⟨S16x4096x1x8, .f32⟩
  | 64 => ⟨S16x4096x1x8, .f32⟩
  | 65 => ⟨S16x4096x1x8, .f32⟩
  | 66 => ⟨S16x4096x1x48, .f32⟩
  | 67 => ⟨S16x4096x1x64, .f32⟩
  | 68 => ⟨S65536x64, .f32⟩
  | 69 => ⟨S65536x64, .bf16⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S8, .f32⟩
  | 78 => ⟨S_, .f32⟩
  | 79 => ⟨S8, .f32⟩
  | 80 => ⟨S8, .f32⟩
  | 81 => ⟨S4096, .f32⟩
  | 82 => ⟨S4096x1, .f32⟩
  | 83 => ⟨S1x8, .f32⟩
  | 84 => ⟨S4096x8, .f32⟩
  | 85 => ⟨S4096x8, .f32⟩
  | 86 => ⟨S4096x8, .f32⟩
  | 87 => ⟨S4096x8, .f32⟩
  | 88 => ⟨S4096x1x8, .f32⟩
  | 89 => ⟨S4096x8, .f32⟩
  | 90 => ⟨S4096x1x8, .f32⟩
  | 91 => ⟨S16x4096x1x64, .f32⟩
  | 92 => ⟨S16x4096x1x8, .f32⟩
  | 93 => ⟨S16x4096x1x8, .f32⟩
  | 94 => ⟨S1x4096x1x8, .f32⟩
  | 95 => ⟨S16x4096x1x8, .f32⟩
  | 96 => ⟨S16x4096x1x8, .f32⟩
  | 97 => ⟨S1x4096x1x8, .f32⟩
  | 98 => ⟨S16x4096x1x8, .f32⟩
  | 99 => ⟨S16x4096x1x8, .f32⟩
  | 100 => ⟨S16x4096x1x8, .f32⟩
  | 101 => ⟨S1x4096x1x8, .f32⟩
  | 102 => ⟨S16x4096x1x8, .f32⟩
  | 103 => ⟨S16x4096x1x8, .f32⟩
  | 104 => ⟨S1x4096x1x8, .f32⟩
  | 105 => ⟨S16x4096x1x8, .f32⟩
  | 106 => ⟨S16x4096x1x8, .f32⟩
  | 107 => ⟨S16x4096x1x8, .f32⟩
  | 108 => ⟨S16x4096x1x48, .f32⟩
  | 109 => ⟨S16x4096x1x64, .f32⟩
  | 110 => ⟨S65536x64, .f32⟩
  | 111 => ⟨S65536x64, .bf16⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S8, .f32⟩
  | 120 => ⟨S_, .f32⟩
  | 121 => ⟨S8, .f32⟩
  | 122 => ⟨S8, .f32⟩
  | 123 => ⟨S4096, .f32⟩
  | 124 => ⟨S4096x1, .f32⟩
  | 125 => ⟨S1x8, .f32⟩
  | 126 => ⟨S4096x8, .f32⟩
  | 127 => ⟨S4096x8, .f32⟩
  | _ => ⟨S16x4096x1024, .f32⟩

abbrev hbmTy0_2 (i : Nat) : BufTy := match i % 128 with
  | 0 => ⟨S4096x8, .f32⟩
  | 1 => ⟨S4096x8, .f32⟩
  | 2 => ⟨S4096x1x8, .f32⟩
  | 3 => ⟨S4096x8, .f32⟩
  | 4 => ⟨S4096x1x8, .f32⟩
  | 5 => ⟨S16x4096x1x64, .f32⟩
  | 6 => ⟨S16x4096x1x8, .f32⟩
  | 7 => ⟨S16x4096x1x8, .f32⟩
  | 8 => ⟨S1x4096x1x8, .f32⟩
  | 9 => ⟨S16x4096x1x8, .f32⟩
  | 10 => ⟨S16x4096x1x8, .f32⟩
  | 11 => ⟨S1x4096x1x8, .f32⟩
  | 12 => ⟨S16x4096x1x8, .f32⟩
  | 13 => ⟨S16x4096x1x8, .f32⟩
  | 14 => ⟨S16x4096x1x8, .f32⟩
  | 15 => ⟨S1x4096x1x8, .f32⟩
  | 16 => ⟨S16x4096x1x8, .f32⟩
  | 17 => ⟨S16x4096x1x8, .f32⟩
  | 18 => ⟨S1x4096x1x8, .f32⟩
  | 19 => ⟨S16x4096x1x8, .f32⟩
  | 20 => ⟨S16x4096x1x8, .f32⟩
  | 21 => ⟨S16x4096x1x8, .f32⟩
  | 22 => ⟨S16x4096x1x48, .f32⟩
  | 23 => ⟨S16x4096x1x64, .f32⟩
  | 24 => ⟨S65536x64, .f32⟩
  | 25 => ⟨S65536x64, .bf16⟩
  | 26 => ⟨S4, .f32⟩
  | 27 => ⟨S_, .f32⟩
  | 28 => ⟨S4, .f32⟩
  | 29 => ⟨S4, .f32⟩
  | 30 => ⟨S_, .f32⟩
  | 31 => ⟨S4, .f32⟩
  | 32 => ⟨S4, .f32⟩
  | 33 => ⟨S4, .f32⟩
  | 34 => ⟨S_, .f32⟩
  | 35 => ⟨S4, .f32⟩
  | 36 => ⟨S4, .f32⟩
  | 37 => ⟨S4096, .f32⟩
  | 38 => ⟨S4096x1, .f32⟩
  | 39 => ⟨S1x4, .f32⟩
  | 40 => ⟨S4096x4, .f32⟩
  | 41 => ⟨S4096x4, .f32⟩
  | 42 => ⟨S4096x4, .f32⟩
  | 43 => ⟨S4096x4, .f32⟩
  | 44 => ⟨S4096x1x4, .f32⟩
  | 45 => ⟨S4096x4, .f32⟩
  | 46 => ⟨S4096x1x4, .f32⟩
  | 47 => ⟨S16x4096x4x32, .f32⟩
  | 48 => ⟨S16x4096x4x4, .f32⟩
  | 49 => ⟨S16x4096x4x4, .f32⟩
  | 50 => ⟨S1x4096x1x4, .f32⟩
  | 51 => ⟨S16x4096x4x4, .f32⟩
  | 52 => ⟨S16x4096x4x4, .f32⟩
  | 53 => ⟨S1x4096x1x4, .f32⟩
  | 54 => ⟨S16x4096x4x4, .f32⟩
  | 55 => ⟨S16x4096x4x4, .f32⟩
  | 56 => ⟨S16x4096x4x4, .f32⟩
  | 57 => ⟨S1x4096x1x4, .f32⟩
  | 58 => ⟨S16x4096x4x4, .f32⟩
  | 59 => ⟨S16x4096x4x4, .f32⟩
  | 60 => ⟨S1x4096x1x4, .f32⟩
  | 61 => ⟨S16x4096x4x4, .f32⟩
  | 62 => ⟨S16x4096x4x4, .f32⟩
  | 63 => ⟨S16x4096x4x4, .f32⟩
  | 64 => ⟨S16x4096x4x24, .f32⟩
  | 65 => ⟨S16x4096x4x32, .f32⟩
  | 66 => ⟨S65536x128, .f32⟩
  | 67 => ⟨S65536x128, .bf16⟩
  | 68 => ⟨S4, .f32⟩
  | 69 => ⟨S_, .f32⟩
  | 70 => ⟨S4, .f32⟩
  | 71 => ⟨S4, .f32⟩
  | 72 => ⟨S_, .f32⟩
  | 73 => ⟨S4, .f32⟩
  | 74 => ⟨S4, .f32⟩
  | 75 => ⟨S4, .f32⟩
  | 76 => ⟨S_, .f32⟩
  | 77 => ⟨S4, .f32⟩
  | 78 => ⟨S4, .f32⟩
  | 79 => ⟨S4096, .f32⟩
  | 80 => ⟨S4096x1, .f32⟩
  | 81 => ⟨S1x4, .f32⟩
  | 82 => ⟨S4096x4, .f32⟩
  | 83 => ⟨S4096x4, .f32⟩
  | 84 => ⟨S4096x4, .f32⟩
  | 85 => ⟨S4096x4, .f32⟩
  | 86 => ⟨S4096x1x4, .f32⟩
  | 87 => ⟨S4096x4, .f32⟩
  | 88 => ⟨S4096x1x4, .f32⟩
  | 89 => ⟨S16x4096x1x32, .f32⟩
  | 90 => ⟨S16x4096x1x4, .f32⟩
  | 91 => ⟨S16x4096x1x4, .f32⟩
  | 92 => ⟨S1x4096x1x4, .f32⟩
  | 93 => ⟨S16x4096x1x4, .f32⟩
  | 94 => ⟨S16x4096x1x4, .f32⟩
  | 95 => ⟨S1x4096x1x4, .f32⟩
  | 96 => ⟨S16x4096x1x4, .f32⟩
  | 97 => ⟨S16x4096x1x4, .f32⟩
  | 98 => ⟨S16x4096x1x4, .f32⟩
  | 99 => ⟨S1x4096x1x4, .f32⟩
  | 100 => ⟨S16x4096x1x4, .f32⟩
  | 101 => ⟨S16x4096x1x4, .f32⟩
  | 102 => ⟨S1x4096x1x4, .f32⟩
  | 103 => ⟨S16x4096x1x4, .f32⟩
  | 104 => ⟨S16x4096x1x4, .f32⟩
  | 105 => ⟨S16x4096x1x4, .f32⟩
  | 106 => ⟨S16x4096x1x24, .f32⟩
  | 107 => ⟨S16x4096x1x32, .f32⟩
  | 108 => ⟨S65536x32, .f32⟩
  | 109 => ⟨S65536x32, .bf16⟩
  | 110 => ⟨S65536x64, .bf16⟩
  | 111 => ⟨S65536x3072, .f32⟩
  | 112 => ⟨S65536x3072, .f32⟩
  | 113 => ⟨S_, .f32⟩
  | 114 => ⟨S65536x3072, .f32⟩
  | 115 => ⟨S65536x3072, .f32⟩
  | 116 => ⟨S_, .f32⟩
  | 117 => ⟨S65536x3072, .f32⟩
  | 118 => ⟨S65536x3072, .f32⟩
  | _ => ⟨S16x4096x1024, .f32⟩

abbrev hbmTy (i : Nat) : BufTy := match i / 128 with
  | 0 => hbmTy0_0 i
  | 1 => hbmTy0_1 i
  | 2 => hbmTy0_2 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_4 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_6 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_cst_7 : Ref sig .tc := ⟨.hbm, 115, rfl⟩
abbrev main_v105 : Ref sig .tc := ⟨.hbm, 116, rfl⟩
abbrev main_v106 : Ref sig .tc := ⟨.hbm, 117, rfl⟩
abbrev main_cst_8 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_cst_9 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_cst_10 : Ref sig .tc := ⟨.hbm, 157, rfl⟩
abbrev main_v144 : Ref sig .tc := ⟨.hbm, 158, rfl⟩
abbrev main_v145 : Ref sig .tc := ⟨.hbm, 159, rfl⟩
abbrev main_cst_11 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_cst_12 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_cst_13 : Ref sig .tc := ⟨.hbm, 199, rfl⟩
abbrev main_v183 : Ref sig .tc := ⟨.hbm, 200, rfl⟩
abbrev main_v184 : Ref sig .tc := ⟨.hbm, 201, rfl⟩
abbrev main_cst_14 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_cst_15 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_cst_16 : Ref sig .tc := ⟨.hbm, 241, rfl⟩
abbrev main_v222 : Ref sig .tc := ⟨.hbm, 242, rfl⟩
abbrev main_v223 : Ref sig .tc := ⟨.hbm, 243, rfl⟩
abbrev main_cst_17 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_cst_18 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_cst_19 : Ref sig .tc := ⟨.hbm, 283, rfl⟩
abbrev main_v261 : Ref sig .tc := ⟨.hbm, 284, rfl⟩
abbrev main_v262 : Ref sig .tc := ⟨.hbm, 285, rfl⟩
abbrev main_cst_20 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_cst_21 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_cst_22 : Ref sig .tc := ⟨.hbm, 325, rfl⟩
abbrev main_v300 : Ref sig .tc := ⟨.hbm, 326, rfl⟩
abbrev main_v301 : Ref sig .tc := ⟨.hbm, 327, rfl⟩
abbrev main_cst_23 : Ref sig .tc := ⟨.hbm, 328, rfl⟩
abbrev main_v302 : Ref sig .tc := ⟨.hbm, 329, rfl⟩
abbrev main_v303 : Ref sig .tc := ⟨.hbm, 330, rfl⟩
abbrev main_v304 : Ref sig .tc := ⟨.hbm, 331, rfl⟩
abbrev main_cst_24 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_v334 : Ref sig .tc := ⟨.hbm, 362, rfl⟩
abbrev main_v335 : Ref sig .tc := ⟨.hbm, 363, rfl⟩
abbrev main_v336 : Ref sig .tc := ⟨.hbm, 364, rfl⟩
abbrev main_v337 : Ref sig .tc := ⟨.hbm, 365, rfl⟩
abbrev main_v338 : Ref sig .tc := ⟨.hbm, 366, rfl⟩
abbrev main_v339 : Ref sig .tc := ⟨.hbm, 367, rfl⟩
abbrev main_v340 : Ref sig .tc := ⟨.hbm, 368, rfl⟩
abbrev main_cst_25 : Ref sig .tc := ⟨.hbm, 369, rfl⟩
abbrev main_v341 : Ref sig .tc := ⟨.hbm, 370, rfl⟩
abbrev main_v342 : Ref sig .tc := ⟨.hbm, 371, rfl⟩
abbrev main_cst_26 : Ref sig .tc := ⟨.hbm, 372, rfl⟩
abbrev main_v343 : Ref sig .tc := ⟨.hbm, 373, rfl⟩
abbrev main_v344 : Ref sig .tc := ⟨.hbm, 374, rfl⟩

abbrev nD : Nat := 1
abbrev τ : Topo := Topo.v7x

variable {F : FTy → Type} [FloatOps F]
-- ==== Kernel3.lean ====
abbrev S65536x512 : Shape := ⟨2, ![65536, 512]⟩
abbrev S65536x3072 : Shape := ⟨2, ![65536, 3072]⟩
abbrev S65536x1024 : Shape := ⟨2, ![65536, 1024]⟩
abbrev S3x512x1024 : Shape := ⟨3, ![3, 512, 1024]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S1x1024 : Shape := ⟨2, ![1, 1024]⟩
abbrev S64x65536 : Shape := ⟨2, ![64, 65536]⟩
abbrev S512x512 : Shape := ⟨2, ![512, 512]⟩
abbrev S512x3072 : Shape := ⟨2, ![512, 3072]⟩
abbrev S512x1024 : Shape := ⟨2, ![512, 1024]⟩
abbrev S64x512 : Shape := ⟨2, ![64, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x3072, .f32⟩
  | .hbm, ⟨4, _⟩ => ⟨S65536x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S3x512x1024, .bf16⟩
  | .hbm, ⟨11, _⟩ => ⟨S1024x1024, .bf16⟩
  | .hbm, ⟨12, _⟩ => ⟨S64x1024, .f32⟩
  | .hbm, ⟨13, _⟩ => ⟨S64x1024, .bf16⟩
  | .hbm, ⟨14, _⟩ => ⟨S1x1024, .f32⟩
  | .hbm, ⟨15, _⟩ => ⟨S1x1024, .f32⟩
  | .hbm, ⟨16, _⟩ => ⟨S65536x1024, .f32⟩
  | .hbm, ⟨17, _⟩ => ⟨S65536x1024, .bf16⟩
  | .hbm, ⟨18, _⟩ => ⟨S65536x512, .i32⟩
  | .hbm, ⟨19, _⟩ => ⟨S64x65536, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S64x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x512, .i32⟩
  | .local _ .vmem, ⟨20, _⟩ => ⟨S512x512, .i32⟩
  | .local _ .vmem, ⟨21, _⟩ => ⟨S64x512, .f32⟩
  | .local _ .vmem, ⟨22, _⟩ => ⟨S64x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
abbrev S65536x512 : Shape := ⟨2, ![65536, 512]⟩
abbrev S65536x3072 : Shape := ⟨2, ![65536, 3072]⟩
abbrev S65536x1024 : Shape := ⟨2, ![65536, 1024]⟩
abbrev S3x512x1024 : Shape := ⟨3, ![3, 512, 1024]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S1x1024 : Shape := ⟨2, ![1, 1024]⟩
abbrev S65536x2x512 : Shape := ⟨3, ![65536, 2, 512]⟩
abbrev S64x65536 : Shape := ⟨2, ![64, 65536]⟩
abbrev S65536x1x512 : Shape := ⟨3, ![65536, 1, 512]⟩
abbrev S512x512 : Shape := ⟨2, ![512, 512]⟩
abbrev S512x3072 : Shape := ⟨2, ![512, 3072]⟩
abbrev S512x1024 : Shape := ⟨2, ![512, 1024]⟩
abbrev S512x2x512 : Shape := ⟨3, ![512, 2, 512]⟩
abbrev S512x1x512 : Shape := ⟨3, ![512, 1, 512]⟩
abbrev S64x512 : Shape := ⟨2, ![64, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x3072, .f32⟩
  | .hbm, ⟨4, _⟩ => ⟨S65536x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S3x512x1024, .bf16⟩
  | .hbm, ⟨11, _⟩ => ⟨S1024x1024, .bf16⟩
  | .hbm, ⟨12, _⟩ => ⟨S64x1024, .f32⟩
  | .hbm, ⟨13, _⟩ => ⟨S64x1024, .bf16⟩
  | .hbm, ⟨14, _⟩ => ⟨S1x1024, .f32⟩
  | .hbm, ⟨15, _⟩ => ⟨S1x1024, .f32⟩
  | .hbm, ⟨16, _⟩ => ⟨S65536x1024, .f32⟩
  | .hbm, ⟨17, _⟩ => ⟨S65536x1024, .bf16⟩
  | .hbm, ⟨18, _⟩ => ⟨S65536x2x512, .bf16⟩
  | .hbm, ⟨19, _⟩ => ⟨S64x65536, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S64x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2x512, .bf16⟩
  | .local _ .vmem, ⟨20, _⟩ => ⟨S512x2x512, .bf16⟩
  | .local _ .vmem, ⟨21, _⟩ => ⟨S64x512, .f32⟩
  | .local _ .vmem, ⟨22, _⟩ => ⟨S64x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S65536x512 : Shape := ⟨2, ![65536, 512]⟩
abbrev S65536x3072 : Shape := ⟨2, ![65536, 3072]⟩
abbrev S65536x1024 : Shape := ⟨2, ![65536, 1024]⟩
abbrev S3x512x1024 : Shape := ⟨3, ![3, 512, 1024]⟩
abbrev S1024x1024 : Shape := ⟨2, ![1024, 1024]⟩
abbrev S1024 : Shape := ⟨1, ![1024]⟩
abbrev S1024x64 : Shape := ⟨2, ![1024, 64]⟩
abbrev S65536x3x1024 : Shape := ⟨3, ![65536, 3, 1024]⟩
abbrev S65536x1x1024 : Shape := ⟨3, ![65536, 1, 1024]⟩
abbrev S1x512x1024 : Shape := ⟨3, ![1, 512, 1024]⟩
abbrev S512x1024 : Shape := ⟨2, ![512, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x64 : Shape := ⟨2, ![65536, 64]⟩
abbrev S64x65536 : Shape := ⟨2, ![64, 65536]⟩

abbrev nBuf : Space → Nat
  | .hbm => 79
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x3072, .f32⟩
  | .hbm, ⟨4, _⟩ => ⟨S65536x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S65536x3x1024, .f32⟩
  | .hbm, ⟨14, _⟩ => ⟨S65536x1x1024, .f32⟩
  | .hbm, ⟨15, _⟩ => ⟨S65536x1024, .f32⟩
  | .hbm, ⟨16, _⟩ => ⟨S1x512x1024, .f32⟩
  | .hbm, ⟨17, _⟩ => ⟨S512x1024, .f32⟩
  | .hbm, ⟨18, _⟩ => ⟨S65536x1024, .f32⟩
  | .hbm, ⟨19, _⟩ => ⟨S65536x1024, .f32⟩
  | .hbm, ⟨20, _⟩ => ⟨S65536x1x1024, .f32⟩
  | .hbm, ⟨21, _⟩ => ⟨S65536x1024, .f32⟩
  | .hbm, ⟨22, _⟩ => ⟨S1x512x1024, .f32⟩
  | .hbm, ⟨23, _⟩ => ⟨S512x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1x1024, .f32⟩
  | .hbm, ⟨28, _⟩ => ⟨S65536x1024, .f32⟩
  | .hbm, ⟨29, _⟩ => ⟨S1x512x1024, .f32⟩
  | .hbm, ⟨30, _⟩ => ⟨S512x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S65536x1, .f32⟩
  | .hbm, ⟨58, _⟩ => ⟨S65536x1, .f32⟩
  | .hbm, ⟨59, _⟩ => ⟨S65536x1, .f32⟩
  | .hbm, ⟨60, _⟩ => ⟨S65536x1024, .f32⟩
  | .hbm, ⟨61, _⟩ => ⟨S65536x1024, .f32⟩
  | .hbm, ⟨62, _⟩ => ⟨S1x1024, .f32⟩
  | .hbm, ⟨63, _⟩ => ⟨S65536x1024, .f32⟩
  | .hbm, ⟨64, _⟩ => ⟨S65536x1024, .f32⟩
  | .hbm, ⟨65, _⟩ => ⟨S1x1024, .f32⟩
  | .hbm, ⟨66, _⟩ => ⟨S65536x1024, .f32⟩
  | .hbm, ⟨67, _⟩ => ⟨S65536x1024, .f32⟩
  | .hbm, ⟨68, _⟩ => ⟨S65536x1024, .bf16⟩
  | .hbm, ⟨69, _⟩ => ⟨S65536x64, .f32⟩
  | .hbm, ⟨70, _⟩ => ⟨S65536x64, .f32⟩
  | .hbm, ⟨71, _⟩ => ⟨S65536x64, .f32⟩
  | .hbm, ⟨72, _⟩ => ⟨S_, .f32⟩
  | .hbm, ⟨73, _⟩ => ⟨S65536x64, .f32⟩
  | .hbm, ⟨74, _⟩ => ⟨S65536x64, .f32⟩
  | .hbm, ⟨75, _⟩ => ⟨S_, .f32⟩
  | .hbm, ⟨76, _⟩ => ⟨S65536x64, .f32⟩
  | .hbm, ⟨77, _⟩ => ⟨S65536x64, .f32⟩
  | .hbm, ⟨78, _⟩ => ⟨S64x65536, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel4.lean ====
abbrev S65536x64 : Shape := ⟨2, ![65536, 64]⟩
abbrev S32x64x64 : Shape := ⟨3, ![32, 64, 64]⟩
abbrev S32x64 : Shape := ⟨2, ![32, 64]⟩
abbrev S4096x1024 : Shape := ⟨2, ![4096, 1024]⟩
abbrev S2x1024x64 : Shape := ⟨3, ![2, 1024, 64]⟩
abbrev S2x1024 : Shape := ⟨2, ![2, 1024]⟩
abbrev S4096x64 : Shape := ⟨2, ![4096, 64]⟩
abbrev S64x4096 : Shape := ⟨2, ![64, 4096]⟩
abbrev S256x1024 : Shape := ⟨2, ![256, 1024]⟩
abbrev S256x64 : Shape := ⟨2, ![256, 64]⟩
abbrev S64x256 : Shape := ⟨2, ![64, 256]⟩
abbrev S1x1024 : Shape := ⟨2, ![1, 1024]⟩
abbrev S1x1024x64 : Shape := ⟨3, ![1, 1024, 64]⟩
abbrev S1024x64 : Shape := ⟨2, ![1024, 64]⟩
abbrev S256x128 : Shape := ⟨2, ![256, 128]⟩
abbrev S128x256 : Shape := ⟨2, ![128, 256]⟩

abbrev nBuf : Space → Nat
  | .hbm => 16
  | .vmem => 12
  | .smem => 0
  | _ => 0

abbrev bufTy : (tb : Table) → Fin (tcTables nBuf tb) → BufTy
  | .hbm, ⟨0, _⟩ => ⟨S65536x64, .bf16⟩
  | .hbm, ⟨1, _⟩ => ⟨S65536x64, .bf16⟩
  | .hbm, ⟨2, _⟩ => ⟨S32x64x64, .f32⟩
  | .hbm, ⟨3, _⟩ => ⟨S32x64, .f32⟩
  | .hbm, ⟨4, _⟩ => ⟨S32x64x64, .f32⟩
  | .hbm, ⟨5, _⟩ => ⟨S32x64, .f32⟩
  | .hbm, ⟨6, _⟩ => ⟨S4096x1024, .bf16⟩
  | .hbm, ⟨7, _⟩ => ⟨S4096x1024, .bf16⟩
  | .hbm, ⟨8, _⟩ => ⟨S2x1024x64, .f32⟩
  | .hbm, ⟨9, _⟩ => ⟨S2x1024x64, .bf16⟩
  | .hbm, ⟨10, _⟩ => ⟨S2x1024x64, .f32⟩
  | .hbm, ⟨11, _⟩ => ⟨S2x1024x64, .bf16⟩
  | .hbm, ⟨12, _⟩ => ⟨S2x1024, .f32⟩
  | .hbm, ⟨13, _⟩ => ⟨S2x1024, .f32⟩
  | .hbm, ⟨14, _⟩ => ⟨S4096x64, .bf16⟩
  | .hbm, ⟨15, _⟩ => ⟨S64x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2x1024x64, .bf16⟩
  | .local _ .vmem, ⟨5, _⟩ => ⟨S2x1024x64, .bf16⟩
  | .local _ .vmem, ⟨6, _⟩ => ⟨S2x1024, .f32⟩
  | .local _ .vmem, ⟨7, _⟩ => ⟨S2x1024, .f32⟩
  | .local _ .vmem, ⟨8, _⟩ => ⟨S256x64, .bf16⟩
  | .local _ .vmem, ⟨9, _⟩ => ⟨S256x64, .bf16⟩
  | .local _ .vmem, ⟨10, _⟩ => ⟨S64x256, .bf16⟩
  | .local _ .vmem, ⟨11, _⟩ => ⟨S64x256, .bf16⟩
  | _, _ => ⟨S65536x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S65536x64 : Shape := ⟨2, ![65536, 64]⟩
abbrev S32x64x64 : Shape := ⟨3, ![32, 64, 64]⟩
abbrev S32x64 : Shape := ⟨2, ![32, 64]⟩
abbrev S16x256x16x64 : Shape := ⟨4, ![16, 256, 16, 64]⟩
abbrev S16x255x16x64 : Shape := ⟨4, ![16, 255, 16, 64]⟩
abbrev S16x1x16x64 : Shape := ⟨4, ![16, 1, 16, 64]⟩
abbrev S16x256x32x64 : Shape := ⟨4, ![16, 256, 32, 64]⟩
abbrev S1x1x32x64 : Shape := ⟨4, ![1, 1, 32, 64]⟩
abbrev S16x256x64 : Shape := ⟨3, ![16, 256, 64]⟩
abbrev S4096x64 : Shape := ⟨2, ![4096, 64]⟩
abbrev S64x4096 : Shape := ⟨2, ![64, 4096]⟩

abbrev nBuf : Space → Nat
  | .hbm => 31
  | .vmem => 0
  | .smem => 0
  | _ => 0

abbrev bufTy : (tb : Table) → Fin (tcTables nBuf tb) → BufTy
  | .hbm, ⟨0, _⟩ => ⟨S65536x64, .bf16⟩
  | .hbm, ⟨1, _⟩ => ⟨S65536x64, .bf16⟩
  | .hbm, ⟨2, _⟩ => ⟨S32x64x64, .f32⟩
  | .hbm, ⟨3, _⟩ => ⟨S32x64, .f32⟩
  | .hbm, ⟨4, _⟩ => ⟨S32x64x64, .f32⟩
  | .hbm, ⟨5, _⟩ => ⟨S32x64, .f32⟩
  | .hbm, ⟨6, _⟩ => ⟨S65536x64, .f32⟩
  | .hbm, ⟨7, _⟩ => ⟨S16x256x16x64, .f32⟩
  | .hbm, ⟨8, _⟩ => ⟨S16x255x16x64, .f32⟩
  | .hbm, ⟨9, _⟩ => ⟨S16x1x16x64, .f32⟩
  | .hbm, ⟨10, _⟩ => ⟨S16x256x16x64, .f32⟩
  | .hbm, ⟨11, _⟩ => ⟨S16x256x32x64, .f32⟩
  | .hbm, ⟨12, _⟩ => ⟨S1x1x32x64, .f32⟩
  | .hbm, ⟨13, _⟩ => ⟨S16x256x32x64, .f32⟩
  | .hbm, ⟨14, _⟩ => ⟨S16x256x32x64, .f32⟩
  | .hbm, ⟨15, _⟩ => ⟨S16x256x64, .f32⟩
  | .hbm, ⟨16, _⟩ => ⟨S4096x64, .f32⟩
  | .hbm, ⟨17, _⟩ => ⟨S4096x64, .bf16⟩
  | .hbm, ⟨18, _⟩ => ⟨S65536x64, .f32⟩
  | .hbm, ⟨19, _⟩ => ⟨S16x256x16x64, .f32⟩
  | .hbm, ⟨20, _⟩ => ⟨S16x255x16x64, .f32⟩
  | .hbm, ⟨21, _⟩ => ⟨S16x1x16x64, .f32⟩
  | .hbm, ⟨22, _⟩ => ⟨S16x256x16x64, .f32⟩
  | .hbm, ⟨23, _⟩ => ⟨S16x256x32x64, .f32⟩
  | .hbm, ⟨24, _⟩ => ⟨S1x1x32x64, .f32⟩
  | .hbm, ⟨25, _⟩ => ⟨S16x256x32x64, .f32⟩
  | .hbm, ⟨26, _⟩ => ⟨S16x256x32x64, .f32⟩
  | .hbm, ⟨27, _⟩ => ⟨S16x256x64, .f32⟩
  | .hbm, ⟨28, _⟩ => ⟨S4096x64, .f32⟩
  | .hbm, ⟨29, _⟩ => ⟨S64x4096, .f32⟩
  | .hbm, ⟨30, _⟩ => ⟨S64x4096, .bf16⟩
  | _, _ => ⟨S65536x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel5.lean ====
abbrev S8x65536 : Shape := ⟨2, ![8, 65536]⟩
abbrev S64x1 : Shape := ⟨2, ![64, 1]⟩
abbrev S64 : Shape := ⟨1, ![64]⟩
abbrev S_ : Shape := ⟨0, ![]⟩
abbrev S576 : Shape := ⟨1, ![576]⟩
abbrev S1x64 : Shape := ⟨2, ![1, 64]⟩
abbrev S576x1 : Shape := ⟨2, ![576, 1]⟩
abbrev S576x64 : Shape := ⟨2, ![576, 64]⟩
abbrev S1 : Shape := ⟨1, ![1]⟩
abbrev S8x512 : Shape := ⟨2, ![8, 512]⟩
abbrev S64x512 : Shape := ⟨2, ![64, 512]⟩
abbrev S1x512 : Shape := ⟨2, ![1, 512]⟩
abbrev S512 : Shape := ⟨1, ![512]⟩

abbrev nBuf : Space → Nat
  | .hbm => 70
  | .vmem => 7
  | .smem => 0
  | _ => 0

abbrev bufTy : (tb : Table) → Fin (tcTables nBuf tb) → BufTy
  | .hbm, ⟨0, _⟩ => ⟨S8x65536, .i32⟩
  | .hbm, ⟨1, _⟩ => ⟨S8x65536, .i32⟩
  | .hbm, ⟨2, _⟩ => ⟨S64x1, .f32⟩
  | .hbm, ⟨3, _⟩ => ⟨S64, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S576, .i32⟩
  | .hbm, ⟨37, _⟩ => ⟨S_, .i32⟩
  | .hbm, ⟨38, _⟩ => ⟨S576, .i32⟩
  | .hbm, ⟨39, _⟩ => ⟨S576, .i32⟩
  | .hbm, ⟨40, _⟩ => ⟨S1x64, .i32⟩
  | .hbm, ⟨41, _⟩ => ⟨S576x1, .i32⟩
  | .hbm, ⟨42, _⟩ => ⟨S576x64, .i32⟩
  | .hbm, ⟨43, _⟩ => ⟨S576x64, .i32⟩
  | .hbm, ⟨44, _⟩ => ⟨S576x64, .i1⟩
  | .hbm, ⟨45, _⟩ => ⟨S576x64, .i32⟩
  | .hbm, ⟨46, _⟩ => ⟨S_, .i32⟩
  | .hbm, ⟨47, _⟩ => ⟨S576, .i32⟩
  | .hbm, ⟨48, _⟩ => ⟨S_, .i32⟩
  | .hbm, ⟨49, _⟩ => ⟨S576, .i32⟩
  | .hbm, ⟨50, _⟩ => ⟨S576, .i32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1, .i32⟩
  | .hbm, ⟨67, _⟩ => ⟨S64, .f32⟩
  | .hbm, ⟨68, _⟩ => ⟨S64x1, .f32⟩
  | .hbm, ⟨69, _⟩ => ⟨S8x65536, .i32⟩
  | .local _ .vmem, ⟨0, _⟩ => ⟨S8x512, .i32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S64x1, .f32⟩
  | .local _ .vmem, ⟨5, _⟩ => ⟨S8x512, .i32⟩
  | .local _ .vmem, ⟨6, _⟩ => ⟨S8x512, .i32⟩
  | _, _ => ⟨S8x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_call1_call0_c : Ref sig .tc := ⟨.hbm, 32, rfl⟩
abbrev main_call1_call0_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c : Ref sig .tc := ⟨.hbm, 60, rfl⟩
abbrev main_call2_v6 : Ref sig .tc := ⟨.hbm, 61, rfl⟩
abbrev main_call2_v7 : Ref sig .tc := ⟨.hbm, 62, rfl⟩
abbrev main_call2_c_0 : Ref sig .tc := ⟨.hbm, 63, rfl⟩
abbrev main_call2_v8 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x65536 : Shape := ⟨2, ![8, 65536]⟩
abbrev S64x1 : Shape := ⟨2, ![64, 1]⟩
abbrev S64 : Shape := ⟨1, ![64]⟩
abbrev S_ : Shape := ⟨0, ![]⟩
abbrev S8x65536x1 : Shape := ⟨3, ![8, 65536, 1]⟩
abbrev S576 : Shape := ⟨1, ![576]⟩
abbrev S1x576 : Shape := ⟨2, ![1, 576]⟩
abbrev S64x576 : Shape := ⟨2, ![64, 576]⟩
abbrev S1 : Shape := ⟨1, ![1]⟩

abbrev nBuf : Space → Nat
  | .hbm => 77
  | .vmem => 0
  | .smem => 0
  | _ => 0

abbrev bufTy : (tb : Table) → Fin (tcTables nBuf tb) → BufTy
  | .hbm, ⟨0, _⟩ => ⟨S8x65536, .i32⟩
  | .hbm, ⟨1, _⟩ => ⟨S8x65536, .i32⟩
  | .hbm, ⟨2, _⟩ => ⟨S64x1, .f32⟩
  | .hbm, ⟨3, _⟩ => ⟨S64, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S8x65536, .i32⟩
  | .hbm, ⟨38, _⟩ => ⟨S8x65536, .i1⟩
  | .hbm, ⟨39, _⟩ => ⟨S_, .i32⟩
  | .hbm, ⟨40, _⟩ => ⟨S8x65536, .i32⟩
  | .hbm, ⟨41, _⟩ => ⟨S8x65536, .i32⟩
  | .hbm, ⟨42, _⟩ => ⟨S8x65536, .i32⟩
  | .hbm, ⟨43, _⟩ => ⟨S8x65536x1, .i32⟩
  | .hbm, ⟨44, _⟩ => ⟨S8x65536, .i32⟩
  | .hbm, ⟨45, _⟩ => ⟨S8x65536, .i32⟩
  | .hbm, ⟨46, _⟩ => ⟨S576, .i32⟩
  | .hbm, ⟨47, _⟩ => ⟨S_, .i32⟩
  | .hbm, ⟨48, _⟩ => ⟨S576, .i32⟩
  | .hbm, ⟨49, _⟩ => ⟨S576, .i32⟩
  | .hbm, ⟨50, _⟩ => ⟨S1x576, .i32⟩
  | .hbm, ⟨51, _⟩ => ⟨S64x1, .i32⟩
  | .hbm, ⟨52, _⟩ => ⟨S64x576, .i32⟩
  | .hbm, ⟨53, _⟩ => ⟨S64x576, .i32⟩
  | .hbm, ⟨54, _⟩ => ⟨S64x576, .i1⟩
  | .hbm, ⟨55, _⟩ => ⟨S64x576, .i32⟩
  | .hbm, ⟨56, _⟩ => ⟨S_, .i32⟩
  | .hbm, ⟨57, _⟩ => ⟨S576, .i32⟩
  | .hbm, ⟨58, _⟩ => ⟨S_, .i32⟩
  | .hbm, ⟨59, _⟩ => ⟨S576, .i32⟩
  | .hbm, ⟨60, _⟩ => ⟨S576, .i32⟩
  | .hbm, ⟨61, _⟩ => ⟨S1, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1, .i32⟩
  | _, _ => ⟨S8x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_call1_call0_c : Ref sig .tc := ⟨.hbm, 32, rfl⟩
abbrev main_call1_call0_v0 : Ref sig .tc := ⟨.hbm, 33, rfl⟩
abbrev main_v9 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_call0_v2 : Ref sig .tc := ⟨.hbm, 52, rfl⟩
abbrev main_call2_call0_v3 : Ref sig .tc := ⟨.hbm, 53, rfl⟩
abbrev main_call2_call0_v4 : Ref sig .tc := ⟨.hbm, 54, rfl⟩
abbrev main_call2_call0_v5 : Ref sig .tc := ⟨.hbm, 55, rfl⟩
abbrev main_call2_call0_c : Ref sig .tc := ⟨.hbm, 56, rfl⟩
abbrev main_v22 : Ref sig .tc := ⟨.hbm, 57, rfl⟩
abbrev main_c_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c_7 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c : Ref sig .tc := ⟨.hbm, 70, rfl⟩
abbrev main_call3_v6 : Ref sig .tc := ⟨.hbm, 71, rfl⟩
abbrev main_call3_v7 : Ref sig .tc := ⟨.hbm, 72, rfl⟩
abbrev main_call3_c_0 : Ref sig .tc := ⟨.hbm, 73, rfl⟩
abbrev main_call3_v8 : Ref sig .tc := ⟨.hbm, 74, rfl⟩
abbrev main_v27 : Ref sig .tc := ⟨.hbm, 75, rfl⟩
abbrev main_v28 : Ref sig .tc := ⟨.hbm, 76, rfl⟩

abbrev nD : Nat := 1
abbrev τ : Topo := Topo.v7x

variable {F : FTy → Type} [FloatOps F]
-- ==== Proof.ExpertsBody.lean ====
/- The routed experts' kernel body, one grid point: what it leaves in the output's staging buffer, on a used block and on
   an unused one. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The table of block experts as the body is handed it. -/
abbrev tabE : Memref sig .tc .smem S576 .i32 := Memref.whole main_arg1
/-- The table with the number of used blocks as the body is handed it. -/
abbrev tabN : Memref sig .tc .smem S1 .i32 := Memref.whole main_arg2

/-- A table's contents on core `c`. -/
abbrev TabBuf (c : Dev nD) {S : Shape} (M : Memref sig .tc .smem S .i32) : Type := Buf (Elt F) (M.view.loc (c : Thread nD τ))
/-- A table held, half of it (the pipeline keeps the other half). -/
abbrev tabHeld (c : Dev nD) {S : Shape} (M : Memref sig .tc .smem S .i32) (f : TabBuf (F := F) c M) : sProp 𝕄 :=
  M.view.loc (c : Thread nD τ) ↦{fullShare.right} f

/-- The number of used blocks: the second table's one word. -/
def usedWord (c : Dev nD) (tn : TabBuf (F := F) c tabN) : BitVec 32 :=
  (tabN.view.readAt (Elt F) (Rect.unit (s := S1) ![0] S1.size inb_S1_S1_0).toLoadRect tn) (Shape.Idx.first (numel1_S1.symm ▸ Nat.one_pos))

/-- What the body leaves in the output's staging buffer at point `i`: on a used block the gated feed-forward of the block's
    rows through the expert's two matrices, on an unused one zeros. -/
def blockOut (i : grid0.Coords) (n : BitVec 32) (x0 : Vec F S1024x512 .i32) (x1 : Vec F S1x1024x512 .bf16) (x2 : Vec F S1x256x1024 .bf16) :
    Vec F S1024x1024 .f32 :=
  if k0_cond1 i n = 1#1 then
    k0_pay1 x0 (View.ld x1 (Rect.unit (s := S1x1024x512) ![0, 0, 0] S1x512x512.size inb_S1x1024x512_S1x512x512_0_0_0))
      (View.ld x1 (Rect.unit (s := S1x1024x512) ![0, 512, 0] S1x512x512.size inb_S1x1024x512_S1x512x512_0_512_0)) x2
  else k0_pay2

/-- The two branches exclude each other and one of them is taken. -/
theorem cond2_iff (i : grid0.Coords) (n : BitVec 32) : k0_cond2 i n = 1#1 ↔ ¬ k0_cond1 i n = 1#1 := by
  have hb : ∀ b : Bool, BitVec.ofBool (BitVec.setWidth 32 (BitVec.ofBool b) != 0#32) = 1#1 ↔ b = true := by decide
  unfold k0_cond1 k0_cond2
  simp only [Scalar.cmpi, IntOp.cmpi, Scalar.extui]
  refine (hb _).trans ((?_ : _ ↔ _).trans (not_congr (hb _)).symm)
  rw [BitVec.sle_eq_not_slt]
  simp

/-- One whole-buffer store, read back. -/
theorem read_store {V : View sig .tc .vmem S1024x1024 .f32} (f : V.ty.Contents (Elt F)) (w : FVec F S1024x1024 .f32) :
    V.read (Elt F) (V.writes (Elt F) f [⟨Rect.unit ![0, 0] S1024x1024.size inb_S1024x1024_S1024x1024_0_0, w⟩]) = w := by
  have hz : (![0, 0] : Fin S1024x1024.rank → Nat) = fun _ => 0 := by decide
  rw [View.read_writes_eq_canon]
  · exact View.canon_unit_zero (Val := Elt F) (e := .f32) hz _ w
  · exact fun y => ⟨_, List.mem_singleton_self _, by
      rw [Rect.mem_set_unit]; intro a; rw [hz]; exact ⟨Nat.zero_le _, by rw [Nat.zero_add]; exact (y a).isLt⟩⟩

/-- The body at any point, on any staging buffers: the inputs and the tables come back as they were, the output's buffer
    holds `blockOut`. -/
theorem body_run (c : Dev nD) (i : grid0.Coords)
    (a0 : Memref sig .tc .vmem S1024x512 .i32) (h0 : a0.IsWhole) (a1 : Memref sig .tc .vmem S1x1024x512 .bf16) (h1 : a1.IsWhole)
    (a2 : Memref sig .tc .vmem S1x256x1024 .bf16) (h2 : a2.IsWhole) (a3 : Memref sig .tc .vmem S1024x1024 .f32) (h3 : a3.IsWhole)
    (x0 : Vec F S1024x512 .i32) (x1 : Vec F S1x1024x512 .bf16) (x2 : Vec F S1x256x1024 .bf16)
    (te : TabBuf (F := F) c tabE) (tn : TabBuf (F := F) c tabN) (E : Set ℕ) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ tabHeld c tabE te ∗ tabHeld c tabN tn
        ∗ (iprop(owns (c : Thread nD τ) a0 fullShare x0 ∗ owns (c : Thread nD τ) a1 fullShare x1 ∗ owns (c : Thread nD τ) a2 fullShare x2
            ∗ owns (c : Thread nD τ) a3 fullShare (blockOut i (usedWord c tn) x0 x1 x2)
            ∗ tabHeld c tabE te ∗ tabHeld c tabN tn) -∗ K ⟨⟩))
      ⊢ wp frame (wpE (defs₀ (F := F)) Variants.none c none) E
          (cc0_expert_ffn i tabE (Memref.isWhole_whole _) tabN (Memref.isWhole_whole _) a0 h0 a1 h1 a2 h2 a3 h3) K := by
  simp only [cc0_expert_ffn_eq_skeleton]; unfold cc0_expert_ffn_skel
  unfold owns
  iintro ⟨⟨%f0, %hf0, H0⟩, ⟨%f1, %hf1, H1⟩, ⟨%f2, %hf2, H2⟩, ⟨%d3, %f3, -, H3⟩, HT0, HT1, Hk⟩
  obtain rfl := h0.eq_unread hf0; obtain rfl := h1.eq_unread hf1; obtain rfl := h2.eq_unread hf2
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _
    isplitr
    swap; · iexact H3
    ipureintro
    sl_unfold_words
    unfold blockOut usedWord
    have e0 : a0.view.readAt (Elt F) (Rect.unit ![0, 0] S1024x512.size inb_S1024x512_S1024x512_0_0).toLoadRect (h0.unread x0) = x0 :=
      (View.readAt_eq_ld _ _ _).trans (by rw [hf0]; exact View.ld_unit_zero (by decide) _ _)
    have e2 : a2.view.readAt (Elt F) (Rect.unit ![0, 0, 0] S1x256x1024.size inb_S1x256x1024_S1x256x1024_0_0_0).toLoadRect (h2.unread x2) = x2 :=
      (View.readAt_eq_ld _ _ _).trans (by rw [hf2]; exact View.ld_unit_zero (by decide) _ _)
    have e1 : ∀ r : Rect S1x1024x512, a1.view.readAt (Elt F) r.toLoadRect (h1.unread x1) = View.ld x1 r :=
      fun r => (View.readAt_eq_ld _ _ _).trans (by rw [hf1])
    rw [e0, e1, e1, e2]
    by_cases hc : k0_cond1 i (tabN.view.readAt (Elt F) (Rect.unit ![0] S1.size inb_S1_S1_0).toLoadRect tn (Shape.Idx.first (numel1_S1.symm ▸ Nat.one_pos))) = 1#1
    · rw [dif_neg (fun h => (cond2_iff _ _).mp h hc), dif_pos hc, if_pos hc]
      exact read_store _ _
    · rw [dif_pos ((cond2_iff _ _).mpr hc), if_neg hc]
      exact read_store _ _
  isplitl [HT0]; · iexact HT0
  iexact HT1

end Cert.Experts

end
-- ==== Proof.ExpertsRun.lean ====
/- The routed experts' call: the launch at any tables the precondition admits, and what the output array holds at the end. -/
module

public import proofs.«01_k».proof.Proof.ExpertsBody
public import Idealize.ShloMosaic.Lib.Claim

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s buffers when the region is entered: the two weight arrays have been cast. -/
abbrev entry (c : Dev nD) (b : Ref sig .tc) : Buf (Elt F) ((c : Thread nD τ).loc b) := StableHlo.after hostOps0 (fun b => m (c, b)) b

theorem casts_fresh : (hostOps0 : List (HloOp τ sig (Elt F))).Forall fun op => op.fresh = ∅ := by
  simp only [List.Forall]; repeat' constructor

set_option maxHeartbeats 800000 in
/-- @main up to the region. -/
theorem main_to_region (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub casts_fresh main_chain

/-- The casts write neither `b`, when `b` is no cast's result. -/
theorem entry_of_ne (c : Dev nD) (b : Ref sig .tc) (h0 : b ≠ main_v0) (h1 : b ≠ main_v1) : entry m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The tables -/

/-- The tables' contents (there is one device: device 0's). -/
def tables : pre0.Contents (Elt F) := fun j => entry m (0 : Dev nD) (pre0.ref j)

theorem entry_tables (c : Dev nD) (j : Fin 2) : entry m c (pre0.ref j) = tables m j := by
  obtain rfl : c = 0 := Subsingleton.elim _ _; rfl

/-- Every block that a table places lies inside its array. -/
abbrev InRange : Prop := ok0 (F := F) (tables m)
abbrev admitted (hO : InRange m) : (pcfg0 (F := F)).Adm := ⟨tables m, hO⟩
abbrev cfgT (hO : InRange m) : Pipeline.Cfg sig Λ₀ := cfg0 (admitted m hO)

/-- The two tables the region lends the body, one by one. -/
theorem tables_lent (c : Dev nD) :
    (Pipeline.ΦT pre0 (tables m) c : sProp 𝕄) = iprop(tabHeld c tabE (tables m 0) ∗ tabHeld c tabN (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`. -/
def blockIn (hO : InRange m) (c : Dev nD) (w : Fin (cfgT m hO).W) (t : Fin (cfgT m hO).N) :
    (((cfgT m hO).win w).xblock ((cfgT m hO).grid.coords t)).Idx → Elt F ((cfgT m hO).win w).elt :=
  (((cfgT m hO).win w).blk t).view.read (Elt F) (entry m c (Pipeline.arrRef spec0 w))

/-- What the output's staging buffer holds after the body at point `t`. -/
def blockLeft (hO : InRange m) (c : Dev nD) (t : Fin (cfgT m hO).N) : Vec F S1024x1024 .f32 :=
  blockOut (grid0.coords t) (usedWord c (tables m 1)) (blockIn m hO c 0 t) (blockIn m hO c 1 t) (blockIn m hO c 2 t)

/-- The output window is written back at every point. -/
theorem flush_out (a : (pcfg0 (F := F)).Adm) : ∀ t : Fin (cfg0 a).N, ((cfg0 a).win 3).flush t = true :=
  (fun t => (Pipeline.Window.flushOf_reads cc0_transform_3 reads0_3 hreads0_3 0 (by decide) (by decide)
    (Pipeline.Window.sep_of_coord cc0_transform_3 0 0 (fun _ => rfl) (by decide)) (P := 1) (m := 0) (by decide) rfl t).mpr (Nat.mod_one _)
    : ∀ t : Fin grid0.N, Pipeline.Window.flushOf grid0 true cc0_transform_3 t = true)

/-! ## The pipeline's proof data -/

def dats (hO : InRange m) (_ : Fin 1) (c : Dev nD) : Dat τ (Elt F) Unit ℕ (UR sig nD τ) ℕ (cfgT m hO) c where
  A w := entry m c (Pipeline.arrRef spec0 w)
  after w t := match w with
    | ⟨0, _⟩ => blockIn m hO c 0 t
    | ⟨1, _⟩ => blockIn m hO c 1 t
    | ⟨2, _⟩ => blockIn m hO c 2 t
    | ⟨3, _⟩ => blockLeft m hO c t
  Φ _ := iprop(Pipeline.ΦA spec0 c ∗ Pipeline.ΦT pre0 (tables m) c)
  q _ := fullShare
  owed _ := 0

theorem dats_A (hO : InRange m) (c : Dev nD) (w : Fin (cfgT m hO).W) : (dats m hO 0 c).A w = entry m c (Pipeline.arrRef spec0 w) := by
  dsimp only [dats]

theorem after_0 (hO : InRange m) (c : Dev nD) (t : Fin (cfgT m hO).N) : (dats m hO 0 c).after 0 t = blockIn m hO c 0 t := by dsimp only [dats]; try rfl
theorem after_1 (hO : InRange m) (c : Dev nD) (t : Fin (cfgT m hO).N) : (dats m hO 0 c).after 1 t = blockIn m hO c 1 t := by dsimp only [dats]; try rfl
theorem after_2 (hO : InRange m) (c : Dev nD) (t : Fin (cfgT m hO).N) : (dats m hO 0 c).after 2 t = blockIn m hO c 2 t := by dsimp only [dats]; try rfl
theorem after_3 (hO : InRange m) (c : Dev nD) (t : Fin (cfgT m hO).N) : (dats m hO 0 c).after 3 t = blockLeft m hO c t := by dsimp only [dats]; try rfl

/-! Each input's staging buffer holds its block at every point, fetched there or kept from an earlier point. -/

theorem before_0 (hO : InRange m) (c : Dev nD) (t : Fin (cfgT m hO).N) (d) : (dats m hO 0 c).before 0 t d = blockIn m hO c 0 t :=
  ((dats m hO 0 c).before_in_eq_fetched 0 rfl (fun _ => rfl) (fun _ _ _ => rfl)
    (fun t => by rw [after_0]; unfold Dat.blockOf blockIn; rw [dats_A]; try rfl) t d).trans
    (by unfold Dat.fetched Dat.blockOf blockIn; rw [dats_A]; try rfl)
theorem before_1 (hO : InRange m) (c : Dev nD) (t : Fin (cfgT m hO).N) (d) : (dats m hO 0 c).before 1 t d = blockIn m hO c 1 t :=
  ((dats m hO 0 c).before_in_eq_fetched 1 rfl (fun _ => rfl) (fun _ _ _ => rfl)
    (fun t => by rw [after_1]; unfold Dat.blockOf blockIn; rw [dats_A]; try rfl) t d).trans
    (by unfold Dat.fetched Dat.blockOf blockIn; rw [dats_A]; try rfl)
theorem before_2 (hO : InRange m) (c : Dev nD) (t : Fin (cfgT m hO).N) (d) : (dats m hO 0 c).before 2 t d = blockIn m hO c 2 t :=
  ((dats m hO 0 c).before_in_eq_fetched 2 rfl (fun _ => rfl) (fun _ _ _ => rfl)
    (fun t => by rw [after_2]; unfold Dat.blockOf blockIn; rw [dats_A]; try rfl) t d).trans
    (by unfold Dat.fetched Dat.blockOf blockIn; rw [dats_A]; try rfl)

/-! ## The body obligation -/

/-- The staging buffer of a window at a point. -/
abbrev stg (hO : InRange m) (t : Fin (cfgT m hO).N) (w : Fin (cfgT m hO).W) := ((cfgT m hO).win w).stage ((cfgT m hO).slots t w)

/-- The body as the pipeline calls it at point `t`. -/
abbrev bodyAt (hO : InRange m) (t : Fin (cfgT m hO).N) : Prog (TpuEff nD τ sig (Elt F) Λ₀ .tc) PUnit :=
  cc0_expert_ffn (grid0.coords t) tabE (Memref.isWhole_whole _) tabN (Memref.isWhole_whole _)
    (spec0_0.stage ((cfgT m hO).slots t 0)) (hstage0_0 (((cfgT m hO).slots t 0).cast nbuf0_0))
    (spec0_1.stage ((cfgT m hO).slots t 1)) (hstage0_1 (((cfgT m hO).slots t 1).cast nbuf0_1))
    (spec0_2.stage ((cfgT m hO).slots t 2)) (hstage0_2 (((cfgT m hO).slots t 2).cast nbuf0_2))
    (spec0_3.stage ((cfgT m hO).slots t 3)) (hstage0_3 (((cfgT m hO).slots t 3).cast nbuf0_3))

/-- What the body is called with at point `t`, -/
def given (hO : InRange m) (c : Dev nD) (t : Fin (cfgT m hO).N) : sProp 𝕄 :=
  iprop((dats m hO 0 c).Φ t.castSucc ∗ (dats m hO 0 c).owesAt () t.castSucc
    ∗ (∃ d, owns (c : Thread nD τ) (stg m hO t 0) fullShare ((dats m hO 0 c).before 0 t d))
    ∗ (∃ d, owns (c : Thread nD τ) (stg m hO t 1) fullShare ((dats m hO 0 c).before 1 t d))
    ∗ (∃ d, owns (c : Thread nD τ) (stg m hO t 2) fullShare ((dats m hO 0 c).before 2 t d))
    ∗ (∃ d, owns (c : Thread nD τ) (stg m hO t 3) fullShare ((dats m hO 0 c).before 3 t d)))

/-- and what it hands back. -/
def returned (hO : InRange m) (c : Dev nD) (t : Fin (cfgT m hO).N) : sProp 𝕄 :=
  iprop((dats m hO 0 c).Φ t.succ ∗ (dats m hO 0 c).owesAt () t.succ
    ∗ owns (c : Thread nD τ) (stg m hO t 0) fullShare ((dats m hO 0 c).after 0 t)
    ∗ owns (c : Thread nD τ) (stg m hO t 1) fullShare ((dats m hO 0 c).after 1 t)
    ∗ owns (c : Thread nD τ) (stg m hO t 2) fullShare ((dats m hO 0 c).after 2 t)
    ∗ owns (c : Thread nD τ) (stg m hO t 3) fullShare ((dats m hO 0 c).after 3 t))

theorem body_at (hO : InRange m) (c : Dev nD) (t : Fin (cfgT m hO).N) :
    given m hO c t ⊢ wp frame (wpE (defs₀ (F := F)) Variants.none c none) Set.univ (bodyAt m hO t) (fun _ => returned m hO c t) := by
  unfold given returned bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tables m) c) from rfl, tables_lent]
  unfold blockLeft
  iintro ⟨⟨HΦ, ⟨HT0, HT1⟩⟩, Ho, ⟨%d0, H0⟩, ⟨%d1, H1⟩, ⟨%d2, H2⟩, ⟨%d3, H3⟩⟩
  iapply (body_run c (grid0.coords t) _ _ _ _ _ _ _ _ (blockIn m hO c 0 t) (blockIn m hO c 1 t) (blockIn m hO c 2 t) (tables m 0) (tables m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

theorem body_row (hO : InRange m) (t : Fin (cfgT m hO).N) :
    defs₀ (F := F) .tc (cfgT m hO).body ((cfgT m hO).bodyArgs t ((cfgT m hO).slots t)) = bodyAt m hO t := by
  unfold defs₀; rw [Defs.onTc_tc]

/-- The output window counts as described at every point, whatever the tables say of its idle points: it is written back. -/
theorem leaves_out (hO : InRange m) (c : Dev nD) (t : Fin (cfgT m hO).N) :
    (dats m hO 0 c).leavesExact 3 t = (owns (c : Thread nD τ) (stg m hO t 3) fullShare ((dats m hO 0 c).after 3 t) : sProp 𝕄) := by
  unfold Dat.leavesExact
  rw [flush_out (admitted m hO) t]
  cases (cfgT m hO).idle 3 ((cfgT m hO).grid.coords t) <;> rfl

theorem body_obligation (hO : InRange m) (c : Dev nD) : BodyObligation (dats (F := F) m hO 0 c) (defs₀ (F := F)) Variants.none () Set.univ := fun t => by
  rw [bigSep_W0, bigSep_W0, body_row m hO]
  refine triple_restated (body_at m hO c t) rfl .rfl fun _ => ?_
  unfold returned
  rw [← leaves_out m hO c t]
  exact .rfl

/-! ## The run -/

set_option backward.isDefEq.respectTransparency.types false in
/-- The launch: every array at what the proof data says, every counter at zero. -/
theorem run (hO : InRange m) : θ_run defs (onTc (τ := τ) (main (F := F))) (s₀ m ρ)
    (fun r => (Pipeline.FramePost (Pipeline.pin pcfgs fun _ => admitted m hO) (dats m hO) 0 (entry m)) r ∧ r.2.sem = fun _ => 0) :=
  Pipeline.θ_run_frameP (Q' := _) pcfgs (fun _ => admitted m hO) (dats m hO) (0 : Fin 1) launch0 defs₀ Variants.none m ρ main
    (hbody := fun c => (body_obligation m hO c).loose) (hshare := fun c => (dats m hO 0 c).share_full fun _ => rfl)
    (howed := fun _ _ => rfl) (V := entry m) (hmain := main_to_region m Variants.none) (hA := dats_A m hO) (hpf := entry_tables m)
    (hΦ := fun _ _ => rfl)

/-- The run read at the arguments and the result: the result is the pipeline's final array, the arguments are unchanged,
    every counter is zero. -/
theorem run_arrays (hO : InRange m) : θ_run defs (onTc (τ := τ) (main (F := F))) ⟨m, fun _ => 0, ρ⟩ (fun r => (∀ c : Dev nD,
      r.2.mem ((c.tc : Thread nD τ).loc main_v2) = (dats m hO 0 c).arrAt 3 (cfgT m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 3,
      ((h.1 c).1 0).trans (((dats m hO 0 c).arrAt_in 0 rfl _).trans ((dats_A m hO c 0).trans (entry_of_ne m c main_arg0 (by decide) (by decide)))),
      ((h.1 c).2 main_arg1 (by decide : main_arg1 ∈ Pipeline.restRefs sig spec0)).trans (entry_of_ne m c main_arg1 (by decide) (by decide)),
      ((h.1 c).2 main_arg2 (by decide : main_arg2 ∈ Pipeline.restRefs sig spec0)).trans (entry_of_ne m c main_arg2 (by decide) (by decide)),
      ((h.1 c).2 main_arg3 (by decide : main_arg3 ∈ Pipeline.restRefs sig spec0)).trans (entry_of_ne m c main_arg3 (by decide) (by decide)),
      ((h.1 c).2 main_arg4 (by decide : main_arg4 ∈ Pipeline.restRefs sig spec0)).trans (entry_of_ne m c main_arg4 (by decide) (by decide))⟩, h.2⟩)
    (run m ρ hO)

end Cert.Experts

end
-- ==== Proof.ExpertsPayload.lean ====
/- The routed experts at an index, over the extended reals: what the kernel's body computes of one block, and what the
   reference computes of the same row. -/
module

public import proofs.«01_k».proof.Proof.ExpertsRun
public import proofs.«01_k».proof.Proof.Gen.ReferenceIdeal.Read
public import Idealize.ShloMosaic.Lib.Pointwise

@[expose] public section

set_option maxRecDepth 16384

noncomputable section

namespace Cert.Experts

open Idealize.ShloMosaic Idealize.ShloMosaic.TcCoe
open Cert.KernelIdeal Cert.KernelIdeal.Gen

/-- The number in a packed word's low half. -/
def low (w : BitVec 32) : EReal := Ideal.ofBits .f32 (w <<< 16)
/-- The number in a packed word's high half. -/
def high (w : BitVec 32) : EReal := Ideal.ofBits .f32 (w &&& 4294901760#32)

/-- A packed row `x` of 1024 numbers (the first 512 in the low halves) times a column `w`. -/
def rowDot (x : Fin 512 → BitVec 32) (w : Fin 1024 → EReal) : EReal :=
  ∑ k : Fin 512, low (x k) * w ⟨k.val, by omega⟩ + ∑ k : Fin 512, high (x k) * w ⟨512 + k.val, by omega⟩

/-- One element of the expert's output for the packed row `x`: the gated feed-forward through `wg` (gate columns, then up
    columns) and `wd`. -/
def ffn (x : Fin 512 → BitVec 32) (wg : Fin 1024 → Fin 512 → EReal) (wd : Fin 256 → EReal) : EReal :=
  ∑ f : Fin 256, rowDot x (fun k => wg k ⟨f.val, by omega⟩) * Ideal.logistic (rowDot x (fun k => wg k ⟨f.val, by omega⟩))
    * rowDot x (fun k => wg k ⟨256 + f.val, by omega⟩) * wd f

theorem eq_zero_of_ne_one {b : BitVec 1} (h : b ≠ 1#1) : b = 0#1 := by
  revert b; decide

theorem shl16 (u : ArithUnit) (w : BitVec 32) : IntOp.shli u w 16#32 = w <<< 16 := by
  unfold IntOp.shli; rw [if_pos (by decide)]; rfl

/-- The body's payload on a used block. -/
theorem pay_apply (x0 : Vec Ideal S1024x512 .i32) (x1 : Vec Ideal S1x1024x512 .bf16) (x2 : Vec Ideal S1x256x1024 .bf16) (r q : Fin 1024) :
    k0_pay1 (F := Ideal) x0 (View.ld x1 (Rect.unit (s := S1x1024x512) ![0, 0, 0] S1x512x512.size inb_S1x1024x512_S1x512x512_0_0_0))
      (View.ld x1 (Rect.unit (s := S1x1024x512) ![0, 512, 0] S1x512x512.size inb_S1x1024x512_S1x512x512_0_512_0)) x2 (ix2 r q)
    = ffn (fun k => x0 (ix2 r k)) (fun k f => x1 (ix3 0 k f)) (fun f => x2 (ix3 0 f q)) := by
  rw [View.ld_unit, View.ld_unit]
  unfold ffn rowDot low high
  pointwise [k0_pay1, shl16]
  rfl

/-- The body's block at point `i`: the feed-forward on a used block, zero on an unused one. -/
theorem blockOut_apply (i : grid0.Coords) (n : BitVec 32) (x0 : Vec Ideal S1024x512 .i32) (x1 : Vec Ideal S1x1024x512 .bf16)
    (x2 : Vec Ideal S1x256x1024 .bf16) (r q : Fin 1024) :
    blockOut (F := Ideal) i n x0 x1 x2 (ix2 r q)
      = if k0_cond1 i n = 1#1 then ffn (fun k => x0 (ix2 r k)) (fun k f => x1 (ix3 0 k f)) (fun f => x2 (ix3 0 f q)) else 0 := by
  unfold blockOut
  split
  · exact pay_apply x0 x1 x2 r q
  · pointwise [k0_pay2]

/-! ## The reference -/

/-- `table[idx]` over the leading axis of a rank-3 table, where the index names a row in range. -/
theorem gather_lead {α : Type} {E A B N : Nat} (d : GatherDims ⟨3, ![E, A, B]⟩ ⟨2, ![N, 1]⟩ ⟨3, ![N, A, B]⟩)
    (hoff : d.offsetDims = [1, 2]) (hcoll : d.collapsedSliceDims = [0]) (hob : d.operandBatchingDims = [])
    (hsim : d.startIndexMap = [0]) (hivd : d.indexVectorDim = 1) (x : (⟨3, ![E, A, B]⟩ : Shape).Idx → α) (idx : IVec ⟨2, ![N, 1]⟩ 32)
    (c : Fin N) (a : Fin A) (b : Fin B) (e : Fin E) (he : (idx (ix2 c 0)).toInt = (e.val : Int)) :
    Host.gather d x idx (ix3 c a b) = x (ix3 e a b) := by
  obtain ⟨off, coll, ob, sb, sim, ivd, ss, wf⟩ := d
  dsimp only at hoff hcoll hob hsim hivd
  subst hoff hcoll hob hsim hivd
  have hsb : sb = [] := List.length_eq_zero_iff.mp (GatherDims.ob_length ⟨_, _, _, sb, _, _, ss, wf⟩).symm
  subst hsb
  generalize hd : (⟨[1, 2], [0], [], [], [0], 1, ss, wf⟩ : GatherDims ⟨3, ![E, A, B]⟩ ⟨2, ![N, 1]⟩ ⟨3, ![N, A, B]⟩) = d
  have hss : d.sliceSizes 0 = 1 := by subst hd; exact GatherDims.slice_collapsed _ 0 (List.mem_singleton.2 rfl)
  unfold Host.gather
  refine congrArg x (funext fun ax => Fin.ext ?_)
  show d.start (ix3 c a b) idx ax + d.batchCoord (ix3 c a b) ax + d.offCoord (ix3 c a b) ax = _
  rw [GatherDims.batchCoord_eq_zero _ _ _ (by subst hd; exact List.not_mem_nil)]
  match ax with
  | ⟨0, _⟩ =>
    have hk : (0 : Fin 3) ∉ d.sKept := fun h => ((d.mem_sKept 0).1 h).1 (by subst hd; exact List.mem_singleton.2 rfl)
    have hm : (0 : Fin 3) ∈ d.startIndexMap := by subst hd; exact List.mem_singleton.2 rfl
    show d.start (ix3 c a b) idx 0 + 0 + d.offCoord (ix3 c a b) 0 = e.val
    rw [d.offCoord_eq_zero _ _ hk]
    unfold GatherDims.start
    rw [dif_pos hm]
    have hsi : d.siIdx (ix3 c a b) ⟨d.startIndexMap.idxOf 0, List.idxOf_lt_length_iff.2 hm⟩ = ix2 c 0 := by
      subst hd
      funext bx; refine Fin.ext ?_
      match bx with
      | ⟨0, _⟩ => rfl
      | ⟨1, _⟩ => rfl
    have hel := e.isLt
    rw [hsi, he, hss]
    show min ((e.val : Int)).toNat (E - 1) + 0 + 0 = e.val
    omega
  | ⟨1, _⟩ =>
    have hk : (1 : Fin 3) ∈ d.sKept := (d.mem_sKept 1).2 ⟨by subst hd; exact fun h => absurd (congrArg Fin.val (List.mem_singleton.1 h)) (by show ¬ 1 = 0; decide), by subst hd; exact List.not_mem_nil⟩
    have hm : (1 : Fin 3) ∉ d.startIndexMap := by subst hd; exact fun h => absurd (congrArg Fin.val (List.mem_singleton.1 h)) (by show ¬ 1 = 0; decide)
    show d.start (ix3 c a b) idx 1 + 0 + d.offCoord (ix3 c a b) 1 = a.val
    unfold GatherDims.start GatherDims.offCoord
    rw [dif_neg hm, dif_pos hk, Nat.zero_add]
    subst hd
    rfl
  | ⟨2, _⟩ =>
    have hk : (2 : Fin 3) ∈ d.sKept := (d.mem_sKept 2).2 ⟨by subst hd; exact fun h => absurd (congrArg Fin.val (List.mem_singleton.1 h)) (by show ¬ 2 = 0; decide), by subst hd; exact List.not_mem_nil⟩
    have hm : (2 : Fin 3) ∉ d.startIndexMap := by subst hd; exact fun h => absurd (congrArg Fin.val (List.mem_singleton.1 h)) (by show ¬ 2 = 0; decide)
    show d.start (ix3 c a b) idx 2 + 0 + d.offCoord (ix3 c a b) 2 = b.val
    unfold GatherDims.start GatherDims.offCoord
    rw [dif_neg hm, dif_pos hk, Nat.zero_add]
    subst hd
    rfl

open Cert.ReferenceIdeal.Read

section Reference

variable (x0 : Vec Ideal S589824x512 .i32) (be : Vec Ideal S576 .i32) (nu : Vec Ideal S1 .i32)
  (x3 : Vec Ideal S64x1024x512 .f32) (x4 : Vec Ideal S64x256x1024 .f32)

/-- A table entry in range is the index itself: the wrap of negative entries does nothing. -/
theorem wrap_in_range {w : BitVec 32} (h : 0 ≤ w.toInt) :
    Scalar.select (IntOp.cmpi .slt w 0#32) (IntOp.addi w 64#32) w = w := by
  have : IntOp.cmpi .slt w 0#32 = 0#1 := by
    simp only [IntOp.cmpi, BitVec.slt_eq_decide, BitVec.toInt_zero, not_lt.mpr h, decide_false, BitVec.ofBool_false]
    rfl
  rw [this]; rfl

theorem start_gate (i : Fin 576) (h : 0 ≤ (be (ix1 i)).toInt) : val_main_v19 (F := Ideal) be (ix2 i 0) = be (ix1 i) := by
  pointwise [val_main_v19, val_main_v18, val_main_v17, val_main_v16, val_main_v15, val_main_v14, val_main_c_1, val_main_c_2]
  exact wrap_in_range h

theorem start_down (i : Fin 576) (h : 0 ≤ (be (ix1 i)).toInt) : val_main_v31 (F := Ideal) be (ix2 i 0) = be (ix1 i) := by
  pointwise [val_main_v31, val_main_v30, val_main_v29, val_main_v28, val_main_v27, val_main_v26, val_main_c_3, val_main_c_4]
  exact wrap_in_range h

theorem gate_weights (i : Fin 576) (e : Fin 64) (he : (be (ix1 i)).toInt = e.val) (k : Fin 1024) (f : Fin 512) :
    val_main_v20 (F := Ideal) be x3 (ix3 i k f) = x3 (ix3 e k f) :=
  gather_lead _ rfl rfl rfl rfl rfl _ _ i k f e (by rw [start_gate be i (by omega)]; exact he)

theorem down_weights (i : Fin 576) (e : Fin 64) (he : (be (ix1 i)).toInt = e.val) (f : Fin 256) (q : Fin 1024) :
    val_main_v32 (F := Ideal) be x4 (ix3 i f q) = x4 (ix3 e f q) :=
  gather_lead _ rfl rfl rfl rfl rfl _ _ i f q e (by rw [start_down be i (by omega)]; exact he)

/-- The reference's first product: the row's product with the expert's column on a used block, zero past the used ones. -/
theorem gu_apply (i : Fin 576) (e : Fin 64) (he : (be (ix1 i)).toInt = e.val) (r : Fin 1024) (f : Fin 512) :
    val_main_v21 (F := Ideal) x0 be nu x3 (ix3 i r f)
      = if IntOp.cmpi .slt (BitVec.ofNat 32 i.val) (nu (ix1 0)) = 1#1
        then rowDot (fun k => x0 (ix2 ⟨i.val * 1024 + r.val, by omega⟩ k)) (fun k => x3 (ix3 e k f)) else 0 := by
  pointwise [val_main_v21, val_main_v13, val_main_call0_v1, val_main_v12, val_main_v11, val_main_v10, val_main_v9, val_main_v8, val_main_v7,
    val_main_v6, val_main_v5, val_main_v4, val_main_v3, val_main_v2, val_main_v1, val_main_v0, val_main_call0_v2, val_main_call0_v0,
    val_main_cst, val_main_c, val_main_c_0, shl16, gate_weights be x3 i e he]
  split
  · rename_i h
    rw [h]
    rfl
  · rename_i h
    rw [eq_zero_of_ne_one h]
    show ∑ _, Ideal.ofBits .f32 0#32 * _ + ∑ _, Ideal.ofBits .f32 0#32 * _ = (0 : EReal)
    simp only [Ideal.ofBits_zero_f32, zero_mul, Finset.sum_const_zero, add_zero]

/-- The reference's result at row `r` of block `i`. -/
theorem ref_apply (i : Fin 576) (e : Fin 64) (he : (be (ix1 i)).toInt = e.val) (r q : Fin 1024) :
    val_main_v34 (F := Ideal) x0 be nu x3 x4 (ix2 ⟨i.val * 1024 + r.val, by omega⟩ q)
      = if IntOp.cmpi .slt (BitVec.ofNat 32 i.val) (nu (ix1 0)) = 1#1
        then ffn (fun k => x0 (ix2 ⟨i.val * 1024 + r.val, by omega⟩ k)) (fun k f => x3 (ix3 e k f)) (fun f => x4 (ix3 e f q)) else 0 := by
  have hidx : idx_main_v34 (ix2 ⟨i.val * 1024 + r.val, by omega⟩ q) = ix3 i r q := by
    funext a
    match a with
    | ⟨0, _⟩ => exact Fin.ext (by show ((i.val * 1024 + r.val) * 1024 + q.val) / 1048576 = i.val; omega)
    | ⟨1, _⟩ => exact Fin.ext (by show ((i.val * 1024 + r.val) * 1024 + q.val) / 1024 % 1024 = r.val; omega)
    | ⟨2, _⟩ => exact Fin.ext (by show ((i.val * 1024 + r.val) * 1024 + q.val) % 1024 = q.val; omega)
  rw [val_main_v34_apply, hidx]
  pointwise [val_main_v33, val_main_v25, val_main_v24, val_main_call1_v5, val_main_call1_v4, val_main_call1_v3, val_main_call1_v2, val_main_call1_v1,
    val_main_call1_v0, val_main_call1_cst, val_main_call1_cst_0, val_main_v23, val_main_v22, gu_apply x0 be nu x3 i e he, down_weights be x4 i e he]
  split
  · rfl
  · simp only [zero_mul, Finset.sum_const_zero]

end Reference

end Cert.Experts

end
-- ==== Proof.ExpertsTables.lean ====
/- The routed experts' tables under the precondition: every block names an expert, at least one block is used, so every
   block that a table places lies inside its array. -/
module

public import proofs.«01_k».proof.Proof.ExpertsRun
public import proofs.«01_k».proof.Proof.Gen.Pre_blocks_named
public import Idealize.ShloMosaic.Lib.ReduceAll
public import Idealize.ShloMosaic.Lib.Affine
public import Idealize.ShloMosaic.Lib.Pointwise

@[expose] public section

set_option maxRecDepth 16384

noncomputable section

namespace Cert.Experts

open Idealize.ShloMosaic Idealize.ShloMosaic.TcCoe
open Cert.KernelIdeal Cert.KernelIdeal.Gen

variable {F : FTy → Type} [FloatOps F]

/-- What the precondition says of the two tables. -/
structure Named (be : IVec S576 32) (nu : IVec S1 32) : Prop where
  lo : ∀ i, 0 ≤ (be i).toInt
  hi : ∀ i, (be i).toInt < 64
  used : ∀ i, 1 ≤ (nu i).toInt

theorem named_of_pre (x0 : IVec S589824x512 32) (be : IVec S576 32) (nu : IVec S1 32) (x3 : FVec F S64x1024x512 .f32) (x4 : FVec F S64x256x1024 .f32)
    (h : Cert.Pre_blocks_named.fn (F := F) x0 be nu x3 x4 = fun _ => 1#1) : Named be nu := by
  have h0 := congrFun h (fun a => a.elim0)
  dsimp only [Cert.Pre_blocks_named.fn] at h0
  obtain ⟨hb, hn⟩ := IntOp.andi_eq_one.mp h0
  have hb' := fun i => IntOp.andi_eq_one.mp (Host.reduce_andi_all _ _ _ _ _ hb i)
  have hn' := fun i => Host.reduce_andi_all _ _ _ _ _ hn i
  exact ⟨fun i => IntOp.cmpi_sge.mp (hb' i).1, fun i => IntOp.cmpi_slt.mp (hb' i).2, fun i => IntOp.cmpi_sge.mp (hn' i)⟩

theorem toNat_of_bounds {w : BitVec 32} {n : Nat} (h0 : 0 ≤ w.toInt) (h1 : w.toInt < n) (hn : n ≤ 2 ^ 31) : w.toNat < n := by
  have := BitVec.toInt_eq_toNat_cond w
  have := w.isLt
  split at * <;> omega

theorem grid_lt (i : grid0.Coords) : (i 0).val < 576 := (i 0).isLt

variable (m : (ℓ : Loc nD τ sig) → Buf (Elt F) ℓ)

theorem tables_0 : tables m 0 = m (((0 : Dev nD) : Thread nD τ).loc main_arg1) := entry_of_ne m 0 main_arg1 (by decide) (by decide)
theorem tables_1 : tables m 1 = m (((0 : Dev nD) : Thread nD τ).loc main_arg2) := entry_of_ne m 0 main_arg2 (by decide) (by decide)

/-- The two tables as words. -/
abbrev be (m : (ℓ : Loc nD τ sig) → Buf (Elt F) ℓ) : IVec S576 32 := tables m 0
abbrev nu (m : (ℓ : Loc nD τ sig) → Buf (Elt F) ℓ) : IVec S1 32 := tables m 1

/-- The word the first window's map places block `i` at: `i` itself among the used blocks, the last used block past them. -/
theorem row_block {n : BitVec 32} (hn : 1 ≤ n.toInt) {i : Nat} (hi : i < 576) :
    (Scalar.minsi (BitVec.ofNat 32 i) (Scalar.subi n 1#32)).toNat = min i (n.toNat - 1) := by
  have h1 := BitVec.toInt_eq_toNat_cond n
  have h2 := n.isLt
  have hn' : n.toInt = n.toNat := by split at h1 <;> omega
  have hsub : (n - 1#32).toNat = n.toNat - 1 := by rw [BitVec.toNat_sub]; simp; omega
  have hsubI : (n - 1#32).toInt = n.toNat - 1 := by rw [BitVec.toInt_eq_toNat_cond, hsub]; split <;> omega
  have hiN : (BitVec.ofNat 32 i).toNat = i := by rw [BitVec.toNat_ofNat]; omega
  have hiI : (BitVec.ofNat 32 i).toInt = i := by rw [BitVec.toInt_eq_toNat_cond, hiN]; split <;> omega
  show (IntOp.minsi (BitVec.ofNat 32 i) (n - 1#32)).toNat = _
  unfold IntOp.minsi
  rw [BitVec.slt_eq_decide, hiI, hsubI]
  by_cases hlt : (i : Int) < n.toNat - 1
  · rw [if_pos (decide_eq_true hlt), hiN]; omega
  · rw [if_neg (by simpa using hlt), hsub]; omega

theorem inRange_of_named (h : Named (be m) (nu m)) : InRange m := by
  refine ⟨fun i => ⟨fun a => ?_, .inl rfl⟩, fun i => ?_, fun i => ?_⟩
  · have hi := grid_lt i
    match a with
    | ⟨0, _⟩ =>
      have key : ∀ z, ((Scalar.minsi (BitVec.ofNat 32 (i 0).val) (Scalar.subi (nu m z) 1#32)).toNat + 1) * 1024 ≤ 589824 :=
        fun z => by rw [row_block (h.used z) hi]; omega
      exact key _
    | ⟨1, _⟩ => show (0 + 1) * 512 ≤ 512; omega
  · have hin : ∀ a, (cc0_transform_1 k0_off1_inb numel1_S1 (tables m) i a + 1) * S1x1024x512.size a ≤ S64x1024x512.size a := fun a => by
      match a with
      | ⟨0, _⟩ =>
        have key : ∀ z, ((be m z).toNat + 1) * 1 ≤ 64 := fun z => by
          have : (be m z).toNat < 64 := toNat_of_bounds (h.lo z) (h.hi z) (by decide)
          omega
        exact key _
      | ⟨1, _⟩ => show (0 + 1) * 1024 ≤ 1024; omega
      | ⟨2, _⟩ => show (0 + 1) * 512 ≤ 512; omega
    exact ⟨hin, .inr (Affine.block_words_dvd (of_decide_eq_true rfl) (by decide))⟩
  · have hin : ∀ a, (cc0_transform_2 k0_off1_inb numel1_S1 (tables m) i a + 1) * S1x256x1024.size a ≤ S64x256x1024.size a := fun a => by
      match a with
      | ⟨0, _⟩ =>
        have key : ∀ z, ((be m z).toNat + 1) * 1 ≤ 64 := fun z => by
          have : (be m z).toNat < 64 := toNat_of_bounds (h.lo z) (h.hi z) (by decide)
          omega
        exact key _
      | ⟨1, _⟩ => show (0 + 1) * 256 ≤ 256; omega
      | ⟨2, _⟩ => show (0 + 1) * 1024 ≤ 1024; omega
    exact ⟨hin, .inr (Affine.block_words_dvd (of_decide_eq_true rfl) (by decide))⟩

end Cert.Experts

end
-- ==== Proof.ExpertsValue.lean ====
/- The routed experts' result: the kernel's final array is the reference's result, on every table the precondition admits. -/
module

public import proofs.«01_k».proof.Proof.ExpertsPayload
public import proofs.«01_k».proof.Proof.ExpertsTables
public import Idealize.ShloMosaic.Lib.Pipeline.Value
public import Idealize.ShloMosaic.Lib.Pipeline.Covers
public import Idealize.ShloMosaic.Lib.StableHlo.Run
public import Idealize.ShloMosaic.Lib.Tactic

@[expose] public section

set_option maxRecDepth 16384

noncomputable section

namespace Cert.Experts

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! ## The arguments, and the blocks read from them -/

abbrev rows (c : Dev nD) : Vec Ideal S589824x512 .i32 := m ((c : Thread nD τ).loc main_arg0)
abbrev wgu (c : Dev nD) : Vec Ideal S64x1024x512 .f32 := m ((c : Thread nD τ).loc main_arg3)
abbrev wdn (c : Dev nD) : Vec Ideal S64x256x1024 .f32 := m ((c : Thread nD τ).loc main_arg4)

theorem entry_rows (c : Dev nD) : entry m c main_arg0 = rows m c := entry_of_ne m c main_arg0 (by decide) (by decide)

theorem entry_gate (c : Dev nD) : (entry m c main_v0 : Vec Ideal S64x1024x512 .bf16) = wgu m c := by
  unfold entry
  simp only [hostOps0]
  after_results_simp
  rfl

theorem entry_down (c : Dev nD) : (entry m c main_v1 : Vec Ideal S64x256x1024 .bf16) = wdn m c := by
  unfold entry
  simp only [hostOps0]
  after_results_simp
  rfl

variable (hN : Named (be m) (nu m))

/-- The grid point's block number. -/
abbrev blk (hO : InRange m) (t : Fin (cfgT m hO).N) : Fin 576 := grid0.coords t 0

/-- The last used block at most: the block of rows the first window reads at block `i`. -/
abbrev src (i : Fin 576) : Fin 576 := ⟨min i.val ((nu m (ix1 0)).toNat - 1), by omega⟩

/-- The expert of block `i`. -/
abbrev expert (hN : Named (be m) (nu m)) (i : Fin 576) : Fin 64 := ⟨(be m (ix1 i)).toNat, toNat_of_bounds (hN.lo _) (hN.hi _) (by decide)⟩

/-- The one-word table has one index. -/
theorem one_index (z : S1.Idx) : z = ix1 0 := by
  funext a
  match a with
  | ⟨0, h⟩ =>
    have hz : (z ⟨0, h⟩).val < 1 := (z ⟨0, h⟩).isLt
    exact Fin.ext (Nat.lt_one_iff.mp hz)

include hN in
theorem read_rows (hO : InRange m) (c : Dev nD) (t : Fin (cfgT m hO).N) (r : Fin 1024) (k : Fin 512) :
    (blockIn m hO c 0 t : Vec Ideal S1024x512 .i32) (ix2 r k)
      = rows m c (ix2 ⟨(src m (blk m hO t)).val * 1024 + r.val, by have := (src m (blk m hO t)).isLt; omega⟩ k) := by
  unfold blockIn
  refine (View.read_apply (Val := Elt Ideal) _ _).trans ?_
  show entry m c main_arg0 _ = _
  rw [entry_rows]
  congr 1
  funext a
  apply Fin.ext
  match a with
  | ⟨0, _⟩ =>
    have key : ∀ z, z = ix1 0 → (Scalar.minsi (BitVec.ofNat 32 (blk m hO t).val) (Scalar.subi (nu m z) 1#32)).toNat * 1024 + 1 * r.val
        = min (blk m hO t).val ((nu m (ix1 0)).toNat - 1) * 1024 + r.val :=
      fun z h => by rw [row_block (hN.used z) (blk m hO t).isLt, Nat.one_mul, h]
    exact key _ (one_index _)
  | ⟨1, _⟩ => show 0 * 512 + 1 * k.val = k.val; omega

theorem table_index (i : grid0.Coords) :
    (Rect.unit (s := S576) ![(Scalar.indexCast (BitVec.ofNat 32 (i 0).val)).toNat] S1.size (k0_off1_inb i)).emb (Shape.Idx.first (numel1_S1.symm ▸ Nat.one_pos)) = ix1 (i 0) := by
  funext a
  match a with
  | ⟨0, _⟩ =>
    apply Fin.ext
    have h := grid_lt i
    show (BitVec.ofNat 32 (i 0).val).toNat + 1 * 0 = (i 0).val
    rw [BitVec.toNat_ofNat]; omega

theorem read_gate (hO : InRange m) (c : Dev nD) (t : Fin (cfgT m hO).N) (k : Fin 1024) (f : Fin 512) :
    (blockIn m hO c 1 t : Vec Ideal S1x1024x512 .bf16) (ix3 0 k f) = wgu m c (ix3 (expert m hN (blk m hO t)) k f) := by
  unfold blockIn
  refine (View.read_apply (Val := Elt Ideal) _ _).trans ?_
  show (entry m c main_v0 : Vec Ideal S64x1024x512 .bf16) _ = _
  rw [entry_gate]
  congr 1
  funext a
  apply Fin.ext
  match a with
  | ⟨0, _⟩ =>
    have key : ∀ z, z = ix1 (blk m hO t) → (be m z).toNat * 1 + 1 * 0 = (be m (ix1 (blk m hO t))).toNat :=
      fun z h => by rw [h, Nat.mul_one, Nat.mul_zero, Nat.add_zero]
    exact key _ (table_index _)
  | ⟨1, _⟩ => show 0 * 1024 + 1 * k.val = k.val; omega
  | ⟨2, _⟩ => show 0 * 512 + 1 * f.val = f.val; omega

theorem read_down (hO : InRange m) (c : Dev nD) (t : Fin (cfgT m hO).N) (f : Fin 256) (q : Fin 1024) :
    (blockIn m hO c 2 t : Vec Ideal S1x256x1024 .bf16) (ix3 0 f q) = wdn m c (ix3 (expert m hN (blk m hO t)) f q) := by
  unfold blockIn
  refine (View.read_apply (Val := Elt Ideal) _ _).trans ?_
  show (entry m c main_v1 : Vec Ideal S64x256x1024 .bf16) _ = _
  rw [entry_down]
  congr 1
  funext a
  apply Fin.ext
  match a with
  | ⟨0, _⟩ =>
    have key : ∀ z, z = ix1 (blk m hO t) → (be m z).toNat * 1 + 1 * 0 = (be m (ix1 (blk m hO t))).toNat :=
      fun z h => by rw [h, Nat.mul_one, Nat.mul_zero, Nat.add_zero]
    exact key _ (table_index _)
  | ⟨1, _⟩ => show 0 * 256 + 1 * f.val = f.val; omega
  | ⟨2, _⟩ => show 0 * 1024 + 1 * q.val = q.val; omega

/-! ## The final array -/

/-- The reference's result at the kernel's arguments. -/
@[irreducible] def result (c : Dev nD) : Vec Ideal S589824x1024 .f32 :=
  Cert.ReferenceIdeal.Read.val_main_v34 (F := Ideal) (rows m c) (be m) (nu m) (wgu m c) (wdn m c)

theorem used_word (c : Dev nD) : usedWord (F := Ideal) c (tables m 1) = nu m (ix1 0) := by
  unfold usedWord
  refine (View.readAt_apply (Val := Elt Ideal) _ _ _).trans ?_
  have key : ∀ z, z = ix1 0 → nu m z = nu m (ix1 0) := fun z h => by rw [h]
  exact key _ (one_index _)

theorem cond1_iff (i : grid0.Coords) (n : BitVec 32) :
    k0_cond1 i n = 1#1 ↔ IntOp.cmpi .slt (BitVec.ofNat 32 (i 0).val) n = 1#1 := by
  have h : ∀ b : BitVec 1, Scalar.cmpi .ne (Scalar.extui b : BitVec 32) 0#32 = 1#1 ↔ b = 1#1 := by decide
  exact h _

theorem src_of_used (hN : Named (be m) (nu m)) (i : Fin 576) (h : IntOp.cmpi .slt (BitVec.ofNat 32 i.val) (nu m (ix1 0)) = 1#1) : src m i = i := by
  have h1 := IntOp.cmpi_slt.mp h
  have h2 := hN.used (ix1 0)
  have hi : (BitVec.ofNat 32 i.val).toNat = i.val := by rw [BitVec.toNat_ofNat]; omega
  have hI : (BitVec.ofNat 32 i.val).toInt = i.val := by rw [BitVec.toInt_eq_toNat_cond, hi]; split <;> omega
  have hn := BitVec.toInt_eq_toNat_cond (nu m (ix1 0))
  have hl := (nu m (ix1 0)).isLt
  have : (nu m (ix1 0)).toInt = (nu m (ix1 0)).toNat := by split at hn <;> omega
  apply Fin.ext
  show min i.val ((nu m (ix1 0)).toNat - 1) = i.val
  omega

include hN in
/-- The block the body leaves at point `t`, element by element, is the reference's. -/
theorem left_apply (hO : InRange m) (c : Dev nD) (t : Fin (cfgT m hO).N) (r q : Fin 1024) :
    blockLeft m hO c t (ix2 r q) = result m c (ix2 ⟨(blk m hO t).val * 1024 + r.val, by have := (blk m hO t).isLt; omega⟩ q) := by
  have he : (be m (ix1 (blk m hO t))).toInt = (expert m hN (blk m hO t)).val := by
    have h0 := hN.lo (ix1 (blk m hO t))
    have hn := BitVec.toInt_eq_toNat_cond (be m (ix1 (blk m hO t)))
    show _ = ((be m (ix1 (blk m hO t))).toNat : Int)
    split at hn <;> omega
  unfold blockLeft result
  refine (blockOut_apply (grid0.coords t) _ _ _ _ r q).trans ?_
  rw [used_word, ref_apply (rows m c) (be m) (nu m) (wgu m c) (wdn m c) (blk m hO t) _ he r q]
  by_cases h : IntOp.cmpi .slt (BitVec.ofNat 32 (blk m hO t).val) (nu m (ix1 0)) = 1#1
  · rw [if_pos ((cond1_iff _ _).mpr h), if_pos h]
    have hs : min (blk m hO t).val ((nu m (ix1 0)).toNat - 1) = (blk m hO t).val := congrArg Fin.val (src_of_used m hN _ h)
    simp only [read_rows m hN, read_gate m hN, read_down m hN, hs]
  · rw [if_neg (fun h' => h ((cond1_iff _ _).mp h')), if_neg h]

/-- What point `t` writes back of any array whose blocks the body leaves. -/
theorem flushed_eq (hO : InRange m) (c : Dev nD) (t : Fin (cfgT m hO).N) (G : Vec Ideal S589824x1024 .f32)
    (hG : ∀ r q : Fin 1024, blockLeft m hO c t (ix2 r q) = G (ix2 ⟨(blk m hO t).val * 1024 + r.val, by have := (blk m hO t).isLt; omega⟩ q)) :
    (dats m hO 0 c).flushed 3 t = (((cfgT m hO).win 3).blk t).view.read (Elt Ideal) G := by
  show ((cfgT m hO).win 3).cut ((cfgT m hO).grid.coords t) ((dats m hO 0 c).after 3 t) = _
  rw [after_3]
  funext (j : S1024x1024.Idx)
  refine Eq.trans ?_ (View.read_apply (Val := Elt Ideal) _ _).symm
  obtain ⟨r, q, rfl⟩ : ∃ r q, j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (blk m hO t).val * 1024 + r.val = (BitVec.ofNat 32 (blk m hO t).val).toNat * 1024 + 1 * r.val
    have := (blk m hO t).isLt
    rw [BitVec.toNat_ofNat]; omega
  | ⟨1, _⟩ => show q.val = 0 * 1024 + 1 * q.val; omega

/-- Row `i 0` lies in the block whose number is its quotient by the block's height. -/
theorem block_holds (t : Fin grid0.N) (i : S589824x1024.Idx) (h : (grid0.coords t 0).val = (i 0).val / 1024) :
    ∀ a, cc0_transform_3 (grid0.coords t) a * S1024x1024.size a ≤ (i a).val ∧ (i a).val < cc0_transform_3 (grid0.coords t) a * S1024x1024.size a + S1024x1024.size a := by
  have h1 := (i 1).isLt
  have h0 := (grid0.coords t 0).isLt
  intro a
  match a with
  | ⟨0, _⟩ =>
    show (BitVec.ofNat 32 (grid0.coords t 0).val).toNat * 1024 ≤ (i 0).val ∧ (i 0).val < (BitVec.ofNat 32 (grid0.coords t 0).val).toNat * 1024 + 1024
    have : (BitVec.ofNat 32 (grid0.coords t 0).val).toNat = (grid0.coords t 0).val := by
      rw [BitVec.toNat_ofNat]; have : (grid0.coords t 0).val < 576 := h0; omega
    rw [this, h]; omega
  | ⟨1, _⟩ =>
    show 0 * 1024 ≤ (i 1).val ∧ (i 1).val < 0 * 1024 + 1024
    have : (i 1).val < 1024 := h1
    omega

/-- Every block number is a grid point's. -/
theorem point_of (k : Fin 576) : ∃ t : Fin grid0.N, (grid0.coords t 0).val = k.val := by
  obtain ⟨t, ht⟩ := Pipeline.Grid.coords_surjective grid0 (fun a => match a with | ⟨0, _⟩ => k)
  exact ⟨t, congrArg Fin.val (congrFun ht 0)⟩

include hN in
theorem final (hO : InRange m) (c : Dev nD) : (dats m hO 0 c).arrAt 3 (cfgT m hO).N = result m c :=
  (dats m hO 0 c).arrAt_eq_of_cover 3 (result m c) (fun t _ => flushed_eq m hO c t _ (left_apply m hN hO c t)) fun (i : S589824x1024.Idx) => by
    obtain ⟨t, ht⟩ := point_of ⟨(i 0).val / 1024, by have : (i 0).val < 589824 := (i 0).isLt; omega⟩
    refine ⟨t, flush_out (admitted m hO) t, ?_⟩
    show i ∈ ((View.whole main_v2).slice (((cfgT m hO).win 3).rect t)).set
    refine (congrArg (i ∈ ·) (View.set_slice_whole (b := main_v2) _)).mpr ?_
    exact (Rect.mem_set_unit).mpr (block_holds t i ht)

end Cert.Experts

end
-- ==== Proof.ExpertsSame.lean ====
/- The kernel and its idealization are the same program text (no rewrite was made): so one run serves both. -/
module

public import proofs.«01_k».proof.Defs
public import proofs.«01_k».proof.Proof.Gen.Kernel
public import proofs.«01_k».proof.Proof.Gen.KernelIdeal

@[expose] public section

set_option maxRecDepth 16384

noncomputable section

namespace Cert.Experts

open Idealize.ShloMosaic Idealize.SL.Sem

attribute [local instance] Cert.Kernel.Gen.facts Cert.KernelIdeal.Gen.facts

variable {F : FTy → Type} [FloatOps F]

theorem same_body (i a1 h1 a2 h2 a3 h3 a4 h4 a5 h5 a6 h6) :
    Cert.Kernel.cc0_expert_ffn (F := F) i a1 h1 a2 h2 a3 h3 a4 h4 a5 h5 a6 h6
      = Cert.KernelIdeal.cc0_expert_ffn i a1 h1 a2 h2 a3 h3 a4 h4 a5 h5 a6 h6 := by
  unfold Cert.Kernel.cc0_expert_ffn Cert.KernelIdeal.cc0_expert_ffn
  rfl

theorem same_bodies : (Cert.Kernel.defs₀ (F := F)) = Cert.KernelIdeal.defs₀ (F := F) := by
  unfold Cert.Kernel.defs₀ Cert.KernelIdeal.defs₀
  refine congrArg Defs.onTc ?_
  funext l x
  match l, x with
  | 0, (t, s) => exact same_body ..

theorem same_defs : (Cert.Kernel.defs (F := F)) = Cert.KernelIdeal.defs (F := F) := by
  unfold Cert.Kernel.defs Cert.KernelIdeal.defs
  exact congrArg (Pipeline.defs (Cert.KernelIdeal.pcfgs (F := F))) same_bodies

theorem same_main : (Cert.Kernel.main (F := F)) = Cert.KernelIdeal.main (F := F) := rfl

/-- A run of one is a run of the other. -/
theorem same_run (s : MemSt Cert.KernelIdeal.nD Cert.KernelIdeal.τ Cert.KernelIdeal.sig (Elt F)) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [same_defs, same_main]
  exact h

end Cert.Experts

end
-- ==== Proof.ExpertsClaims.lean ====
/- The claims about the routed experts: both frames from the one run, and the value claim. -/
module

public import proofs.«01_k».proof.Defs
public import proofs.«01_k».proof.Proof.ExpertsValue
public import proofs.«01_k».proof.Proof.ExpertsSame
public import proofs.«01_k».proof.Proof.Gen.Kernel
public import Idealize.ShloMosaic.Lib.Quiescent

@[expose] public section

set_option maxRecDepth 16384

noncomputable section

namespace Cert.Experts

open Idealize.ShloMosaic Idealize.ShloMosaic.TcCoe Idealize.SL.Sem
open Cert.KernelIdeal

attribute [local instance] Cert.Kernel.Gen.facts Cert.KernelIdeal.Gen.facts Cert.ReferenceIdeal.Gen.facts Cert.Pre_blocks_named.Gen.facts

theorem named_entry {F : FTy → Type} [FloatOps F] (m : (ℓ : Loc nD τ sig) → Buf (Elt F) ℓ)
    (h : Cert.Pre_blocks_named.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4)) = fun _ => 1#1) :
    Named (be m) (nu m) := by
  have := named_of_pre _ _ _ _ _ h
  unfold be nu
  rw [tables_0, tables_1]
  exact this

theorem named_ideal (m : (ℓ : Loc nD τ sig) → Buf (Elt Ideal) ℓ) (h : Cert.Pre_KernelIdeal m) : Named (be m) (nu m) := named_entry m (h 0)

/-- The frame over any floats, for either program. -/
theorem frame_any {F : FTy → Type} [FloatOps F] (m : (ℓ : Loc nD τ sig) → Buf (Elt F) ℓ) (ρ : Dev nD → PrngReg) (hN : Named (be m) (nu m)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_arrays m ρ (inRange_of_named m hN))

theorem frame_ideal : Cert.quiescent_KernelIdeal := fun m ρ h => frame_any m ρ (named_ideal m h)

theorem frame_bits : Cert.quiescent_Kernel := fun m ρ h =>
  same_run (F := Bits) _ _ (frame_any (F := Bits) m ρ (named_entry (F := Bits) m (h 0)))

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

theorem frame_reference_named : Cert.quiescent_ReferenceIdeal_pre_blocks_named := fun m ρ _ => frame_reference m ρ trivial

/-- On the tables the precondition admits, the kernel's result over the reals is the reference's. -/
theorem value : Cert.algebraic_KernelIdeal_ReferenceIdeal := fun m ρ m' ρ' hpre hargs => by
  have hN := named_ideal m hpre
  refine ⟨fun c => result m c, ?_, ?_⟩
  · exact (θ_run defs _ _).mono (fun _ h c => ⟨((h.1 c).1).trans (final m hN _ c), (h.1 c).2⟩) (run_arrays m ρ (inRange_of_named m hN))
  · refine (θ_run Cert.ReferenceIdeal.defs _ _).mono (fun r h c => ⟨(h c).1.trans ?_, (h c).2⟩) (Cert.ReferenceIdeal.Value.run m' ρ')
    obtain ⟨h0, h1, h2, h3, h4⟩ := hargs c
    rw [Cert.ReferenceIdeal.Read.val_main_v34_eq, h0, h1, h2, h3, h4]
    obtain rfl : c = 0 := Subsingleton.elim _ _
    unfold result be nu
    rw [tables_0, tables_1]

end Cert.Experts

end
-- ==== Proof.InProjMath.lean ====
/- The input projection in plain terms: one element of the product, and the rotary embedding of a head. -/
module

public import proofs.«01_k».proof.Proof.Gen.Kernel2Ideal.Value
public import Idealize.ShloMosaic.Lib.Pointwise
public import Idealize.ShloMosaic.Lib.Tactic

@[expose] public section

set_option maxRecDepth 16384
set_option maxHeartbeats 4000000

noncomputable section

namespace Cert.InProj

open Idealize.ShloMosaic Idealize.ShloMosaic.TcCoe
open Cert.Kernel2Ideal

/-- The weight at row `k`, column `n`; zero past the last column. -/
def wAt (w : Vec Ideal S1024x6788 .f32) (k : Fin 1024) (n : Nat) : EReal := if h : n < 6788 then w (ix2 k ⟨n, h⟩) else 0

theorem wAt_eq (w : Vec Ideal S1024x6788 .f32) (k : Fin 1024) (n : Fin 6788) : w (ix2 k n) = wAt w k n.val := by
  unfold wAt; rw [dif_pos n.isLt]

/-- Token `t` of the batch, as a row of the input. -/
def xAt (x : Vec Ideal S16x4096x1024 .f32) (t : Fin 65536) (k : Fin 1024) : EReal :=
  x (ix3 ⟨t.val / 4096, by omega⟩ ⟨t.val % 4096, Nat.mod_lt _ (by decide)⟩ k)

/-- One element of the product: token `t` with weight column `n`. -/
def proj (x : Vec Ideal S16x4096x1024 .f32) (w : Vec Ideal S1024x6788 .f32) (t : Fin 65536) (n : Nat) : EReal :=
  ∑ k : Fin 1024, xAt x t k * wAt w k n

/-- Entry `n` of the position's row of a table with eight frequencies. -/
def at8 (T : Vec Ideal S4096x8 .f32) (s : Fin 4096) (n : Nat) : EReal := if h : n < 8 then T (ix2 s ⟨n, h⟩) else 0

theorem at8_eq (T : Vec Ideal S4096x8 .f32) (s : Fin 4096) (n : Fin 8) : T (ix2 s n) = at8 T s n.val := by
  unfold at8; rw [dif_pos n.isLt]

/-- Entry `n` of the position's row of a table with four frequencies. -/
def at4 (T : Vec Ideal S4096x4 .f32) (s : Fin 4096) (n : Nat) : EReal := if h : n < 4 then T (ix2 s ⟨n, h⟩) else 0

theorem at4_eq (T : Vec Ideal S4096x4 .f32) (s : Fin 4096) (n : Fin 4) : T (ix2 s n) = at4 T s n.val := by
  unfold at4; rw [dif_pos n.isLt]

/-- The rotary embedding at column `q` of heads `len` wide whose columns start at `b`: the first `half` columns of a head are
    turned with the next `half`, the rest pass. -/
def turn (Y C S : Nat → EReal) (half len b q : Nat) : EReal :=
  if q % len < half then Y (b + q) * C (q % len) - Y (b + (q + half)) * S (q % len)
  else if q % len - half < half then Y (b + q) * C (q % len - half) + Y (b + (q - half)) * S (q % len - half)
  else Y (b + q)

/-- The factor of the column itself, by its place in the head. -/
def tabC (C : Nat → EReal) (half d : Nat) : EReal := if d < half then C d else if d - half < half then C (d - half) else 1

/-- The factor of the column `half` after, by the place in the head. -/
def tabA (S : Nat → EReal) (half d : Nat) : EReal := if d < half then -S d else 0

/-- The factor of the column `half` before, by the place in the head. -/
def tabB (S : Nat → EReal) (half d : Nat) : EReal := if d < half then 0 else if d - half < half then S (d - half) else 0

/-- The three-term form with factors from tables is the rotary embedding: off their places the factors are one and zero. -/
theorem turn_of_tables (Y C S : Nat → EReal) (half len b q : Nat) (y0 yp ym c sa sb : EReal)
    (h0 : y0 = Y (b + q)) (hp : q % len < half → yp = Y (b + (q + half)))
    (hm : half ≤ q % len → q % len - half < half → ym = Y (b + (q - half)))
    (hc : c = tabC C half (q % len)) (ha : sa = tabA S half (q % len)) (hb : sb = tabB S half (q % len)) :
    y0 * c + yp * sa + ym * sb = turn Y C S half len b q := by
  subst h0 hc ha hb
  unfold turn tabC tabA tabB
  by_cases h : q % len < half
  · rw [if_pos h, if_pos h, if_pos h, if_pos h, hp h, mul_zero, add_zero, mul_neg, ← sub_eq_add_neg]
  · rw [if_neg h, if_neg h, if_neg h, if_neg h, mul_zero, add_zero]
    by_cases h' : q % len - half < half
    · rw [if_pos h', if_pos h', if_pos h', hm (Nat.le_of_not_lt h) h']
    · rw [if_neg h', if_neg h', if_neg h', mul_zero, add_zero, mul_one]

theorem sub_form (Y C S : Nat → EReal) {a a' b b' c c' d d' : Nat} (h1 : a = a') (h2 : b = b') (h3 : c = c') (h4 : d = d') :
    Y a * C b - Y c * S d = Y a' * C b' - Y c' * S d' := by subst h1 h2 h3 h4; rfl

theorem add_form (Y C S : Nat → EReal) {a a' b b' c c' d d' : Nat} (h1 : a = a') (h2 : b = b') (h3 : c = c') (h4 : d = d') :
    Y a * C b + Y c * S d = Y a' * C b' + Y c' * S d' := by subst h1 h2 h3 h4; rfl

end Cert.InProj
-- ==== Proof.InProjReference.lean ====
/- The reference of the input projection, read element by element. -/
module

public import proofs.«01_k».proof.Proof.InProjMath
public import proofs.«01_k».proof.Proof.Gen.Reference2Ideal.Read

@[expose] public section

set_option maxRecDepth 16384
set_option maxHeartbeats 4000000

noncomputable section

namespace Cert.InProj

open Idealize.ShloMosaic Idealize.ShloMosaic.TcCoe
open Cert.Kernel2Ideal
open Cert.Reference2Ideal.Read

variable (x : Vec Ideal S16x4096x1024 .f32) (w : Vec Ideal S1024x6788 .f32)

theorem ref_proj (t : Fin 65536) (n : Fin 6788) : val_main_v1 (F := Ideal) x w (ix2 t n) = proj x w t n.val := by
  pointwise [val_main_v1, val_main_v0]
  unfold proj xAt
  simp only [wAt_eq]

/-- The position of token `t` in its sequence. -/
abbrev pos (t : Fin 65536) : Fin 4096 := ⟨t.val % 4096, Nat.mod_lt _ (by decide)⟩

/-- The cosines and sines of the wide heads, by frequency. -/
abbrev cos8 (t : Fin 65536) : Nat → EReal := at8 (val_main_v40 (F := Ideal)) (pos t)
abbrev sin8 (t : Fin 65536) : Nat → EReal := at8 (val_main_v42 (F := Ideal)) (pos t)

/-- The cosines and sines of the narrow heads, by frequency. -/
abbrev cos4 (t : Fin 65536) : Nat → EReal := at4 (val_main_v274 (F := Ideal)) (pos t)
abbrev sin4 (t : Fin 65536) : Nat → EReal := at4 (val_main_v276 (F := Ideal)) (pos t)

/-! ## The rotated outputs -/

theorem ref_dq (t : Fin 65536) (q : Fin 512) :
    val_main_v64 (F := Ideal) x w (ix2 t q) = turn (proj x w t) (cos8 t) (sin8 t) 8 64 0 q.val := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v41, val_main_v2]
  simp only [ref_proj, at8_eq]
  have hq := q.isLt
  unfold turn
  by_cases h : q.val % 64 < 8
  · rw [dif_pos h, if_pos h]
    exact sub_form (proj x w t) (cos8 t) (sin8 t) (by omega) (by omega) (by omega) (by omega)
  · rw [dif_neg h, if_neg h]
    by_cases h' : q.val % 64 - 8 < 8
    · rw [dif_pos h', if_pos h']
      exact add_form (proj x w t) (cos8 t) (sin8 t) (by omega) (by omega) (by omega) (by omega)
    · rw [dif_neg h', if_neg h']
      exact congrArg (proj x w t) (by omega)

theorem cos_nq : val_main_v79 (F := Ideal) = val_main_v40 (F := Ideal) := rfl
theorem sin_nq : val_main_v81 (F := Ideal) = val_main_v42 (F := Ideal) := rfl

theorem ref_nq (t : Fin 65536) (q : Fin 512) :
    val_main_v103 (F := Ideal) x w (ix2 t q) = turn (proj x w t) (cos8 t) (sin8 t) 8 64 740 q.val := by
  pointwise [val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v80, val_main_v7]
  simp only [cos_nq, sin_nq, ref_proj, at8_eq]
  have hq := q.isLt
  unfold turn
  by_cases h : q.val % 64 < 8
  · rw [dif_pos h, if_pos h]
    exact sub_form (proj x w t) (cos8 t) (sin8 t) (by omega) (by omega) (by omega) (by omega)
  · rw [dif_neg h, if_neg h]
    by_cases h' : q.val % 64 - 8 < 8
    · rw [dif_pos h', if_pos h']
      exact add_form (proj x w t) (cos8 t) (sin8 t) (by omega) (by omega) (by omega) (by omega)
    · rw [dif_neg h', if_neg h']
      exact congrArg (proj x w t) (by omega)

theorem cos_krot : val_main_v118 (F := Ideal) = val_main_v40 (F := Ideal) := rfl
theorem sin_krot : val_main_v120 (F := Ideal) = val_main_v42 (F := Ideal) := rfl

theorem ref_krot (t : Fin 65536) (q : Fin 64) :
    val_main_v142 (F := Ideal) x w (ix2 t q) = turn (proj x w t) (cos8 t) (sin8 t) 8 64 512 q.val := by
  pointwise [val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v119, val_main_v3]
  simp only [cos_krot, sin_krot, ref_proj, at8_eq]
  have hq := q.isLt
  unfold turn
  simp only [Nat.mod_eq_of_lt hq]
  by_cases h : q.val < 8
  · rw [dif_pos h, if_pos h]
    exact sub_form (proj x w t) (cos8 t) (sin8 t) (by omega) (by omega) (by omega) (by omega)
  · rw [dif_neg h, if_neg h]
    by_cases h' : q.val - 8 < 8
    · rw [dif_pos h', if_pos h']
      exact add_form (proj x w t) (cos8 t) (sin8 t) (by omega) (by omega) (by omega) (by omega)
    · rw [dif_neg h', if_neg h']
      exact congrArg (proj x w t) (by omega)

theorem cos_nkc : val_main_v157 (F := Ideal) = val_main_v40 (F := Ideal) := rfl
theorem sin_nkc : val_main_v159 (F := Ideal) = val_main_v42 (F := Ideal) := rfl

theorem ref_nkc (t : Fin 65536) (q : Fin 64) :
    val_main_v181 (F := Ideal) x w (ix2 t q) = turn (proj x w t) (cos8 t) (sin8 t) 8 64 1252 q.val := by
  pointwise [val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v158, val_main_v8]
  simp only [cos_nkc, sin_nkc, ref_proj, at8_eq]
  have hq := q.isLt
  unfold turn
  simp only [Nat.mod_eq_of_lt hq]
  by_cases h : q.val < 8
  · rw [dif_pos h, if_pos h]
    exact sub_form (proj x w t) (cos8 t) (sin8 t) (by omega) (by omega) (by omega) (by omega)
  · rw [dif_neg h, if_neg h]
    by_cases h' : q.val - 8 < 8
    · rw [dif_pos h', if_pos h']
      exact add_form (proj x w t) (cos8 t) (sin8 t) (by omega) (by omega) (by omega) (by omega)
    · rw [dif_neg h', if_neg h']
      exact congrArg (proj x w t) (by omega)

theorem cos_nks : val_main_v196 (F := Ideal) = val_main_v40 (F := Ideal) := rfl
theorem sin_nks : val_main_v198 (F := Ideal) = val_main_v42 (F := Ideal) := rfl

theorem ref_nks (t : Fin 65536) (q : Fin 64) :
    val_main_v220 (F := Ideal) x w (ix2 t q) = turn (proj x w t) (cos8 t) (sin8 t) 8 64 1380 q.val := by
  pointwise [val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v197, val_main_v10]
  simp only [cos_nks, sin_nks, ref_proj, at8_eq]
  have hq := q.isLt
  unfold turn
  simp only [Nat.mod_eq_of_lt hq]
  by_cases h : q.val < 8
  · rw [dif_pos h, if_pos h]
    exact sub_form (proj x w t) (cos8 t) (sin8 t) (by omega) (by omega) (by omega) (by omega)
  · rw [dif_neg h, if_neg h]
    by_cases h' : q.val - 8 < 8
    · rw [dif_pos h', if_pos h']
      exact add_form (proj x w t) (cos8 t) (sin8 t) (by omega) (by omega) (by omega) (by omega)
    · rw [dif_neg h', if_neg h']
      exact congrArg (proj x w t) (by omega)

theorem cos_nkw : val_main_v235 (F := Ideal) = val_main_v40 (F := Ideal) := rfl
theorem sin_nkw : val_main_v237 (F := Ideal) = val_main_v42 (F := Ideal) := rfl

theorem ref_nkw (t : Fin 65536) (q : Fin 64) :
    val_main_v259 (F := Ideal) x w (ix2 t q) = turn (proj x w t) (cos8 t) (sin8 t) 8 64 1508 q.val := by
  pointwise [val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v236, val_main_v12]
  simp only [cos_nkw, sin_nkw, ref_proj, at8_eq]
  have hq := q.isLt
  unfold turn
  simp only [Nat.mod_eq_of_lt hq]
  by_cases h : q.val < 8
  · rw [dif_pos h, if_pos h]
    exact sub_form (proj x w t) (cos8 t) (sin8 t) (by omega) (by omega) (by omega) (by omega)
  · rw [dif_neg h, if_neg h]
    by_cases h' : q.val - 8 < 8
    · rw [dif_pos h', if_pos h']
      exact add_form (proj x w t) (cos8 t) (sin8 t) (by omega) (by omega) (by omega) (by omega)
    · rw [dif_neg h', if_neg h']
      exact congrArg (proj x w t) (by omega)

theorem ref_iq (t : Fin 65536) (q : Fin 128) :
    val_main_v298 (F := Ideal) x w (ix2 t q) = turn (proj x w t) (cos4 t) (sin4 t) 4 32 576 q.val := by
  pointwise [val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, val_main_v278, val_main_v277, val_main_v275, val_main_v4]
  simp only [ref_proj, at4_eq]
  have hq := q.isLt
  unfold turn
  by_cases h : q.val % 32 < 4
  · rw [dif_pos h, if_pos h]
    exact sub_form (proj x w t) (cos4 t) (sin4 t) (by omega) (by omega) (by omega) (by omega)
  · rw [dif_neg h, if_neg h]
    by_cases h' : q.val % 32 - 4 < 4
    · rw [dif_pos h', if_pos h']
      exact add_form (proj x w t) (cos4 t) (sin4 t) (by omega) (by omega) (by omega) (by omega)
    · rw [dif_neg h', if_neg h']
      exact congrArg (proj x w t) (by omega)

theorem cos_ik : val_main_v313 (F := Ideal) = val_main_v274 (F := Ideal) := rfl
theorem sin_ik : val_main_v315 (F := Ideal) = val_main_v276 (F := Ideal) := rfl

theorem ref_ik (t : Fin 65536) (q : Fin 32) :
    val_main_v337 (F := Ideal) x w (ix2 t q) = turn (proj x w t) (cos4 t) (sin4 t) 4 32 704 q.val := by
  pointwise [val_main_v337, val_main_v336, val_main_v335, val_main_v334, val_main_v333, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v314, val_main_v5]
  simp only [cos_ik, sin_ik, ref_proj, at4_eq]
  have hq := q.isLt
  unfold turn
  simp only [Nat.mod_eq_of_lt hq]
  by_cases h : q.val < 4
  · rw [dif_pos h, if_pos h]
    exact sub_form (proj x w t) (cos4 t) (sin4 t) (by omega) (by omega) (by omega) (by omega)
  · rw [dif_neg h, if_neg h]
    by_cases h' : q.val - 4 < 4
    · rw [dif_pos h', if_pos h']
      exact add_form (proj x w t) (cos4 t) (sin4 t) (by omega) (by omega) (by omega) (by omega)
    · rw [dif_neg h', if_neg h']
      exact congrArg (proj x w t) (by omega)

/-! ## The plain outputs -/

theorem ref_nvc (t : Fin 65536) (q : Fin 64) : val_main_v338 (F := Ideal) x w (ix2 t q) = proj x w t (1316 + q.val) := by
  pointwise [val_main_v338, val_main_v9]
  rw [ref_proj]

theorem ref_misc (t : Fin 65536) (q : Fin 128) :
    val_main_v21 (F := Ideal) x w (ix2 t q)
      = if q.val < 4 then proj x w t (736 + q.val) else if q.val < 8 then proj x w t (3196 + (q.val - 4))
        else if q.val < 12 then proj x w t (3200 + (q.val - 8)) else if q.val < 36 then proj x w t (1636 + (q.val - 12)) else 0 := by
  pointwise [val_main_v21, val_main_v6, val_main_v16, val_main_v17, val_main_v14, val_main_v20, val_main_cst]
  simp only [ref_proj, dite_eq_ite]
  split_ifs
  all_goals first
    | omega
    | rfl
    | exact congrArg (proj x w t) (by omega)

theorem ref_gz (t : Fin 65536) (q : Fin 512) : val_main_v18 (F := Ideal) x w (ix2 t q) = proj x w t (3204 + q.val) := by
  pointwise [val_main_v18]
  rw [ref_proj]

theorem ref_gqkv (t : Fin 65536) (q : Fin 1536) : val_main_v15 (F := Ideal) x w (ix2 t q) = proj x w t (1660 + q.val) := by
  pointwise [val_main_v15]
  rw [ref_proj]

theorem ref_vt (q : Fin 256) (t : Fin 65536) :
    val_main_v25 (F := Ideal) x w (ix2 q t)
      = if q.val < 64 then proj x w t (512 + q.val) else if q.val < 128 then proj x w t (1444 + (q.val - 64))
        else if q.val < 192 then proj x w t (1572 + (q.val - 128)) else 0 := by
  pointwise [val_main_v25, val_main_v24, val_main_v23, val_main_v3, val_main_v11, val_main_v13, val_main_v22, val_main_cst_0]
  simp only [ref_proj, dite_eq_ite]
  split_ifs
  all_goals first
    | omega
    | rfl
    | exact congrArg (proj x w t) (by omega)

theorem ref_merge (t : Fin 65536) (q : Fin 3072) :
    val_main_v344 (F := Ideal) x w (ix2 t q) = Ideal.logistic (proj x w t (3716 + q.val)) := by
  pointwise [val_main_v344, val_main_v343, val_main_v342, val_main_v341, val_main_v340, val_main_v339, val_main_v19, val_main_cst_25, val_main_cst_26]
  rw [ref_proj]
  rfl

end Cert.InProj
-- ==== Proof.InProjTables.lean ====
/- The arrays the kernel of the input projection reads: the weight columns the host gathers, and the rotary tables it lays out over
   the lanes. -/
module

public import proofs.«01_k».proof.Proof.InProjReference
public import Idealize.ShloMosaic.Lib.StableHlo.Run

@[expose] public section

set_option maxRecDepth 16384
set_option maxHeartbeats 4000000

noncomputable section

namespace Cert.InProj

open Idealize.ShloMosaic Idealize.ShloMosaic.TcCoe
open Cert.Kernel2Ideal Cert.Kernel2Ideal.Gen
open Cert.Reference2Ideal.Read (val_main_v40 val_main_v42 val_main_v274 val_main_v276)

variable (m : (ℓ : Loc nD τ sig) → Buf (Elt Ideal) ℓ)

abbrev xin (c : Dev nD) : Vec Ideal S16x4096x1024 .f32 := m ((c : Thread nD τ).loc main_arg0)
abbrev win (c : Dev nD) : Vec Ideal S1024x6788 .f32 := m ((c : Thread nD τ).loc main_arg1)

/-! ## The host's terms -/

section Weights
variable (w : Vec Ideal S1024x6788 .f32)

/-- The columns rotated in wide heads. -/
def w64 : Vec Ideal S1024x1280 .f32 :=
  concatenate S1024x1280 1 [⟨S1024x512, extractStridedSlice S1024x512 ![0, 0] w slices_S1024x6788_S1024x512_0_0⟩,
    ⟨S1024x512, extractStridedSlice S1024x512 ![0, 740] w slices_S1024x6788_S1024x512_0_740⟩,
    ⟨S1024x64, extractStridedSlice S1024x64 ![0, 512] w slices_S1024x6788_S1024x64_0_512⟩,
    ⟨S1024x64, extractStridedSlice S1024x64 ![0, 1252] w slices_S1024x6788_S1024x64_0_1252⟩,
    ⟨S1024x64, extractStridedSlice S1024x64 ![0, 1380] w slices_S1024x6788_S1024x64_0_1380⟩,
    ⟨S1024x64, extractStridedSlice S1024x64 ![0, 1508] w slices_S1024x6788_S1024x64_0_1508⟩] concatenates_S1024x512_S1024x512_S1024x64_S1024x64_S1024x64_S1024x64_S1024x1280_d1

/-- The columns rotated in narrow heads. -/
def w32 : Vec Ideal S1024x256 .f32 :=
  concatenate S1024x256 1 [⟨S1024x128, extractStridedSlice S1024x128 ![0, 576] w slices_S1024x6788_S1024x128_0_576⟩,
    ⟨S1024x32, extractStridedSlice S1024x32 ![0, 704] w slices_S1024x6788_S1024x32_0_704⟩,
    ⟨S1024x96, broadcastInDim S1024x96 ![] bcast_S_S1024x96 (constant (F := Ideal) S_ .f32 0x00000000#32)⟩] concatenates_S1024x128_S1024x32_S1024x96_S1024x256_d1

/-- The columns of the small gates. -/
def wMisc : Vec Ideal S1024x128 .f32 :=
  concatenate S1024x128 1 [⟨S1024x36, concatenate S1024x36 1 [⟨S1024x4, extractStridedSlice S1024x4 ![0, 736] w slices_S1024x6788_S1024x4_0_736⟩,
    ⟨S1024x4, extractStridedSlice S1024x4 ![0, 3196] w slices_S1024x6788_S1024x4_0_3196⟩,
    ⟨S1024x4, extractStridedSlice S1024x4 ![0, 3200] w slices_S1024x6788_S1024x4_0_3200⟩,
    ⟨S1024x24, extractStridedSlice S1024x24 ![0, 1636] w slices_S1024x6788_S1024x24_0_1636⟩] concatenates_S1024x4_S1024x4_S1024x4_S1024x24_S1024x36_d1⟩,
    ⟨S1024x92, broadcastInDim S1024x92 ![] bcast_S_S1024x92 (constant (F := Ideal) S_ .f32 0x00000000#32)⟩] concatenates_S1024x36_S1024x92_S1024x128_d1

/-- The plain columns. -/
def wPlain : Vec Ideal S1024x2304 .f32 :=
  concatenate S1024x2304 1 [⟨S1024x64, extractStridedSlice S1024x64 ![0, 1316] w slices_S1024x6788_S1024x64_0_1316⟩,
    ⟨S1024x64, broadcastInDim S1024x64 ![] bcast_S_S1024x64 (constant (F := Ideal) S_ .f32 0x00000000#32)⟩,
    ⟨S1024x128, wMisc w⟩,
    ⟨S1024x512, extractStridedSlice S1024x512 ![0, 3204] w slices_S1024x6788_S1024x512_0_3204⟩,
    ⟨S1024x1536, extractStridedSlice S1024x1536 ![0, 1660] w slices_S1024x6788_S1024x1536_0_1660⟩] concatenates_S1024x64_S1024x64_S1024x128_S1024x512_S1024x1536_S1024x2304_d1

/-- The value columns, as rows. -/
def wVt : Vec Ideal S256x1024 .f32 :=
  transpose S256x1024 [1, 0] (
  concatenate S1024x256 1 [⟨S1024x64, extractStridedSlice S1024x64 ![0, 512] w slices_S1024x6788_S1024x64_0_512⟩,
    ⟨S1024x64, extractStridedSlice S1024x64 ![0, 1444] w slices_S1024x6788_S1024x64_0_1444⟩,
    ⟨S1024x64, extractStridedSlice S1024x64 ![0, 1572] w slices_S1024x6788_S1024x64_0_1572⟩,
    ⟨S1024x64, broadcastInDim S1024x64 ![] bcast_S_S1024x64 (constant (F := Ideal) S_ .f32 0x00000000#32)⟩] concatenates_S1024x64_S1024x64_S1024x64_S1024x64_S1024x256_d1 : Vec Ideal S1024x256 .f32) transposes_S1024x256_S256x1024_1_0

/-- The merge gate's columns. -/
def wMerge : Vec Ideal S1024x3072 .f32 := extractStridedSlice S1024x3072 ![0, 3716] w slices_S1024x6788_S1024x3072_0_3716

/-- Where column `n` of the wide heads' weights comes from. -/
def col64 (n : Nat) : Nat :=
  if n < 512 then n else if n < 1024 then 740 + (n - 512) else if n < 1088 then 512 + (n - 1024)
  else if n < 1152 then 1252 + (n - 1088) else if n < 1216 then 1380 + (n - 1152) else 1508 + (n - 1216)

theorem w64_apply (k : Fin 1024) (n : Fin 1280) : w64 w (ix2 k n) = wAt w k (col64 n.val) := by
  pointwise [w64]
  simp only [wAt_eq]
  unfold col64
  have hn := n.isLt
  split_ifs
  all_goals first
    | omega
    | exact congrArg (wAt w k) (by omega)

theorem w32_apply (k : Fin 1024) (n : Fin 256) (h : n.val < 160) : w32 w (ix2 k n) = wAt w k (576 + n.val) := by
  pointwise [w32]
  simp only [wAt_eq]
  have hn := n.isLt
  split_ifs
  all_goals first
    | omega
    | exact congrArg (wAt w k) (by omega)

theorem w32_zero (k : Fin 1024) (n : Fin 256) (h : ¬ n.val < 160) : w32 w (ix2 k n) = 0 := by
  pointwise [w32]
  rw [dif_neg (by omega), dif_neg (by omega)]

theorem wMisc_apply (k : Fin 1024) (n : Fin 128) :
    wMisc w (ix2 k n) = if n.val < 4 then wAt w k (736 + n.val) else if n.val < 8 then wAt w k (3196 + (n.val - 4))
      else if n.val < 12 then wAt w k (3200 + (n.val - 8)) else if n.val < 36 then wAt w k (1636 + (n.val - 12)) else 0 := by
  pointwise [wMisc]
  simp only [wAt_eq]
  have hn := n.isLt
  split_ifs
  all_goals first
    | omega
    | rfl
    | exact congrArg (wAt w k) (by omega)

theorem wPlain_nvc (k : Fin 1024) (n : Fin 2304) (h : n.val < 64) : wPlain w (ix2 k n) = wAt w k (1316 + n.val) := by
  pointwise [wPlain]
  exact (dif_pos h).trans (wAt_eq w _ _)

theorem wPlain_misc (k : Fin 1024) (n : Fin 128) : wPlain w (ix2 k ⟨128 + n.val, by omega⟩) = wMisc w (ix2 k n) := by
  pointwise [wPlain]
  rw [dif_neg (by omega), dif_neg (by omega), dif_pos (by omega)]
  exact congrArg (fun i => wMisc w (ix2 k i)) (Fin.ext (by show 128 + n.val - 64 - 64 = n.val; omega))

theorem wPlain_gz (k : Fin 1024) (n : Fin 512) : wPlain w (ix2 k ⟨256 + n.val, by omega⟩) = wAt w k (3204 + n.val) := by
  pointwise [wPlain]
  rw [dif_neg (by omega), dif_neg (by omega), dif_neg (by omega), dif_pos (by omega)]
  exact (wAt_eq w _ _).trans (congrArg (wAt w k) (by show 3204 + (256 + n.val - 64 - 64 - 128) = _; omega))

theorem wPlain_gqkv (k : Fin 1024) (n : Fin 1536) : wPlain w (ix2 k ⟨768 + n.val, by omega⟩) = wAt w k (1660 + n.val) := by
  pointwise [wPlain]
  rw [dif_neg (by omega), dif_neg (by omega), dif_neg (by omega), dif_neg (by omega)]
  exact (wAt_eq w _ _).trans (congrArg (wAt w k) (by show 1660 + (768 + n.val - 64 - 64 - 128 - 512) = _; omega))

theorem wVt_apply (n : Fin 256) (k : Fin 1024) :
    wVt w (ix2 n k) = if n.val < 64 then wAt w k (512 + n.val) else if n.val < 128 then wAt w k (1444 + (n.val - 64))
      else if n.val < 192 then wAt w k (1572 + (n.val - 128)) else 0 := by
  pointwise [wVt]
  simp only [wAt_eq]
  have hn := n.isLt
  split_ifs
  all_goals first
    | omega
    | rfl
    | exact congrArg (wAt w k) (by omega)

theorem wMerge_apply (k : Fin 1024) (n : Fin 3072) : wMerge w (ix2 k n) = wAt w k (3716 + n.val) := by
  pointwise [wMerge]
  exact wAt_eq w _ _

end Weights

/-! ## The tables of heads 64 wide -/

/-- The table of one head repeated over the lanes. -/
def spread64 (t : Vec Ideal S4096x64 .f32) : Vec Ideal S4096x128 .f32 :=
  shapeCast _ (broadcastInDim S1x4096x2x64 ![0, 1, 2, 3] bcast_S1x4096x1x64_S1x4096x2x64_0_1_2_3
    (shapeCast _ t shapeCasts_S4096x64_S1x4096x1x64 : Vec Ideal S1x4096x1x64 .f32)) shapeCasts_S1x4096x2x64_S4096x128

/-- The factor of the column itself. -/
def tC64 (t : Vec Ideal S4096x8 .f32) : Vec Ideal S4096x64 .f32 :=
  concatenate S4096x64 1 [⟨S4096x8, t⟩,
    ⟨S4096x8, t⟩,
    ⟨S4096x48, broadcastInDim S4096x48 ![] bcast_S_S4096x48 (constant (F := Ideal) S_ .f32 0x3F800000#32)⟩] concatenates_S4096x8_S4096x8_S4096x48_S4096x64_d1

/-- The factor of the later column. -/
def tA64 (t : Vec Ideal S4096x8 .f32) : Vec Ideal S4096x64 .f32 :=
  concatenate S4096x64 1 [⟨S4096x8, (Host.negf t : FVec Ideal S4096x8 .f32)⟩,
    ⟨S4096x56, broadcastInDim S4096x56 ![] bcast_S_S4096x56 (constant (F := Ideal) S_ .f32 0x00000000#32)⟩] concatenates_S4096x8_S4096x56_S4096x64_d1

/-- The factor of the earlier column. -/
def tB64 (t : Vec Ideal S4096x8 .f32) : Vec Ideal S4096x64 .f32 :=
  concatenate S4096x64 1 [⟨S4096x8, broadcastInDim S4096x8 ![] bcast_S_S4096x8 (constant (F := Ideal) S_ .f32 0x00000000#32)⟩,
    ⟨S4096x8, t⟩,
    ⟨S4096x48, broadcastInDim S4096x48 ![] bcast_S_S4096x48 (constant (F := Ideal) S_ .f32 0x00000000#32)⟩] concatenates_S4096x8_S4096x8_S4096x48_S4096x64_d1

theorem tC64_apply (t : Vec Ideal S4096x8 .f32) (s : Fin 4096) (l : Fin 128) :
    spread64 (tC64 t) (ix2 s l) = tabC (at8 t s) 8 (l.val % 64) := by
  pointwise [spread64, tC64]
  simp only [at8_eq]
  unfold tabC
  split_ifs
  all_goals first
    | omega
    | rfl

theorem tA64_apply (t : Vec Ideal S4096x8 .f32) (s : Fin 4096) (l : Fin 128) :
    spread64 (tA64 t) (ix2 s l) = tabA (at8 t s) 8 (l.val % 64) := by
  pointwise [spread64, tA64]
  simp only [at8_eq]
  unfold tabA
  split_ifs
  all_goals first
    | omega
    | rfl

theorem tB64_apply (t : Vec Ideal S4096x8 .f32) (s : Fin 4096) (l : Fin 128) :
    spread64 (tB64 t) (ix2 s l) = tabB (at8 t s) 8 (l.val % 64) := by
  pointwise [spread64, tB64]
  simp only [at8_eq]
  unfold tabB
  split_ifs
  all_goals first
    | omega
    | rfl

/-! ## The tables of heads 32 wide -/

/-- The table of one head repeated over the lanes. -/
def spread32 (t : Vec Ideal S4096x32 .f32) : Vec Ideal S4096x128 .f32 :=
  shapeCast _ (broadcastInDim S1x4096x4x32 ![0, 1, 2, 3] bcast_S1x4096x1x32_S1x4096x4x32_0_1_2_3
    (shapeCast _ t shapeCasts_S4096x32_S1x4096x1x32 : Vec Ideal S1x4096x1x32 .f32)) shapeCasts_S1x4096x4x32_S4096x128

/-- The factor of the column itself. -/
def tC32 (t : Vec Ideal S4096x4 .f32) : Vec Ideal S4096x32 .f32 :=
  concatenate S4096x32 1 [⟨S4096x4, t⟩,
    ⟨S4096x4, t⟩,
    ⟨S4096x24, broadcastInDim S4096x24 ![] bcast_S_S4096x24 (constant (F := Ideal) S_ .f32 0x3F800000#32)⟩] concatenates_S4096x4_S4096x4_S4096x24_S4096x32_d1

/-- The factor of the later column. -/
def tA32 (t : Vec Ideal S4096x4 .f32) : Vec Ideal S4096x32 .f32 :=
  concatenate S4096x32 1 [⟨S4096x4, (Host.negf t : FVec Ideal S4096x4 .f32)⟩,
    ⟨S4096x28, broadcastInDim S4096x28 ![] bcast_S_S4096x28 (constant (F := Ideal) S_ .f32 0x00000000#32)⟩] concatenates_S4096x4_S4096x28_S4096x32_d1

/-- The factor of the earlier column. -/
def tB32 (t : Vec Ideal S4096x4 .f32) : Vec Ideal S4096x32 .f32 :=
  concatenate S4096x32 1 [⟨S4096x4, broadcastInDim S4096x4 ![] bcast_S_S4096x4 (constant (F := Ideal) S_ .f32 0x00000000#32)⟩,
    ⟨S4096x4, t⟩,
    ⟨S4096x24, broadcastInDim S4096x24 ![] bcast_S_S4096x24 (constant (F := Ideal) S_ .f32 0x00000000#32)⟩] concatenates_S4096x4_S4096x4_S4096x24_S4096x32_d1

theorem tC32_apply (t : Vec Ideal S4096x4 .f32) (s : Fin 4096) (l : Fin 128) :
    spread32 (tC32 t) (ix2 s l) = tabC (at4 t s) 4 (l.val % 32) := by
  pointwise [spread32, tC32]
  simp only [at4_eq]
  unfold tabC
  split_ifs
  all_goals first
    | omega
    | rfl

theorem tA32_apply (t : Vec Ideal S4096x4 .f32) (s : Fin 4096) (l : Fin 128) :
    spread32 (tA32 t) (ix2 s l) = tabA (at4 t s) 4 (l.val % 32) := by
  pointwise [spread32, tA32]
  simp only [at4_eq]
  unfold tabA
  split_ifs
  all_goals first
    | omega
    | rfl

theorem tB32_apply (t : Vec Ideal S4096x4 .f32) (s : Fin 4096) (l : Fin 128) :
    spread32 (tB32 t) (ix2 s l) = tabB (at4 t s) 4 (l.val % 32) := by
  pointwise [spread32, tB32]
  simp only [at4_eq]
  unfold tabB
  split_ifs
  all_goals first
    | omega
    | rfl

end Cert.InProj
-- ==== Proof.InProjEntry.lean ====
/- The arrays the kernel of the input projection reads: the weight columns the host gathers, and the rotary tables it lays out over
   the lanes. -/
module

public import proofs.«01_k».proof.Proof.InProjTables
public import Idealize.ShloMosaic.Lib.StableHlo.Run

@[expose] public section

set_option maxRecDepth 16384
set_option maxHeartbeats 4000000

noncomputable section

namespace Cert.InProj

open Idealize.ShloMosaic Idealize.ShloMosaic.TcCoe
open Cert.Kernel2Ideal Cert.Kernel2Ideal.Gen
open Cert.Reference2Ideal.Read (val_main_v40 val_main_v42 val_main_v274 val_main_v276)

variable (m : (ℓ : Loc nD τ sig) → Buf (Elt Ideal) ℓ)

theorem entry_x (c : Dev nD) : (V m c main_v66 : Vec Ideal S65536x1024 .f32) = shapeCast _ (xin m c) shapeCasts_S16x4096x1024_S65536x1024 := by
  unfold V
  simp only [hostOps0]
  after_results_simp
  rfl

theorem entry_w64 (c : Dev nD) : (V m c main_v96 : Vec Ideal S1024x1280 .bf16) = w64 (win m c) := by
  unfold V
  simp only [hostOps0]
  after_results_simp
  rfl

theorem entry_w32 (c : Dev nD) : (V m c main_v97 : Vec Ideal S1024x256 .bf16) = w32 (win m c) := by
  unfold V
  simp only [hostOps0]
  after_results_simp
  rfl

theorem entry_plain (c : Dev nD) : (V m c main_v98 : Vec Ideal S1024x2304 .bf16) = wPlain (win m c) := by
  unfold V
  simp only [hostOps0]
  after_results_simp
  rfl

theorem entry_vt (c : Dev nD) : (V m c main_v99 : Vec Ideal S256x1024 .bf16) = wVt (win m c) := by
  unfold V
  simp only [hostOps0]
  after_results_simp
  rfl

theorem entry_merge (c : Dev nD) : (V m c main_v100 : Vec Ideal S1024x3072 .bf16) = wMerge (win m c) := by
  unfold V
  simp only [hostOps0]
  after_results_simp
  rfl

end Cert.InProj
-- ==== Proof.InProjEntryTables.lean ====
/- The arrays the kernel of the input projection reads: the weight columns the host gathers, and the rotary tables it lays out over
   the lanes. -/
module

public import proofs.«01_k».proof.Proof.InProjTables
public import Idealize.ShloMosaic.Lib.StableHlo.Run

@[expose] public section

set_option maxRecDepth 16384
set_option maxHeartbeats 4000000

noncomputable section

namespace Cert.InProj

open Idealize.ShloMosaic Idealize.ShloMosaic.TcCoe
open Cert.Kernel2Ideal Cert.Kernel2Ideal.Gen
open Cert.Reference2Ideal.Read (val_main_v40 val_main_v42 val_main_v274 val_main_v276)

variable (m : (ℓ : Loc nD τ sig) → Buf (Elt Ideal) ℓ)

theorem entry_C64 (c : Dev nD) : (V m c main_v26 : Vec Ideal S4096x128 .f32) = spread64 (tC64 (val_main_v40 (F := Ideal))) := by
  unfold V
  simp only [hostOps0]
  after_results_simp
  rfl

theorem entry_A64 (c : Dev nD) : (V m c main_v29 : Vec Ideal S4096x128 .f32) = spread64 (tA64 (val_main_v42 (F := Ideal))) := by
  unfold V
  simp only [hostOps0]
  after_results_simp
  rfl

theorem entry_B64 (c : Dev nD) : (V m c main_v32 : Vec Ideal S4096x128 .f32) = spread64 (tB64 (val_main_v42 (F := Ideal))) := by
  unfold V
  simp only [hostOps0]
  after_results_simp
  rfl

theorem entry_C32 (c : Dev nD) : (V m c main_v59 : Vec Ideal S4096x128 .f32) = spread32 (tC32 (val_main_v274 (F := Ideal))) := by
  unfold V
  simp only [hostOps0]
  after_results_simp
  rfl

theorem entry_A32 (c : Dev nD) : (V m c main_v62 : Vec Ideal S4096x128 .f32) = spread32 (tA32 (val_main_v276 (F := Ideal))) := by
  unfold V
  simp only [hostOps0]
  after_results_simp
  rfl

theorem entry_B32 (c : Dev nD) : (V m c main_v65 : Vec Ideal S4096x128 .f32) = spread32 (tB32 (val_main_v276 (F := Ideal))) := by
  unfold V
  simp only [hostOps0]
  after_results_simp
  rfl

end Cert.InProj
-- ==== Proof.InProjBlocks.lean ====
/- The blocks the kernel of the input projection reads at a grid point: the rows of 512 tokens, the whole weight columns, and the
   tables at the tokens' positions. -/
module

public import proofs.«01_k».proof.Proof.InProjEntry
public import proofs.«01_k».proof.Proof.InProjEntryTables
public import proofs.«01_k».proof.Proof.InProjReference
public import Idealize.ShloMosaic.Lib.Pipeline.Value
public import Idealize.ShloMosaic.Lib.Pipeline.Covers
public import Idealize.ShloMosaic.Lib.StableHlo.Run
public import Idealize.ShloMosaic.Lib.Tactic

@[expose] public section

set_option maxRecDepth 16384
set_option maxHeartbeats 4000000

noncomputable section

namespace Cert.InProj

open Idealize.ShloMosaic Idealize.ShloMosaic.TcCoe
open Cert.Kernel2Ideal Cert.Kernel2Ideal.Gen
open Cert.Reference2Ideal.Read (val_main_v40 val_main_v42 val_main_v274 val_main_v276)

variable (m : (ℓ : Loc nD τ sig) → Buf (Elt Ideal) ℓ)

/-- The grid point's block of tokens. -/
abbrev pt (t : Fin cfg0.N) : Fin 128 := grid0.coords t 0

/-- Row `r` of the block's token. -/
abbrev tok (t : Fin cfg0.N) (r : Fin 512) : Fin 65536 := ⟨(pt t).val * 512 + r.val, by have := (pt t).isLt; omega⟩

/-- Every block of tokens is a grid point's. -/
theorem point_of (k : Fin 128) : ∃ t : Fin cfg0.N, (pt t).val = k.val := by
  obtain ⟨t, ht⟩ := Pipeline.Grid.coords_surjective grid0 (fun a => match a with | ⟨0, _⟩ => k)
  exact ⟨t, congrArg Fin.val (congrFun ht 0)⟩

theorem word_of (n : Fin 128) : (BitVec.ofNat 32 n.val).toNat = n.val := by
  rw [BitVec.toNat_ofNat]; have := n.isLt; omega

theorem flat_x (x : Vec Ideal S16x4096x1024 .f32) (t : Fin 65536) (k : Fin 1024) :
    (shapeCast _ x shapeCasts_S16x4096x1024_S65536x1024 : Vec Ideal S65536x1024 .f32) (ix2 t k) = xAt x t k := by
  pointwise []
  unfold xAt
  rfl

theorem read_x (c : Dev nD) (t : Fin cfg0.N) (r : Fin 512) (k : Fin 1024) :
    (iblk m c 0 t : Vec Ideal S512x1024 .f32) (ix2 r k) = xAt (xin m c) (tok t r) k := by
  unfold iblk
  refine (View.read_apply (Val := Elt Ideal) _ _).trans ?_
  show (V m c main_v66 : Vec Ideal S65536x1024 .f32) _ = _
  rw [entry_x, ← flat_x]
  congr 1
  funext a
  apply Fin.ext
  match a with
  | ⟨0, _⟩ =>
    show (BitVec.ofNat 32 (pt t).val).toNat * 512 + 1 * r.val = (pt t).val * 512 + r.val
    rw [word_of, Nat.one_mul]
  | ⟨1, _⟩ => show 0 * 1024 + 1 * k.val = k.val; omega

theorem read_w64 (c : Dev nD) (t : Fin cfg0.N) : (iblk m c 1 t : Vec Ideal S1024x1280 .bf16) = w64 (win m c) := by
  funext j
  unfold iblk
  refine (View.read_apply (Val := Elt Ideal) _ _).trans ?_
  show (V m c main_v96 : Vec Ideal S1024x1280 .bf16) _ = _
  rw [entry_w64]
  congr 1
  funext a
  apply Fin.ext
  match a with
  | ⟨0, _⟩ => show 0 * 1024 + 1 * (j 0).val = (j 0).val; omega
  | ⟨1, _⟩ => show 0 * 1280 + 1 * (j 1).val = (j 1).val; omega

theorem read_w32 (c : Dev nD) (t : Fin cfg0.N) : (iblk m c 2 t : Vec Ideal S1024x256 .bf16) = w32 (win m c) := by
  funext j
  unfold iblk
  refine (View.read_apply (Val := Elt Ideal) _ _).trans ?_
  show (V m c main_v97 : Vec Ideal S1024x256 .bf16) _ = _
  rw [entry_w32]
  congr 1
  funext a
  apply Fin.ext
  match a with
  | ⟨0, _⟩ => show 0 * 1024 + 1 * (j 0).val = (j 0).val; omega
  | ⟨1, _⟩ => show 0 * 256 + 1 * (j 1).val = (j 1).val; omega

theorem read_wPlain (c : Dev nD) (t : Fin cfg0.N) : (iblk m c 3 t : Vec Ideal S1024x2304 .bf16) = wPlain (win m c) := by
  funext j
  unfold iblk
  refine (View.read_apply (Val := Elt Ideal) _ _).trans ?_
  show (V m c main_v98 : Vec Ideal S1024x2304 .bf16) _ = _
  rw [entry_plain]
  congr 1
  funext a
  apply Fin.ext
  match a with
  | ⟨0, _⟩ => show 0 * 1024 + 1 * (j 0).val = (j 0).val; omega
  | ⟨1, _⟩ => show 0 * 2304 + 1 * (j 1).val = (j 1).val; omega

theorem read_wVt (c : Dev nD) (t : Fin cfg0.N) : (iblk m c 4 t : Vec Ideal S256x1024 .bf16) = wVt (win m c) := by
  funext j
  unfold iblk
  refine (View.read_apply (Val := Elt Ideal) _ _).trans ?_
  show (V m c main_v99 : Vec Ideal S256x1024 .bf16) _ = _
  rw [entry_vt]
  congr 1
  funext a
  apply Fin.ext
  match a with
  | ⟨0, _⟩ => show 0 * 256 + 1 * (j 0).val = (j 0).val; omega
  | ⟨1, _⟩ => show 0 * 1024 + 1 * (j 1).val = (j 1).val; omega

theorem read_wMerge (c : Dev nD) (t : Fin cfg0.N) : (iblk m c 5 t : Vec Ideal S1024x3072 .bf16) = wMerge (win m c) := by
  funext j
  unfold iblk
  refine (View.read_apply (Val := Elt Ideal) _ _).trans ?_
  show (V m c main_v100 : Vec Ideal S1024x3072 .bf16) _ = _
  rw [entry_merge]
  congr 1
  funext a
  apply Fin.ext
  match a with
  | ⟨0, _⟩ => show 0 * 1024 + 1 * (j 0).val = (j 0).val; omega
  | ⟨1, _⟩ => show 0 * 3072 + 1 * (j 1).val = (j 1).val; omega

/-! ## The tables -/

theorem block_C64 (i : grid0.Coords) : cc0_transform_6 i 0 = (i 0).val % 8 :=
  (by decide +kernel : ∀ n : Fin 128, cc0_transform_6 (fun a => match a with | ⟨0, _⟩ => n) 0 = n.val % 8) (i 0)

theorem read_C64 (c : Dev nD) (t : Fin cfg0.N) (r : Fin 512) (l : Fin 128) :
    (iblk m c 6 t : Vec Ideal S512x128 .f32) (ix2 r l) = tabC (cos8 (tok t r)) 8 (l.val % 64) := by
  unfold iblk
  refine (View.read_apply (Val := Elt Ideal) _ _).trans ?_
  show (V m c main_v26 : Vec Ideal S4096x128 .f32) _ = _
  rw [entry_C64, ← tC64_apply]
  congr 1
  funext a
  apply Fin.ext
  match a with
  | ⟨0, _⟩ =>
    show cc0_transform_6 (grid0.coords t) 0 * 512 + 1 * r.val = ((pt t).val * 512 + r.val) % 4096
    rw [block_C64]
    have := (pt t).isLt
    show (pt t).val % 8 * 512 + 1 * r.val = _
    omega
  | ⟨1, _⟩ => show 0 * 128 + 1 * l.val = l.val; omega

theorem block_A64 (i : grid0.Coords) : cc0_transform_7 i 0 = (i 0).val % 8 :=
  (by decide +kernel : ∀ n : Fin 128, cc0_transform_7 (fun a => match a with | ⟨0, _⟩ => n) 0 = n.val % 8) (i 0)

theorem read_A64 (c : Dev nD) (t : Fin cfg0.N) (r : Fin 512) (l : Fin 128) :
    (iblk m c 7 t : Vec Ideal S512x128 .f32) (ix2 r l) = tabA (sin8 (tok t r)) 8 (l.val % 64) := by
  unfold iblk
  refine (View.read_apply (Val := Elt Ideal) _ _).trans ?_
  show (V m c main_v29 : Vec Ideal S4096x128 .f32) _ = _
  rw [entry_A64, ← tA64_apply]
  congr 1
  funext a
  apply Fin.ext
  match a with
  | ⟨0, _⟩ =>
    show cc0_transform_7 (grid0.coords t) 0 * 512 + 1 * r.val = ((pt t).val * 512 + r.val) % 4096
    rw [block_A64]
    have := (pt t).isLt
    show (pt t).val % 8 * 512 + 1 * r.val = _
    omega
  | ⟨1, _⟩ => show 0 * 128 + 1 * l.val = l.val; omega

theorem block_B64 (i : grid0.Coords) : cc0_transform_8 i 0 = (i 0).val % 8 :=
  (by decide +kernel : ∀ n : Fin 128, cc0_transform_8 (fun a => match a with | ⟨0, _⟩ => n) 0 = n.val % 8) (i 0)

theorem read_B64 (c : Dev nD) (t : Fin cfg0.N) (r : Fin 512) (l : Fin 128) :
    (iblk m c 8 t : Vec Ideal S512x128 .f32) (ix2 r l) = tabB (sin8 (tok t r)) 8 (l.val % 64) := by
  unfold iblk
  refine (View.read_apply (Val := Elt Ideal) _ _).trans ?_
  show (V m c main_v32 : Vec Ideal S4096x128 .f32) _ = _
  rw [entry_B64, ← tB64_apply]
  congr 1
  funext a
  apply Fin.ext
  match a with
  | ⟨0, _⟩ =>
    show cc0_transform_8 (grid0.coords t) 0 * 512 + 1 * r.val = ((pt t).val * 512 + r.val) % 4096
    rw [block_B64]
    have := (pt t).isLt
    show (pt t).val % 8 * 512 + 1 * r.val = _
    omega
  | ⟨1, _⟩ => show 0 * 128 + 1 * l.val = l.val; omega

theorem block_C32 (i : grid0.Coords) : cc0_transform_9 i 0 = (i 0).val % 8 :=
  (by decide +kernel : ∀ n : Fin 128, cc0_transform_9 (fun a => match a with | ⟨0, _⟩ => n) 0 = n.val % 8) (i 0)

theorem read_C32 (c : Dev nD) (t : Fin cfg0.N) (r : Fin 512) (l : Fin 128) :
    (iblk m c 9 t : Vec Ideal S512x128 .f32) (ix2 r l) = tabC (cos4 (tok t r)) 4 (l.val % 32) := by
  unfold iblk
  refine (View.read_apply (Val := Elt Ideal) _ _).trans ?_
  show (V m c main_v59 : Vec Ideal S4096x128 .f32) _ = _
  rw [entry_C32, ← tC32_apply]
  congr 1
  funext a
  apply Fin.ext
  match a with
  | ⟨0, _⟩ =>
    show cc0_transform_9 (grid0.coords t) 0 * 512 + 1 * r.val = ((pt t).val * 512 + r.val) % 4096
    rw [block_C32]
    have := (pt t).isLt
    show (pt t).val % 8 * 512 + 1 * r.val = _
    omega
  | ⟨1, _⟩ => show 0 * 128 + 1 * l.val = l.val; omega

theorem block_A32 (i : grid0.Coords) : cc0_transform_10 i 0 = (i 0).val % 8 :=
  (by decide +kernel : ∀ n : Fin 128, cc0_transform_10 (fun a => match a with | ⟨0, _⟩ => n) 0 = n.val % 8) (i 0)

theorem read_A32 (c : Dev nD) (t : Fin cfg0.N) (r : Fin 512) (l : Fin 128) :
    (iblk m c 10 t : Vec Ideal S512x128 .f32) (ix2 r l) = tabA (sin4 (tok t r)) 4 (l.val % 32) := by
  unfold iblk
  refine (View.read_apply (Val := Elt Ideal) _ _).trans ?_
  show (V m c main_v62 : Vec Ideal S4096x128 .f32) _ = _
  rw [entry_A32, ← tA32_apply]
  congr 1
  funext a
  apply Fin.ext
  match a with
  | ⟨0, _⟩ =>
    show cc0_transform_10 (grid0.coords t) 0 * 512 + 1 * r.val = ((pt t).val * 512 + r.val) % 4096
    rw [block_A32]
    have := (pt t).isLt
    show (pt t).val % 8 * 512 + 1 * r.val = _
    omega
  | ⟨1, _⟩ => show 0 * 128 + 1 * l.val = l.val; omega

theorem block_B32 (i : grid0.Coords) : cc0_transform_11 i 0 = (i 0).val % 8 :=
  (by decide +kernel : ∀ n : Fin 128, cc0_transform_11 (fun a => match a with | ⟨0, _⟩ => n) 0 = n.val % 8) (i 0)

theorem read_B32 (c : Dev nD) (t : Fin cfg0.N) (r : Fin 512) (l : Fin 128) :
    (iblk m c 11 t : Vec Ideal S512x128 .f32) (ix2 r l) = tabB (sin4 (tok t r)) 4 (l.val % 32) := by
  unfold iblk
  refine (View.read_apply (Val := Elt Ideal) _ _).trans ?_
  show (V m c main_v65 : Vec Ideal S4096x128 .f32) _ = _
  rw [entry_B32, ← tB32_apply]
  congr 1
  funext a
  apply Fin.ext
  match a with
  | ⟨0, _⟩ =>
    show cc0_transform_11 (grid0.coords t) 0 * 512 + 1 * r.val = ((pt t).val * 512 + r.val) % 4096
    rw [block_B32]
    have := (pt t).isLt
    show (pt t).val % 8 * 512 + 1 * r.val = _
    omega
  | ⟨1, _⟩ => show 0 * 128 + 1 * l.val = l.val; omega

end Cert.InProj
-- ==== Proof.InProjLanes.lean ====
/- The values the kernel of the input projection stores, over plain arrays: a product with a block of weight columns, three lane-shifted
   copies of it weighted by the tables where the output is rotated. -/
module

public import proofs.«01_k».proof.Proof.InProjTables

@[expose] public section

set_option maxRecDepth 16384
set_option maxHeartbeats 4000000

noncomputable section

namespace Cert.InProj

open Idealize.ShloMosaic Idealize.ShloMosaic.TcCoe
open Cert.Kernel2Ideal Cert.Kernel2Ideal.Gen

/-- The rotary embedding from lanes: a block's lanes from `lo` on hold the head columns from `b` on, and the shifted copies are read at
    the lane `half` after and `half` before. -/
theorem turn_of_lanes (Y Z C S : Nat → EReal) (half len b lo wd q : Nat) (hZ : ∀ n, n < wd → Z (lo + n) = Y (b + n)) (hq : q < wd)
    {y0 yp ym c sa sb : EReal} {i0 ip im : Nat} (e0 : y0 = Z i0) (ep : yp = Z ip) (em : ym = Z im) (h0 : i0 = lo + q)
    (hp : q % len < half → ip = lo + (q + half) ∧ q + half < wd)
    (hm : half ≤ q % len → q % len - half < half → im = lo + (q - half) ∧ q - half < wd)
    (hc : c = tabC C half (q % len)) (ha : sa = tabA S half (q % len)) (hb : sb = tabB S half (q % len)) :
    y0 * c + yp * sa + ym * sb = turn Y C S half len b q := by
  refine turn_of_tables Y C S half len b q y0 yp ym c sa sb ?_ ?_ ?_ hc ha hb
  · rw [e0, h0, hZ q hq]
  · intro h
    rw [ep, (hp h).1, hZ _ (hp h).2]
  · intro h h'
    rw [em, (hm h h').1, hZ _ (hm h h').2]

section Lanes

variable (x0 : Vec Ideal S512x1024 .f32) (r : Fin 512) (c a b : Vec Ideal S512x128 .f32) (Y Z C S : Nat → EReal)

theorem pay_dq (wb : Vec Ideal S1024x512 .bf16) (h6 : ∀ l : Fin 128, c (ix2 r l) = tabC C 8 (l.val % 64))
    (h7 : ∀ l : Fin 128, a (ix2 r l) = tabA S 8 (l.val % 64)) (h8 : ∀ l : Fin 128, b (ix2 r l) = tabB S 8 (l.val % 64))
    (hw : ∀ n : Fin 512, (∑ k, x0 (ix2 r k) * wb (ix2 k n)) = Z n.val) (B : Nat) (hZ : ∀ n, n < 512 → Z (0 + n) = Y (B + n)) (q : Fin 512) :
    k0_pay6 (F := Ideal) x0 c a b wb (ix2 r q) = turn Y C S 8 64 B q.val := by
  pointwise [k0_pay6, k0_pay2, k0_pay3, k0_pay4, k0_pay5]
  simp only [h6, h7, h8]
  have hq := q.isLt
  refine turn_of_lanes Y Z C S 8 64 B 0 512 q.val hZ hq (hw _) (hw _) (hw _) ?_ ?_ ?_ ?_ ?_ ?_
  · first | omega | rfl | (dsimp only; omega)
  · intro h; dsimp only; omega
  · intro h h'; first | omega | rfl | (dsimp only; omega)
  · split_ifs
    all_goals exact congrArg (tabC C 8) (by omega)
  · split_ifs
    all_goals exact congrArg (tabA S 8) (by omega)
  · split_ifs
    all_goals exact congrArg (tabB S 8) (by omega)

theorem pay_nq (wb : Vec Ideal S1024x512 .bf16) (h6 : ∀ l : Fin 128, c (ix2 r l) = tabC C 8 (l.val % 64))
    (h7 : ∀ l : Fin 128, a (ix2 r l) = tabA S 8 (l.val % 64)) (h8 : ∀ l : Fin 128, b (ix2 r l) = tabB S 8 (l.val % 64))
    (hw : ∀ n : Fin 512, (∑ k, x0 (ix2 r k) * wb (ix2 k n)) = Z n.val) (B : Nat) (hZ : ∀ n, n < 512 → Z (0 + n) = Y (B + n)) (q : Fin 512) :
    k0_pay7 (F := Ideal) x0 c a b wb (ix2 r q) = turn Y C S 8 64 B q.val := by
  pointwise [k0_pay7, k0_pay2, k0_pay3, k0_pay4, k0_pay5]
  simp only [h6, h7, h8]
  have hq := q.isLt
  refine turn_of_lanes Y Z C S 8 64 B 0 512 q.val hZ hq (hw _) (hw _) (hw _) ?_ ?_ ?_ ?_ ?_ ?_
  · first | omega | rfl | (dsimp only; omega)
  · intro h; dsimp only; omega
  · intro h h'; first | omega | rfl | (dsimp only; omega)
  · split_ifs
    all_goals exact congrArg (tabC C 8) (by omega)
  · split_ifs
    all_goals exact congrArg (tabA S 8) (by omega)
  · split_ifs
    all_goals exact congrArg (tabB S 8) (by omega)

theorem pay_krot (wb : Vec Ideal S1024x128 .bf16) (h6 : ∀ l : Fin 128, c (ix2 r l) = tabC C 8 (l.val % 64))
    (h7 : ∀ l : Fin 128, a (ix2 r l) = tabA S 8 (l.val % 64)) (h8 : ∀ l : Fin 128, b (ix2 r l) = tabB S 8 (l.val % 64))
    (hw : ∀ n : Fin 128, (∑ k, x0 (ix2 r k) * wb (ix2 k n)) = Z n.val) (B : Nat) (hZ : ∀ n, n < 64 → Z (0 + n) = Y (B + n)) (q : Fin 64) :
    k0_pay9 (F := Ideal) (k0_pay2 x0) (k0_pay3 c) (k0_pay4 a) (k0_pay5 b) wb (ix2 r q) = turn Y C S 8 64 B q.val := by
  pointwise [k0_pay9, k0_pay8, k0_pay2, k0_pay3, k0_pay4, k0_pay5]
  simp only [h6, h7, h8]
  have hq := q.isLt
  refine turn_of_lanes Y Z C S 8 64 B 0 64 q.val hZ hq (hw _) (hw _) (hw _) ?_ ?_ ?_ ?_ ?_ ?_
  · first | omega | rfl | (dsimp only; omega)
  · intro h; dsimp only; omega
  · intro h h'; first | omega | rfl | (dsimp only; omega)
  · exact congrArg (tabC C 8) (by first | omega | rfl | (dsimp only; omega))
  · exact congrArg (tabA S 8) (by first | omega | rfl | (dsimp only; omega))
  · exact congrArg (tabB S 8) (by first | omega | rfl | (dsimp only; omega))

theorem pay_nkc (wb : Vec Ideal S1024x128 .bf16) (h6 : ∀ l : Fin 128, c (ix2 r l) = tabC C 8 (l.val % 64))
    (h7 : ∀ l : Fin 128, a (ix2 r l) = tabA S 8 (l.val % 64)) (h8 : ∀ l : Fin 128, b (ix2 r l) = tabB S 8 (l.val % 64))
    (hw : ∀ n : Fin 128, (∑ k, x0 (ix2 r k) * wb (ix2 k n)) = Z n.val) (B : Nat) (hZ : ∀ n, n < 64 → Z (64 + n) = Y (B + n)) (q : Fin 64) :
    k0_pay10 (F := Ideal) (k0_pay2 x0) (k0_pay3 c) (k0_pay4 a) (k0_pay5 b) wb (ix2 r q) = turn Y C S 8 64 B q.val := by
  pointwise [k0_pay10, k0_pay8, k0_pay2, k0_pay3, k0_pay4, k0_pay5]
  simp only [h6, h7, h8]
  have hq := q.isLt
  refine turn_of_lanes Y Z C S 8 64 B 64 64 q.val hZ hq (hw _) (hw _) (hw _) ?_ ?_ ?_ ?_ ?_ ?_
  · first | omega | rfl | (dsimp only; omega)
  · intro h; dsimp only; omega
  · intro h h'; first | omega | rfl | (dsimp only; omega)
  · exact congrArg (tabC C 8) (by first | omega | rfl | (dsimp only; omega))
  · exact congrArg (tabA S 8) (by first | omega | rfl | (dsimp only; omega))
  · exact congrArg (tabB S 8) (by first | omega | rfl | (dsimp only; omega))

theorem pay_nks (wb : Vec Ideal S1024x128 .bf16) (h6 : ∀ l : Fin 128, c (ix2 r l) = tabC C 8 (l.val % 64))
    (h7 : ∀ l : Fin 128, a (ix2 r l) = tabA S 8 (l.val % 64)) (h8 : ∀ l : Fin 128, b (ix2 r l) = tabB S 8 (l.val % 64))
    (hw : ∀ n : Fin 128, (∑ k, x0 (ix2 r k) * wb (ix2 k n)) = Z n.val) (B : Nat) (hZ : ∀ n, n < 64 → Z (0 + n) = Y (B + n)) (q : Fin 64) :
    k0_pay12 (F := Ideal) (k0_pay2 x0) (k0_pay3 c) (k0_pay4 a) (k0_pay5 b) wb (ix2 r q) = turn Y C S 8 64 B q.val := by
  pointwise [k0_pay12, k0_pay11, k0_pay2, k0_pay3, k0_pay4, k0_pay5]
  simp only [h6, h7, h8]
  have hq := q.isLt
  refine turn_of_lanes Y Z C S 8 64 B 0 64 q.val hZ hq (hw _) (hw _) (hw _) ?_ ?_ ?_ ?_ ?_ ?_
  · first | omega | rfl | (dsimp only; omega)
  · intro h; dsimp only; omega
  · intro h h'; first | omega | rfl | (dsimp only; omega)
  · exact congrArg (tabC C 8) (by first | omega | rfl | (dsimp only; omega))
  · exact congrArg (tabA S 8) (by first | omega | rfl | (dsimp only; omega))
  · exact congrArg (tabB S 8) (by first | omega | rfl | (dsimp only; omega))

theorem pay_nkw (wb : Vec Ideal S1024x128 .bf16) (h6 : ∀ l : Fin 128, c (ix2 r l) = tabC C 8 (l.val % 64))
    (h7 : ∀ l : Fin 128, a (ix2 r l) = tabA S 8 (l.val % 64)) (h8 : ∀ l : Fin 128, b (ix2 r l) = tabB S 8 (l.val % 64))
    (hw : ∀ n : Fin 128, (∑ k, x0 (ix2 r k) * wb (ix2 k n)) = Z n.val) (B : Nat) (hZ : ∀ n, n < 64 → Z (64 + n) = Y (B + n)) (q : Fin 64) :
    k0_pay13 (F := Ideal) (k0_pay2 x0) (k0_pay3 c) (k0_pay4 a) (k0_pay5 b) wb (ix2 r q) = turn Y C S 8 64 B q.val := by
  pointwise [k0_pay13, k0_pay11, k0_pay2, k0_pay3, k0_pay4, k0_pay5]
  simp only [h6, h7, h8]
  have hq := q.isLt
  refine turn_of_lanes Y Z C S 8 64 B 64 64 q.val hZ hq (hw _) (hw _) (hw _) ?_ ?_ ?_ ?_ ?_ ?_
  · first | omega | rfl | (dsimp only; omega)
  · intro h; dsimp only; omega
  · intro h h'; first | omega | rfl | (dsimp only; omega)
  · exact congrArg (tabC C 8) (by first | omega | rfl | (dsimp only; omega))
  · exact congrArg (tabA S 8) (by first | omega | rfl | (dsimp only; omega))
  · exact congrArg (tabB S 8) (by first | omega | rfl | (dsimp only; omega))

theorem pay_iq (wb : Vec Ideal S1024x128 .bf16) (h6 : ∀ l : Fin 128, c (ix2 r l) = tabC C 4 (l.val % 32))
    (h7 : ∀ l : Fin 128, a (ix2 r l) = tabA S 4 (l.val % 32)) (h8 : ∀ l : Fin 128, b (ix2 r l) = tabB S 4 (l.val % 32))
    (hw : ∀ n : Fin 128, (∑ k, x0 (ix2 r k) * wb (ix2 k n)) = Z n.val) (B : Nat) (hZ : ∀ n, n < 128 → Z (0 + n) = Y (B + n)) (q : Fin 128) :
    k0_pay17 (F := Ideal) (k0_pay2 x0) (k0_pay14 c) a b wb (ix2 r q) = turn Y C S 4 32 B q.val := by
  pointwise [k0_pay17, k0_pay2, k0_pay14, k0_pay15, k0_pay16]
  simp only [h6, h7, h8]
  have hq := q.isLt
  refine turn_of_lanes Y Z C S 4 32 B 0 128 q.val hZ hq (hw _) (hw _) (hw _) ?_ ?_ ?_ ?_ ?_ ?_
  · first | omega | rfl | (dsimp only; omega)
  · intro h; dsimp only; omega
  · intro h h'; first | omega | rfl | (dsimp only; omega)
  · exact congrArg (tabC C 4) (by first | omega | rfl | (dsimp only; omega))
  · exact congrArg (tabA S 4) (by first | omega | rfl | (dsimp only; omega))
  · exact congrArg (tabB S 4) (by first | omega | rfl | (dsimp only; omega))

theorem pay_ik (wb : Vec Ideal S1024x128 .bf16) (h6 : ∀ l : Fin 128, c (ix2 r l) = tabC C 4 (l.val % 32))
    (h7 : ∀ l : Fin 128, a (ix2 r l) = tabA S 4 (l.val % 32)) (h8 : ∀ l : Fin 128, b (ix2 r l) = tabB S 4 (l.val % 32))
    (hw : ∀ n : Fin 128, (∑ k, x0 (ix2 r k) * wb (ix2 k n)) = Z n.val) (B : Nat) (hZ : ∀ n, n < 32 → Z (0 + n) = Y (B + n)) (q : Fin 32) :
    k0_pay18 (F := Ideal) (k0_pay2 x0) (k0_pay14 c) a b wb (ix2 r q) = turn Y C S 4 32 B q.val := by
  pointwise [k0_pay18, k0_pay2, k0_pay14, k0_pay15, k0_pay16]
  simp only [h6, h7, h8]
  have hq := q.isLt
  refine turn_of_lanes Y Z C S 4 32 B 0 32 q.val hZ hq (hw _) (hw _) (hw _) ?_ ?_ ?_ ?_ ?_ ?_
  · first | omega | rfl | (dsimp only; omega)
  · intro h; dsimp only; omega
  · intro h h'; first | omega | rfl | (dsimp only; omega)
  · exact congrArg (tabC C 4) (by first | omega | rfl | (dsimp only; omega))
  · exact congrArg (tabA S 4) (by first | omega | rfl | (dsimp only; omega))
  · exact congrArg (tabB S 4) (by first | omega | rfl | (dsimp only; omega))

theorem pay_nvc (wb : Vec Ideal S1024x128 .bf16) (q : Fin 64) :
    k0_pay19 (F := Ideal) (k0_pay2 x0) wb (ix2 r q) = ∑ k, x0 (ix2 r k) * wb (ix2 k ⟨q.val, by omega⟩) := by
  pointwise [k0_pay19, k0_pay2]

theorem pay_misc (wb : Vec Ideal S1024x128 .bf16) (q : Fin 128) :
    k0_pay20 (F := Ideal) (k0_pay2 x0) wb (ix2 r q) = ∑ k, x0 (ix2 r k) * wb (ix2 k q) := by
  pointwise [k0_pay20, k0_pay2]

theorem pay_gz (wb : Vec Ideal S1024x512 .bf16) (q : Fin 512) :
    k0_pay21 (F := Ideal) (k0_pay2 x0) wb (ix2 r q) = ∑ k, x0 (ix2 r k) * wb (ix2 k q) := by
  pointwise [k0_pay21, k0_pay2]

theorem pay_qkv0 (wb : Vec Ideal S1024x512 .bf16) (q : Fin 512) :
    k0_pay22 (F := Ideal) (k0_pay2 x0) wb (ix2 r q) = ∑ k, x0 (ix2 r k) * wb (ix2 k q) := by
  pointwise [k0_pay22, k0_pay2]

theorem pay_qkv1 (wb : Vec Ideal S1024x512 .bf16) (q : Fin 512) :
    k0_pay23 (F := Ideal) (k0_pay2 x0) wb (ix2 r q) = ∑ k, x0 (ix2 r k) * wb (ix2 k q) := by
  pointwise [k0_pay23, k0_pay2]

theorem pay_qkv2 (wb : Vec Ideal S1024x512 .bf16) (q : Fin 512) :
    k0_pay24 (F := Ideal) (k0_pay2 x0) wb (ix2 r q) = ∑ k, x0 (ix2 r k) * wb (ix2 k q) := by
  pointwise [k0_pay24, k0_pay2]

theorem pay_mg0 (wb : Vec Ideal S1024x512 .bf16) (q : Fin 512) :
    k0_pay26 (F := Ideal) (k0_pay2 x0) wb (ix2 r q) = Ideal.logistic (∑ k, x0 (ix2 r k) * wb (ix2 k q)) := by
  pointwise [k0_pay26, k0_pay2]

theorem pay_mg1 (wb : Vec Ideal S1024x512 .bf16) (q : Fin 512) :
    k0_pay27 (F := Ideal) (k0_pay2 x0) wb (ix2 r q) = Ideal.logistic (∑ k, x0 (ix2 r k) * wb (ix2 k q)) := by
  pointwise [k0_pay27, k0_pay2]

theorem pay_mg2 (wb : Vec Ideal S1024x512 .bf16) (q : Fin 512) :
    k0_pay28 (F := Ideal) (k0_pay2 x0) wb (ix2 r q) = Ideal.logistic (∑ k, x0 (ix2 r k) * wb (ix2 k q)) := by
  pointwise [k0_pay28, k0_pay2]

theorem pay_mg3 (wb : Vec Ideal S1024x512 .bf16) (q : Fin 512) :
    k0_pay29 (F := Ideal) (k0_pay2 x0) wb (ix2 r q) = Ideal.logistic (∑ k, x0 (ix2 r k) * wb (ix2 k q)) := by
  pointwise [k0_pay29, k0_pay2]

theorem pay_mg4 (wb : Vec Ideal S1024x512 .bf16) (q : Fin 512) :
    k0_pay30 (F := Ideal) (k0_pay2 x0) wb (ix2 r q) = Ideal.logistic (∑ k, x0 (ix2 r k) * wb (ix2 k q)) := by
  pointwise [k0_pay30, k0_pay2]

theorem pay_mg5 (wb : Vec Ideal S1024x512 .bf16) (q : Fin 512) :
    k0_pay1 (F := Ideal) (k0_pay2 x0) wb (ix2 r q) = Ideal.logistic (∑ k, x0 (ix2 r k) * wb (ix2 k q)) := by
  pointwise [k0_pay1, k0_pay2]

theorem pay_vt (wb : Vec Ideal S256x1024 .bf16) (q : Fin 256) :
    k0_pay25 (F := Ideal) (k0_pay2 x0) wb (ix2 q r) = ∑ k, wb (ix2 q k) * x0 (ix2 r k) := by
  pointwise [k0_pay25, k0_pay2]

end Lanes

end Cert.InProj
-- ==== Proof.InProjPayload.lean ====
/- What one block of the kernel of the input projection leaves in each output, entry by entry: for the row that holds token `t`, the
   token's projection, rotated where the output is. -/
module

public import proofs.«01_k».proof.Proof.InProjLanes
public import Idealize.ShloMosaic.Lib.Pipeline.ValueKit

@[expose] public section

set_option maxRecDepth 16384
set_option maxHeartbeats 4000000

noncomputable section

namespace Cert.InProj

open Idealize.ShloMosaic Idealize.ShloMosaic.TcCoe
open Cert.Kernel2Ideal Cert.Kernel2Ideal.Gen

theorem idx2_lt0 {a b : Nat} (i : (⟨2, ![a, b]⟩ : Shape).Idx) : (i 0).val < a := (i 0).isLt

theorem idx2_lt1 {a b : Nat} (i : (⟨2, ![a, b]⟩ : Shape).Idx) : (i 1).val < b := (i 1).isLt

theorem zero_off : (![0, 0] : Fin 2 → Nat) = fun _ => 0 := by
  funext a; match a with
  | ⟨0, _⟩ => rfl
  | ⟨1, _⟩ => rfl

theorem whole_x (X : Vec Ideal S512x1024 .f32) : View.ld X r0_0 = X := View.ld_unit_zero zero_off _ _

theorem whole_t (X : Vec Ideal S512x128 .f32) : View.ld X r0_1 = X := View.ld_unit_zero zero_off _ _

theorem whole_vt (X : Vec Ideal S256x1024 .bf16) : View.ld X r0_20 = X := View.ld_unit_zero zero_off _ _

/-! ## The blocks of weight columns, at an entry -/

theorem ld_2 (X : Vec Ideal S1024x1280 .bf16) (k : Fin 1024) (n : Fin 512) :
    View.ld X r0_2 (ix2 k n) = X (ix2 k ⟨0 + n.val, by omega⟩) :=
  View.ld_unit_apply_of X _ _ _ _ _ fun a => match a with
    | ⟨0, _⟩ => (Nat.zero_add _).symm
    | ⟨1, _⟩ => rfl

theorem ld_4 (X : Vec Ideal S1024x1280 .bf16) (k : Fin 1024) (n : Fin 512) :
    View.ld X r0_4 (ix2 k n) = X (ix2 k ⟨512 + n.val, by omega⟩) :=
  View.ld_unit_apply_of X _ _ _ _ _ fun a => match a with
    | ⟨0, _⟩ => (Nat.zero_add _).symm
    | ⟨1, _⟩ => rfl

theorem ld_5 (X : Vec Ideal S1024x1280 .bf16) (k : Fin 1024) (n : Fin 128) :
    View.ld X r0_5 (ix2 k n) = X (ix2 k ⟨1024 + n.val, by omega⟩) :=
  View.ld_unit_apply_of X _ _ _ _ _ fun a => match a with
    | ⟨0, _⟩ => (Nat.zero_add _).symm
    | ⟨1, _⟩ => rfl

theorem ld_7 (X : Vec Ideal S1024x1280 .bf16) (k : Fin 1024) (n : Fin 128) :
    View.ld X r0_7 (ix2 k n) = X (ix2 k ⟨1152 + n.val, by omega⟩) :=
  View.ld_unit_apply_of X _ _ _ _ _ fun a => match a with
    | ⟨0, _⟩ => (Nat.zero_add _).symm
    | ⟨1, _⟩ => rfl

theorem ld_8 (X : Vec Ideal S1024x256 .bf16) (k : Fin 1024) (n : Fin 128) :
    View.ld X r0_8 (ix2 k n) = X (ix2 k ⟨0 + n.val, by omega⟩) :=
  View.ld_unit_apply_of X _ _ _ _ _ fun a => match a with
    | ⟨0, _⟩ => (Nat.zero_add _).symm
    | ⟨1, _⟩ => rfl

theorem ld_9 (X : Vec Ideal S1024x256 .bf16) (k : Fin 1024) (n : Fin 128) :
    View.ld X r0_9 (ix2 k n) = X (ix2 k ⟨128 + n.val, by omega⟩) :=
  View.ld_unit_apply_of X _ _ _ _ _ fun a => match a with
    | ⟨0, _⟩ => (Nat.zero_add _).symm
    | ⟨1, _⟩ => rfl

theorem ld_11 (X : Vec Ideal S1024x2304 .bf16) (k : Fin 1024) (n : Fin 128) :
    View.ld X r0_11 (ix2 k n) = X (ix2 k ⟨0 + n.val, by omega⟩) :=
  View.ld_unit_apply_of X _ _ _ _ _ fun a => match a with
    | ⟨0, _⟩ => (Nat.zero_add _).symm
    | ⟨1, _⟩ => rfl

theorem ld_12 (X : Vec Ideal S1024x2304 .bf16) (k : Fin 1024) (n : Fin 128) :
    View.ld X r0_12 (ix2 k n) = X (ix2 k ⟨128 + n.val, by omega⟩) :=
  View.ld_unit_apply_of X _ _ _ _ _ fun a => match a with
    | ⟨0, _⟩ => (Nat.zero_add _).symm
    | ⟨1, _⟩ => rfl

theorem ld_13 (X : Vec Ideal S1024x2304 .bf16) (k : Fin 1024) (n : Fin 512) :
    View.ld X r0_13 (ix2 k n) = X (ix2 k ⟨256 + n.val, by omega⟩) :=
  View.ld_unit_apply_of X _ _ _ _ _ fun a => match a with
    | ⟨0, _⟩ => (Nat.zero_add _).symm
    | ⟨1, _⟩ => rfl

theorem ld_14 (X : Vec Ideal S1024x2304 .bf16) (k : Fin 1024) (n : Fin 512) :
    View.ld X r0_14 (ix2 k n) = X (ix2 k ⟨768 + n.val, by omega⟩) :=
  View.ld_unit_apply_of X _ _ _ _ _ fun a => match a with
    | ⟨0, _⟩ => (Nat.zero_add _).symm
    | ⟨1, _⟩ => rfl

theorem ld_16 (X : Vec Ideal S1024x2304 .bf16) (k : Fin 1024) (n : Fin 512) :
    View.ld X r0_16 (ix2 k n) = X (ix2 k ⟨1280 + n.val, by omega⟩) :=
  View.ld_unit_apply_of X _ _ _ _ _ fun a => match a with
    | ⟨0, _⟩ => (Nat.zero_add _).symm
    | ⟨1, _⟩ => rfl

theorem ld_18 (X : Vec Ideal S1024x2304 .bf16) (k : Fin 1024) (n : Fin 512) :
    View.ld X r0_18 (ix2 k n) = X (ix2 k ⟨1792 + n.val, by omega⟩) :=
  View.ld_unit_apply_of X _ _ _ _ _ fun a => match a with
    | ⟨0, _⟩ => (Nat.zero_add _).symm
    | ⟨1, _⟩ => rfl

theorem ld_22 (X : Vec Ideal S1024x3072 .bf16) (k : Fin 1024) (n : Fin 512) :
    View.ld X r0_22 (ix2 k n) = X (ix2 k ⟨0 + n.val, by omega⟩) :=
  View.ld_unit_apply_of X _ _ _ _ _ fun a => match a with
    | ⟨0, _⟩ => (Nat.zero_add _).symm
    | ⟨1, _⟩ => rfl

theorem ld_24 (X : Vec Ideal S1024x3072 .bf16) (k : Fin 1024) (n : Fin 512) :
    View.ld X r0_24 (ix2 k n) = X (ix2 k ⟨512 + n.val, by omega⟩) :=
  View.ld_unit_apply_of X _ _ _ _ _ fun a => match a with
    | ⟨0, _⟩ => (Nat.zero_add _).symm
    | ⟨1, _⟩ => rfl

theorem ld_26 (X : Vec Ideal S1024x3072 .bf16) (k : Fin 1024) (n : Fin 512) :
    View.ld X r0_26 (ix2 k n) = X (ix2 k ⟨1024 + n.val, by omega⟩) :=
  View.ld_unit_apply_of X _ _ _ _ _ fun a => match a with
    | ⟨0, _⟩ => (Nat.zero_add _).symm
    | ⟨1, _⟩ => rfl

theorem ld_28 (X : Vec Ideal S1024x3072 .bf16) (k : Fin 1024) (n : Fin 512) :
    View.ld X r0_28 (ix2 k n) = X (ix2 k ⟨1536 + n.val, by omega⟩) :=
  View.ld_unit_apply_of X _ _ _ _ _ fun a => match a with
    | ⟨0, _⟩ => (Nat.zero_add _).symm
    | ⟨1, _⟩ => rfl

theorem ld_30 (X : Vec Ideal S1024x3072 .bf16) (k : Fin 1024) (n : Fin 512) :
    View.ld X r0_30 (ix2 k n) = X (ix2 k ⟨2048 + n.val, by omega⟩) :=
  View.ld_unit_apply_of X _ _ _ _ _ fun a => match a with
    | ⟨0, _⟩ => (Nat.zero_add _).symm
    | ⟨1, _⟩ => rfl

theorem ld_32 (X : Vec Ideal S1024x3072 .bf16) (k : Fin 1024) (n : Fin 512) :
    View.ld X r0_32 (ix2 k n) = X (ix2 k ⟨2560 + n.val, by omega⟩) :=
  View.ld_unit_apply_of X _ _ _ _ _ fun a => match a with
    | ⟨0, _⟩ => (Nat.zero_add _).symm
    | ⟨1, _⟩ => rfl

/-! ## The token's product with the weight columns -/

section Rows

variable (x : Vec Ideal S16x4096x1024 .f32) (w : Vec Ideal S1024x6788 .f32)
variable (x0 : Vec Ideal S512x1024 .f32) (r : Fin 512) (t : Fin 65536)
variable (x6 x7 x8 x9 x10 x11 : Vec Ideal S512x128 .f32)

/-- A product with columns that are columns of the weights is the projection there. -/
theorem sum_of (hx : ∀ k, x0 (ix2 r k) = xAt x t k) (f : Fin 1024 → EReal) (n : Nat) (hf : ∀ k, f k = wAt w k n) :
    (∑ k, x0 (ix2 r k) * f k) = proj x w t n := by
  unfold proj
  exact Finset.sum_congr rfl fun k _ => by rw [hx, hf]

/-- A product with a zero column is zero. -/
theorem sum_zero (f : Fin 1024 → EReal) (hf : ∀ k, f k = 0) : (∑ k, x0 (ix2 r k) * f k) = 0 :=
  Finset.sum_eq_zero fun k _ => by rw [hf, mul_zero]

/-! ## The rotated outputs -/

theorem out_dq (hx : ∀ k, x0 (ix2 r k) = xAt x t k)
    (hc : ∀ l : Fin 128, x6 (ix2 r l) = tabC (cos8 t) 8 (l.val % 64))
    (ha : ∀ l : Fin 128, x7 (ix2 r l) = tabA (sin8 t) 8 (l.val % 64))
    (hb : ∀ l : Fin 128, x8 (ix2 r l) = tabB (sin8 t) 8 (l.val % 64)) (q : Fin 512) :
    out0_12 (F := Ideal) x0 (w64 w) (w32 w) (wPlain w) (wVt w) (wMerge w) x6 x7 x8 x9 x10 x11 (ix2 r q)
      = turn (proj x w t) (cos8 t) (sin8 t) 8 64 0 q.val := by
  unfold out0_12
  refine (congrFun (View.canon_unit_zero zero_off _ _) _).trans ?_
  rw [whole_x, whole_t, whole_t, whole_t]
  refine pay_dq x0 r x6 x7 x8 (proj x w t) (fun n => proj x w t (col64 (0 + n))) _ _ _ hc ha hb (fun n => ?_) 0 (fun n hn => ?_) q
  · refine sum_of x w x0 r t hx _ _ fun k => ?_
    rw [ld_2, w64_apply]
  · refine congrArg (proj x w t) ?_
    unfold col64
    split_ifs
    all_goals omega

theorem out_nq (hx : ∀ k, x0 (ix2 r k) = xAt x t k)
    (hc : ∀ l : Fin 128, x6 (ix2 r l) = tabC (cos8 t) 8 (l.val % 64))
    (ha : ∀ l : Fin 128, x7 (ix2 r l) = tabA (sin8 t) 8 (l.val % 64))
    (hb : ∀ l : Fin 128, x8 (ix2 r l) = tabB (sin8 t) 8 (l.val % 64)) (q : Fin 512) :
    out0_13 (F := Ideal) x0 (w64 w) (w32 w) (wPlain w) (wVt w) (wMerge w) x6 x7 x8 x9 x10 x11 (ix2 r q)
      = turn (proj x w t) (cos8 t) (sin8 t) 8 64 740 q.val := by
  unfold out0_13
  refine (congrFun (View.canon_unit_zero zero_off _ _) _).trans ?_
  rw [whole_x, whole_t, whole_t, whole_t]
  refine pay_nq x0 r x6 x7 x8 (proj x w t) (fun n => proj x w t (col64 (512 + n))) _ _ _ hc ha hb (fun n => ?_) 740 (fun n hn => ?_) q
  · refine sum_of x w x0 r t hx _ _ fun k => ?_
    rw [ld_4, w64_apply]
  · refine congrArg (proj x w t) ?_
    unfold col64
    split_ifs
    all_goals omega

theorem out_krot (hx : ∀ k, x0 (ix2 r k) = xAt x t k)
    (hc : ∀ l : Fin 128, x6 (ix2 r l) = tabC (cos8 t) 8 (l.val % 64))
    (ha : ∀ l : Fin 128, x7 (ix2 r l) = tabA (sin8 t) 8 (l.val % 64))
    (hb : ∀ l : Fin 128, x8 (ix2 r l) = tabB (sin8 t) 8 (l.val % 64)) (q : Fin 64) :
    out0_14 (F := Ideal) x0 (w64 w) (w32 w) (wPlain w) (wVt w) (wMerge w) x6 x7 x8 x9 x10 x11 (ix2 r q)
      = turn (proj x w t) (cos8 t) (sin8 t) 8 64 512 q.val := by
  unfold out0_14
  refine (congrFun (View.canon_unit_zero zero_off _ _) _).trans ?_
  show k0_pay9 (F := Ideal) (k0_pay2 (View.ld x0 r0_0)) (k0_pay3 (View.ld x6 r0_1)) (k0_pay4 (View.ld x7 r0_1)) (k0_pay5 (View.ld x8 r0_1))
    (View.ld (w64 w) r0_5) (ix2 r q) = _
  rw [whole_x, whole_t, whole_t, whole_t]
  refine pay_krot x0 r x6 x7 x8 (proj x w t) (fun n => proj x w t (col64 (1024 + n))) _ _ _ hc ha hb (fun n => ?_) 512 (fun n hn => ?_) q
  · refine sum_of x w x0 r t hx _ _ fun k => ?_
    rw [ld_5, w64_apply]
  · refine congrArg (proj x w t) ?_
    unfold col64
    split_ifs
    all_goals omega

theorem out_nkc (hx : ∀ k, x0 (ix2 r k) = xAt x t k)
    (hc : ∀ l : Fin 128, x6 (ix2 r l) = tabC (cos8 t) 8 (l.val % 64))
    (ha : ∀ l : Fin 128, x7 (ix2 r l) = tabA (sin8 t) 8 (l.val % 64))
    (hb : ∀ l : Fin 128, x8 (ix2 r l) = tabB (sin8 t) 8 (l.val % 64)) (q : Fin 64) :
    out0_15 (F := Ideal) x0 (w64 w) (w32 w) (wPlain w) (wVt w) (wMerge w) x6 x7 x8 x9 x10 x11 (ix2 r q)
      = turn (proj x w t) (cos8 t) (sin8 t) 8 64 1252 q.val := by
  unfold out0_15
  refine (congrFun (View.canon_unit_zero zero_off _ _) _).trans ?_
  show k0_pay10 (F := Ideal) (k0_pay2 (View.ld x0 r0_0)) (k0_pay3 (View.ld x6 r0_1)) (k0_pay4 (View.ld x7 r0_1)) (k0_pay5 (View.ld x8 r0_1))
    (View.ld (w64 w) r0_5) (ix2 r q) = _
  rw [whole_x, whole_t, whole_t, whole_t]
  refine pay_nkc x0 r x6 x7 x8 (proj x w t) (fun n => proj x w t (col64 (1024 + n))) _ _ _ hc ha hb (fun n => ?_) 1252 (fun n hn => ?_) q
  · refine sum_of x w x0 r t hx _ _ fun k => ?_
    rw [ld_5, w64_apply]
  · refine congrArg (proj x w t) ?_
    unfold col64
    split_ifs
    all_goals omega

theorem out_nks (hx : ∀ k, x0 (ix2 r k) = xAt x t k)
    (hc : ∀ l : Fin 128, x6 (ix2 r l) = tabC (cos8 t) 8 (l.val % 64))
    (ha : ∀ l : Fin 128, x7 (ix2 r l) = tabA (sin8 t) 8 (l.val % 64))
    (hb : ∀ l : Fin 128, x8 (ix2 r l) = tabB (sin8 t) 8 (l.val % 64)) (q : Fin 64) :
    out0_16 (F := Ideal) x0 (w64 w) (w32 w) (wPlain w) (wVt w) (wMerge w) x6 x7 x8 x9 x10 x11 (ix2 r q)
      = turn (proj x w t) (cos8 t) (sin8 t) 8 64 1380 q.val := by
  unfold out0_16
  refine (congrFun (View.canon_unit_zero zero_off _ _) _).trans ?_
  show k0_pay12 (F := Ideal) (k0_pay2 (View.ld x0 r0_0)) (k0_pay3 (View.ld x6 r0_1)) (k0_pay4 (View.ld x7 r0_1)) (k0_pay5 (View.ld x8 r0_1))
    (View.ld (w64 w) r0_7) (ix2 r q) = _
  rw [whole_x, whole_t, whole_t, whole_t]
  refine pay_nks x0 r x6 x7 x8 (proj x w t) (fun n => proj x w t (col64 (1152 + n))) _ _ _ hc ha hb (fun n => ?_) 1380 (fun n hn => ?_) q
  · refine sum_of x w x0 r t hx _ _ fun k => ?_
    rw [ld_7, w64_apply]
  · refine congrArg (proj x w t) ?_
    unfold col64
    split_ifs
    all_goals omega

theorem out_nkw (hx : ∀ k, x0 (ix2 r k) = xAt x t k)
    (hc : ∀ l : Fin 128, x6 (ix2 r l) = tabC (cos8 t) 8 (l.val % 64))
    (ha : ∀ l : Fin 128, x7 (ix2 r l) = tabA (sin8 t) 8 (l.val % 64))
    (hb : ∀ l : Fin 128, x8 (ix2 r l) = tabB (sin8 t) 8 (l.val % 64)) (q : Fin 64) :
    out0_17 (F := Ideal) x0 (w64 w) (w32 w) (wPlain w) (wVt w) (wMerge w) x6 x7 x8 x9 x10 x11 (ix2 r q)
      = turn (proj x w t) (cos8 t) (sin8 t) 8 64 1508 q.val := by
  unfold out0_17
  refine (congrFun (View.canon_unit_zero zero_off _ _) _).trans ?_
  show k0_pay13 (F := Ideal) (k0_pay2 (View.ld x0 r0_0)) (k0_pay3 (View.ld x6 r0_1)) (k0_pay4 (View.ld x7 r0_1)) (k0_pay5 (View.ld x8 r0_1))
    (View.ld (w64 w) r0_7) (ix2 r q) = _
  rw [whole_x, whole_t, whole_t, whole_t]
  refine pay_nkw x0 r x6 x7 x8 (proj x w t) (fun n => proj x w t (col64 (1152 + n))) _ _ _ hc ha hb (fun n => ?_) 1508 (fun n hn => ?_) q
  · refine sum_of x w x0 r t hx _ _ fun k => ?_
    rw [ld_7, w64_apply]
  · refine congrArg (proj x w t) ?_
    unfold col64
    split_ifs
    all_goals omega

theorem out_iq (hx : ∀ k, x0 (ix2 r k) = xAt x t k)
    (hc : ∀ l : Fin 128, x9 (ix2 r l) = tabC (cos4 t) 4 (l.val % 32))
    (ha : ∀ l : Fin 128, x10 (ix2 r l) = tabA (sin4 t) 4 (l.val % 32))
    (hb : ∀ l : Fin 128, x11 (ix2 r l) = tabB (sin4 t) 4 (l.val % 32)) (q : Fin 128) :
    out0_18 (F := Ideal) x0 (w64 w) (w32 w) (wPlain w) (wVt w) (wMerge w) x6 x7 x8 x9 x10 x11 (ix2 r q)
      = turn (proj x w t) (cos4 t) (sin4 t) 4 32 576 q.val := by
  unfold out0_18
  refine (congrFun (View.canon_unit_zero zero_off _ _) _).trans ?_
  show k0_pay17 (F := Ideal) (k0_pay2 (View.ld x0 r0_0)) (k0_pay14 (View.ld x9 r0_1)) (View.ld x10 r0_1) (View.ld x11 r0_1)
    (View.ld (w32 w) r0_8) (ix2 r q) = _
  rw [whole_x, whole_t, whole_t, whole_t]
  refine pay_iq x0 r x9 x10 x11 (proj x w t) (fun n => if 0 + n < 160 then proj x w t (576 + (0 + n)) else 0) _ _ _ hc ha hb (fun n => ?_) 576 (fun n hn => ?_) q
  · by_cases h : 0 + n.val < 160
    · rw [if_pos h]
      refine sum_of x w x0 r t hx _ _ fun k => ?_
      rw [ld_8, w32_apply w k _ h]
    · rw [if_neg h]
      refine sum_zero x0 r _ fun k => ?_
      rw [ld_8, w32_zero w k _ h]
  · rw [if_pos (by omega)]
    exact congrArg (proj x w t) (by omega)

theorem out_ik (hx : ∀ k, x0 (ix2 r k) = xAt x t k)
    (hc : ∀ l : Fin 128, x9 (ix2 r l) = tabC (cos4 t) 4 (l.val % 32))
    (ha : ∀ l : Fin 128, x10 (ix2 r l) = tabA (sin4 t) 4 (l.val % 32))
    (hb : ∀ l : Fin 128, x11 (ix2 r l) = tabB (sin4 t) 4 (l.val % 32)) (q : Fin 32) :
    out0_19 (F := Ideal) x0 (w64 w) (w32 w) (wPlain w) (wVt w) (wMerge w) x6 x7 x8 x9 x10 x11 (ix2 r q)
      = turn (proj x w t) (cos4 t) (sin4 t) 4 32 704 q.val := by
  unfold out0_19
  refine (congrFun (View.canon_unit_zero zero_off _ _) _).trans ?_
  show k0_pay18 (F := Ideal) (k0_pay2 (View.ld x0 r0_0)) (k0_pay14 (View.ld x9 r0_1)) (View.ld x10 r0_1) (View.ld x11 r0_1)
    (View.ld (w32 w) r0_9) (ix2 r q) = _
  rw [whole_x, whole_t, whole_t, whole_t]
  refine pay_ik x0 r x9 x10 x11 (proj x w t) (fun n => if 128 + n < 160 then proj x w t (576 + (128 + n)) else 0) _ _ _ hc ha hb (fun n => ?_) 704 (fun n hn => ?_) q
  · by_cases h : 128 + n.val < 160
    · rw [if_pos h]
      refine sum_of x w x0 r t hx _ _ fun k => ?_
      rw [ld_9, w32_apply w k _ h]
    · rw [if_neg h]
      refine sum_zero x0 r _ fun k => ?_
      rw [ld_9, w32_zero w k _ h]
  · rw [if_pos (by omega)]
    exact congrArg (proj x w t) (by omega)

/-! ## The plain outputs -/

theorem out_nvc (hx : ∀ k, x0 (ix2 r k) = xAt x t k) (q : Fin 64) :
    out0_20 (F := Ideal) x0 (w64 w) (w32 w) (wPlain w) (wVt w) (wMerge w) x6 x7 x8 x9 x10 x11 (ix2 r q) = proj x w t (1316 + q.val) := by
  unfold out0_20
  refine (congrFun (View.canon_unit_zero zero_off _ _) _).trans ?_
  show k0_pay19 (F := Ideal) (k0_pay2 (View.ld x0 r0_0)) (View.ld (wPlain w) r0_11) (ix2 r q) = _
  rw [whole_x, pay_nvc]
  refine sum_of x w x0 r t hx _ _ fun k => ?_
  rw [ld_11, wPlain_nvc w k _ (by show 0 + q.val < 64; omega)]
  exact congrArg (wAt w k) (by show 1316 + (0 + q.val) = _; omega)

theorem out_misc (hx : ∀ k, x0 (ix2 r k) = xAt x t k) (q : Fin 128) :
    out0_21 (F := Ideal) x0 (w64 w) (w32 w) (wPlain w) (wVt w) (wMerge w) x6 x7 x8 x9 x10 x11 (ix2 r q)
      = if q.val < 4 then proj x w t (736 + q.val) else if q.val < 8 then proj x w t (3196 + (q.val - 4))
        else if q.val < 12 then proj x w t (3200 + (q.val - 8)) else if q.val < 36 then proj x w t (1636 + (q.val - 12)) else 0 := by
  unfold out0_21
  refine (congrFun (View.canon_unit_zero zero_off _ _) _).trans ?_
  show k0_pay20 (F := Ideal) (k0_pay2 (View.ld x0 r0_0)) (View.ld (wPlain w) r0_12) (ix2 r q) = _
  rw [whole_x, pay_misc]
  by_cases h1 : q.val < 4
  · rw [if_pos h1]
    refine sum_of x w x0 r t hx _ _ fun k => ?_
    rw [ld_12, wPlain_misc, wMisc_apply, if_pos h1]
  rw [if_neg h1]
  by_cases h2 : q.val < 8
  · rw [if_pos h2]
    refine sum_of x w x0 r t hx _ _ fun k => ?_
    rw [ld_12, wPlain_misc, wMisc_apply, if_neg h1, if_pos h2]
  rw [if_neg h2]
  by_cases h3 : q.val < 12
  · rw [if_pos h3]
    refine sum_of x w x0 r t hx _ _ fun k => ?_
    rw [ld_12, wPlain_misc, wMisc_apply, if_neg h1, if_neg h2, if_pos h3]
  rw [if_neg h3]
  by_cases h4 : q.val < 36
  · rw [if_pos h4]
    refine sum_of x w x0 r t hx _ _ fun k => ?_
    rw [ld_12, wPlain_misc, wMisc_apply, if_neg h1, if_neg h2, if_neg h3, if_pos h4]
  rw [if_neg h4]
  refine sum_zero x0 r _ fun k => ?_
  rw [ld_12, wPlain_misc, wMisc_apply, if_neg h1, if_neg h2, if_neg h3, if_neg h4]

theorem out_gz (hx : ∀ k, x0 (ix2 r k) = xAt x t k) (q : Fin 512) :
    out0_22 (F := Ideal) x0 (w64 w) (w32 w) (wPlain w) (wVt w) (wMerge w) x6 x7 x8 x9 x10 x11 (ix2 r q) = proj x w t (3204 + q.val) := by
  unfold out0_22
  refine (congrFun (View.canon_unit_zero zero_off _ _) _).trans ?_
  show k0_pay21 (F := Ideal) (k0_pay2 (View.ld x0 r0_0)) (View.ld (wPlain w) r0_13) (ix2 r q) = _
  rw [whole_x, pay_gz]
  refine sum_of x w x0 r t hx _ _ fun k => ?_
  rw [ld_13, wPlain_gz]

theorem out_vt (hx : ∀ k, x0 (ix2 r k) = xAt x t k) (q : Fin 256) :
    out0_24 (F := Ideal) x0 (w64 w) (w32 w) (wPlain w) (wVt w) (wMerge w) x6 x7 x8 x9 x10 x11 (ix2 q r)
      = if q.val < 64 then proj x w t (512 + q.val) else if q.val < 128 then proj x w t (1444 + (q.val - 64))
        else if q.val < 192 then proj x w t (1572 + (q.val - 128)) else 0 := by
  unfold out0_24
  refine (congrFun (View.canon_unit_zero zero_off _ _) _).trans ?_
  show k0_pay25 (F := Ideal) (k0_pay2 (View.ld x0 r0_0)) (View.ld (wVt w) r0_20) (ix2 q r) = _
  rw [whole_x, whole_vt, pay_vt]
  refine (Finset.sum_congr rfl fun k _ => mul_comm _ _).trans ?_
  by_cases h1 : q.val < 64
  · rw [if_pos h1]
    refine sum_of x w x0 r t hx _ _ fun k => ?_
    rw [wVt_apply, if_pos h1]
  rw [if_neg h1]
  by_cases h2 : q.val < 128
  · rw [if_pos h2]
    refine sum_of x w x0 r t hx _ _ fun k => ?_
    rw [wVt_apply, if_neg h1, if_pos h2]
  rw [if_neg h2]
  by_cases h3 : q.val < 192
  · rw [if_pos h3]
    refine sum_of x w x0 r t hx _ _ fun k => ?_
    rw [wVt_apply, if_neg h1, if_neg h2, if_pos h3]
  rw [if_neg h3]
  refine sum_zero x0 r _ fun k => ?_
  rw [wVt_apply, if_neg h1, if_neg h2, if_neg h3]

/-- Row `i 0` of the block's product with the columns, entry by entry. -/
def full_gqkv (i : S512x1536.Idx) : EReal :=
  ∑ k, x0 (ix2 (⟨(i 0).val, idx2_lt0 i⟩ : Fin 512) k) * wPlain w (ix2 k (⟨768 + (i 1).val, by have := idx2_lt1 i; omega⟩ : Fin 2304))

theorem out_gqkv (hx : ∀ k, x0 (ix2 r k) = xAt x t k) (q : Fin 1536) :
    out0_23 (F := Ideal) x0 (w64 w) (w32 w) (wPlain w) (wVt w) (wMerge w) x6 x7 x8 x9 x10 x11 (ix2 r q)
      = proj x w t (1660 + q.val) := by
  unfold out0_23
  refine (View.canon_apply_of_pieces (full_gqkv w x0) _ ?_ _ (cover0_23 _ _ _ _)).trans ?_
  · intro pc hpc
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay24 (F := Ideal) (k0_pay2 (View.ld x0 r0_0)) (View.ld (wPlain w) r0_18) (ix2 p n) = _
      rw [whole_x, pay_qkv2]
      refine (Finset.sum_congr rfl fun k _ => ?_)
      rw [ld_18]
      refine congrArg₂ (fun a b => x0 (ix2 a k) * wPlain w (ix2 k b)) (Fin.ext ?_) (Fin.ext ?_)
      · show p.val = 0 + 1 * p.val; omega
      · show 1792 + n.val = 768 + (1024 + 1 * n.val); omega
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay23 (F := Ideal) (k0_pay2 (View.ld x0 r0_0)) (View.ld (wPlain w) r0_16) (ix2 p n) = _
      rw [whole_x, pay_qkv1]
      refine (Finset.sum_congr rfl fun k _ => ?_)
      rw [ld_16]
      refine congrArg₂ (fun a b => x0 (ix2 a k) * wPlain w (ix2 k b)) (Fin.ext ?_) (Fin.ext ?_)
      · show p.val = 0 + 1 * p.val; omega
      · show 1280 + n.val = 768 + (512 + 1 * n.val); omega
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay22 (F := Ideal) (k0_pay2 (View.ld x0 r0_0)) (View.ld (wPlain w) r0_14) (ix2 p n) = _
      rw [whole_x, pay_qkv0]
      refine (Finset.sum_congr rfl fun k _ => ?_)
      rw [ld_14]
      refine congrArg₂ (fun a b => x0 (ix2 a k) * wPlain w (ix2 k b)) (Fin.ext ?_) (Fin.ext ?_)
      · show p.val = 0 + 1 * p.val; omega
      · show 768 + n.val = 768 + (0 + 1 * n.val); omega
    nomatch hpc
  · refine (sum_of x w x0 r t hx _ _ fun k => ?_)
    exact wPlain_gqkv w k q

/-- Row `i 0` of the block's product with the columns, entry by entry. -/
def full_merge (i : S512x3072.Idx) : EReal :=
  Ideal.logistic (∑ k, x0 (ix2 (⟨(i 0).val, idx2_lt0 i⟩ : Fin 512) k) * wMerge w (ix2 k (⟨(i 1).val, by have := idx2_lt1 i; omega⟩ : Fin 3072)))

theorem out_merge (hx : ∀ k, x0 (ix2 r k) = xAt x t k) (q : Fin 3072) :
    out0_25 (F := Ideal) x0 (w64 w) (w32 w) (wPlain w) (wVt w) (wMerge w) x6 x7 x8 x9 x10 x11 (ix2 r q)
      = Ideal.logistic (proj x w t (3716 + q.val)) := by
  unfold out0_25
  refine (View.canon_apply_of_pieces (full_merge w x0) _ ?_ _ (cover0_25 _ _ _ _ _ _ _)).trans ?_
  · intro pc hpc
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay1 (F := Ideal) (k0_pay2 (View.ld x0 r0_0)) (View.ld (wMerge w) r0_32) (ix2 p n) = _
      rw [whole_x, pay_mg5]
      refine congrArg Ideal.logistic (Finset.sum_congr rfl fun k _ => ?_)
      rw [ld_32]
      refine congrArg₂ (fun a b => x0 (ix2 a k) * wMerge w (ix2 k b)) (Fin.ext ?_) (Fin.ext ?_)
      · show p.val = 0 + 1 * p.val; omega
      · show 2560 + n.val = (2560 + 1 * n.val); omega
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay30 (F := Ideal) (k0_pay2 (View.ld x0 r0_0)) (View.ld (wMerge w) r0_30) (ix2 p n) = _
      rw [whole_x, pay_mg4]
      refine congrArg Ideal.logistic (Finset.sum_congr rfl fun k _ => ?_)
      rw [ld_30]
      refine congrArg₂ (fun a b => x0 (ix2 a k) * wMerge w (ix2 k b)) (Fin.ext ?_) (Fin.ext ?_)
      · show p.val = 0 + 1 * p.val; omega
      · show 2048 + n.val = (2048 + 1 * n.val); omega
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay29 (F := Ideal) (k0_pay2 (View.ld x0 r0_0)) (View.ld (wMerge w) r0_28) (ix2 p n) = _
      rw [whole_x, pay_mg3]
      refine congrArg Ideal.logistic (Finset.sum_congr rfl fun k _ => ?_)
      rw [ld_28]
      refine congrArg₂ (fun a b => x0 (ix2 a k) * wMerge w (ix2 k b)) (Fin.ext ?_) (Fin.ext ?_)
      · show p.val = 0 + 1 * p.val; omega
      · show 1536 + n.val = (1536 + 1 * n.val); omega
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay28 (F := Ideal) (k0_pay2 (View.ld x0 r0_0)) (View.ld (wMerge w) r0_26) (ix2 p n) = _
      rw [whole_x, pay_mg2]
      refine congrArg Ideal.logistic (Finset.sum_congr rfl fun k _ => ?_)
      rw [ld_26]
      refine congrArg₂ (fun a b => x0 (ix2 a k) * wMerge w (ix2 k b)) (Fin.ext ?_) (Fin.ext ?_)
      · show p.val = 0 + 1 * p.val; omega
      · show 1024 + n.val = (1024 + 1 * n.val); omega
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay27 (F := Ideal) (k0_pay2 (View.ld x0 r0_0)) (View.ld (wMerge w) r0_24) (ix2 p n) = _
      rw [whole_x, pay_mg1]
      refine congrArg Ideal.logistic (Finset.sum_congr rfl fun k _ => ?_)
      rw [ld_24]
      refine congrArg₂ (fun a b => x0 (ix2 a k) * wMerge w (ix2 k b)) (Fin.ext ?_) (Fin.ext ?_)
      · show p.val = 0 + 1 * p.val; omega
      · show 512 + n.val = (512 + 1 * n.val); omega
    rcases List.mem_cons.mp hpc with rfl | hpc
    · intro i
      obtain ⟨p, n, rfl⟩ : ∃ (p : Fin 512) (n : Fin 512), i = ix2 p n := ⟨i 0, i 1, by funext a; match a with | ⟨0, _⟩ => rfl | ⟨1, _⟩ => rfl⟩
      show k0_pay26 (F := Ideal) (k0_pay2 (View.ld x0 r0_0)) (View.ld (wMerge w) r0_22) (ix2 p n) = _
      rw [whole_x, pay_mg0]
      refine congrArg Ideal.logistic (Finset.sum_congr rfl fun k _ => ?_)
      rw [ld_22]
      refine congrArg₂ (fun a b => x0 (ix2 a k) * wMerge w (ix2 k b)) (Fin.ext ?_) (Fin.ext ?_)
      · show p.val = 0 + 1 * p.val; omega
      · show 0 + n.val = (0 + 1 * n.val); omega
    nomatch hpc
  · refine congrArg Ideal.logistic (sum_of x w x0 r t hx _ _ fun k => ?_)
    exact wMerge_apply w k q

end Rows

end Cert.InProj
-- ==== Proof.InProjValue0.lean ====
/- The final arrays of the input projection with wide rotated heads are the reference's. -/
module

public import proofs.«01_k».proof.Proof.InProjBlocks
public import proofs.«01_k».proof.Proof.InProjPayload
public import proofs.«01_k».proof.Proof.InProjReference
public import Idealize.ShloMosaic.Lib.Pipeline.Value
public import Idealize.ShloMosaic.Lib.Pipeline.Covers
public import Idealize.ShloMosaic.Lib.Tactic

@[expose] public section

set_option maxRecDepth 16384
set_option maxHeartbeats 4000000

noncomputable section

namespace Cert.InProj

open Idealize.ShloMosaic Idealize.ShloMosaic.TcCoe
open Idealize.ShloMosaic.Pipeline (Dat)
open Cert.Kernel2Ideal Cert.Kernel2Ideal.Gen
open Cert.Reference2Ideal.Read (val_main_v64 val_main_v103 val_main_v142)

variable (m : (ℓ : Loc nD τ sig) → Buf (Elt Ideal) ℓ)

/-! ## Output 0 -/

/-- The reference's output at the kernel's arguments. -/
@[irreducible] def res_dq (c : Dev nD) : Vec Ideal S65536x512 .f32 := val_main_v64 (F := Ideal) (xin m c) (win m c)

/-- The block the body leaves at point `t`, entry by entry, is the reference's. -/
theorem left_dq (c : Dev nD) (t : Fin cfg0.N) (r : Fin 512) (q : Fin 512) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_dq m c (ix2 (tok t r) q) := by
  rw [read_w64, read_w32, read_wPlain, read_wVt, read_wMerge]
  refine (out_dq (xin m c) (win m c) _ r (tok t r) _ _ _ _ _ _ (read_x m c t r) (read_C64 m c t r) (read_A64 m c t r) (read_B64 m c t r) q).trans ?_
  unfold res_dq
  exact (ref_dq (xin m c) (win m c) (tok t r) q).symm

theorem flushed_dq (c : Dev nD) (t : Fin cfg0.N) (G : Vec Ideal S65536x512 .f32)
    (hG : ∀ (r : Fin 512) (q : Fin 512), out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 12 t = ((cfg0.win 12).blk t).view.read (Elt Ideal) G := by
  rw [Cert.Kernel2Ideal.Value.flushed12]
  funext (j : S512x512.Idx)
  refine Eq.trans ?_ (View.read_apply (Val := Elt Ideal) _ _).symm
  obtain ⟨r, q, rfl⟩ : ∃ (r : Fin 512) (q : Fin 512), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 512 + 1 * q.val; omega

theorem holds_dq (t : Fin cfg0.N) (i : S65536x512.Idx) (h : (pt t).val = (i 0).val / 512) :
    ∀ a, cc0_transform_12 (grid0.coords t) a * S512x512.size a ≤ (i a).val ∧ (i a).val < cc0_transform_12 (grid0.coords t) a * S512x512.size a + S512x512.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 512 ≤ (i 1).val ∧ (i 1).val < 0 * 512 + 512
    have := (idx2_lt1 i); omega

theorem final_dq (c : Dev nD) : (dats m 0 c).arrAt 12 cfg0.N = res_dq m c :=
  (dats m 0 c).arrAt_eq_of_cover 12 (res_dq m c) (fun t _ => flushed_dq m c t _ (left_dq m c t)) fun (i : S65536x512.Idx) => by
    obtain ⟨t, ht⟩ := point_of ⟨(i 0).val / 512, by have := (idx2_lt0 i); omega⟩
    refine ⟨t, flush0_12 t, ?_⟩
    show i ∈ ((View.whole main_v101_0).slice ((cfg0.win 12).rect t)).set
    refine (congrArg (i ∈ ·) (View.set_slice_whole (b := main_v101_0) _)).mpr ?_
    exact (Rect.mem_set_unit).mpr (holds_dq t i ht)

/-! ## Output 1 -/

/-- The reference's output at the kernel's arguments. -/
@[irreducible] def res_nq (c : Dev nD) : Vec Ideal S65536x512 .f32 := val_main_v103 (F := Ideal) (xin m c) (win m c)

/-- The block the body leaves at point `t`, entry by entry, is the reference's. -/
theorem left_nq (c : Dev nD) (t : Fin cfg0.N) (r : Fin 512) (q : Fin 512) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_nq m c (ix2 (tok t r) q) := by
  rw [read_w64, read_w32, read_wPlain, read_wVt, read_wMerge]
  refine (out_nq (xin m c) (win m c) _ r (tok t r) _ _ _ _ _ _ (read_x m c t r) (read_C64 m c t r) (read_A64 m c t r) (read_B64 m c t r) q).trans ?_
  unfold res_nq
  exact (ref_nq (xin m c) (win m c) (tok t r) q).symm

theorem flushed_nq (c : Dev nD) (t : Fin cfg0.N) (G : Vec Ideal S65536x512 .f32)
    (hG : ∀ (r : Fin 512) (q : Fin 512), out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 13 t = ((cfg0.win 13).blk t).view.read (Elt Ideal) G := by
  rw [Cert.Kernel2Ideal.Value.flushed13]
  funext (j : S512x512.Idx)
  refine Eq.trans ?_ (View.read_apply (Val := Elt Ideal) _ _).symm
  obtain ⟨r, q, rfl⟩ : ∃ (r : Fin 512) (q : Fin 512), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 512 + 1 * q.val; omega

theorem holds_nq (t : Fin cfg0.N) (i : S65536x512.Idx) (h : (pt t).val = (i 0).val / 512) :
    ∀ a, cc0_transform_13 (grid0.coords t) a * S512x512.size a ≤ (i a).val ∧ (i a).val < cc0_transform_13 (grid0.coords t) a * S512x512.size a + S512x512.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 512 ≤ (i 1).val ∧ (i 1).val < 0 * 512 + 512
    have := (idx2_lt1 i); omega

theorem final_nq (c : Dev nD) : (dats m 0 c).arrAt 13 cfg0.N = res_nq m c :=
  (dats m 0 c).arrAt_eq_of_cover 13 (res_nq m c) (fun t _ => flushed_nq m c t _ (left_nq m c t)) fun (i : S65536x512.Idx) => by
    obtain ⟨t, ht⟩ := point_of ⟨(i 0).val / 512, by have := (idx2_lt0 i); omega⟩
    refine ⟨t, flush0_13 t, ?_⟩
    show i ∈ ((View.whole main_v101_1).slice ((cfg0.win 13).rect t)).set
    refine (congrArg (i ∈ ·) (View.set_slice_whole (b := main_v101_1) _)).mpr ?_
    exact (Rect.mem_set_unit).mpr (holds_nq t i ht)

/-! ## Output 2 -/

/-- The reference's output at the kernel's arguments. -/
@[irreducible] def res_krot (c : Dev nD) : Vec Ideal S65536x64 .f32 := val_main_v142 (F := Ideal) (xin m c) (win m c)

/-- The block the body leaves at point `t`, entry by entry, is the reference's. -/
theorem left_krot (c : Dev nD) (t : Fin cfg0.N) (r : Fin 512) (q : Fin 64) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_krot m c (ix2 (tok t r) q) := by
  rw [read_w64, read_w32, read_wPlain, read_wVt, read_wMerge]
  refine (out_krot (xin m c) (win m c) _ r (tok t r) _ _ _ _ _ _ (read_x m c t r) (read_C64 m c t r) (read_A64 m c t r) (read_B64 m c t r) q).trans ?_
  unfold res_krot
  exact (ref_krot (xin m c) (win m c) (tok t r) q).symm

theorem flushed_krot (c : Dev nD) (t : Fin cfg0.N) (G : Vec Ideal S65536x64 .f32)
    (hG : ∀ (r : Fin 512) (q : Fin 64), out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 14 t = ((cfg0.win 14).blk t).view.read (Elt Ideal) G := by
  rw [Cert.Kernel2Ideal.Value.flushed14]
  funext (j : S512x64.Idx)
  refine Eq.trans ?_ (View.read_apply (Val := Elt Ideal) _ _).symm
  obtain ⟨r, q, rfl⟩ : ∃ (r : Fin 512) (q : Fin 64), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 64 + 1 * q.val; omega

theorem holds_krot (t : Fin cfg0.N) (i : S65536x64.Idx) (h : (pt t).val = (i 0).val / 512) :
    ∀ a, cc0_transform_14 (grid0.coords t) a * S512x64.size a ≤ (i a).val ∧ (i a).val < cc0_transform_14 (grid0.coords t) a * S512x64.size a + S512x64.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 64 ≤ (i 1).val ∧ (i 1).val < 0 * 64 + 64
    have := (idx2_lt1 i); omega

theorem final_krot (c : Dev nD) : (dats m 0 c).arrAt 14 cfg0.N = res_krot m c :=
  (dats m 0 c).arrAt_eq_of_cover 14 (res_krot m c) (fun t _ => flushed_krot m c t _ (left_krot m c t)) fun (i : S65536x64.Idx) => by
    obtain ⟨t, ht⟩ := point_of ⟨(i 0).val / 512, by have := (idx2_lt0 i); omega⟩
    refine ⟨t, flush0_14 t, ?_⟩
    show i ∈ ((View.whole main_v101_2).slice ((cfg0.win 14).rect t)).set
    refine (congrArg (i ∈ ·) (View.set_slice_whole (b := main_v101_2) _)).mpr ?_
    exact (Rect.mem_set_unit).mpr (holds_krot t i ht)

end Cert.InProj
-- ==== Proof.InProjValue1.lean ====
/- The final arrays of the input projection with rotated heads are the reference's: the rest of the wide heads, and the narrow ones. -/
module

public import proofs.«01_k».proof.Proof.InProjBlocks
public import proofs.«01_k».proof.Proof.InProjPayload
public import proofs.«01_k».proof.Proof.InProjReference
public import Idealize.ShloMosaic.Lib.Pipeline.Value
public import Idealize.ShloMosaic.Lib.Pipeline.Covers
public import Idealize.ShloMosaic.Lib.Tactic

@[expose] public section

set_option maxRecDepth 16384
set_option maxHeartbeats 4000000

noncomputable section

namespace Cert.InProj

open Idealize.ShloMosaic Idealize.ShloMosaic.TcCoe
open Idealize.ShloMosaic.Pipeline (Dat)
open Cert.Kernel2Ideal Cert.Kernel2Ideal.Gen
open Cert.Reference2Ideal.Read (val_main_v181 val_main_v220 val_main_v259 val_main_v298 val_main_v337)

variable (m : (ℓ : Loc nD τ sig) → Buf (Elt Ideal) ℓ)

/-! ## Output 3 -/

/-- The reference's output at the kernel's arguments. -/
@[irreducible] def res_nkc (c : Dev nD) : Vec Ideal S65536x64 .f32 := val_main_v181 (F := Ideal) (xin m c) (win m c)

/-- The block the body leaves at point `t`, entry by entry, is the reference's. -/
theorem left_nkc (c : Dev nD) (t : Fin cfg0.N) (r : Fin 512) (q : Fin 64) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_nkc m c (ix2 (tok t r) q) := by
  rw [read_w64, read_w32, read_wPlain, read_wVt, read_wMerge]
  refine (out_nkc (xin m c) (win m c) _ r (tok t r) _ _ _ _ _ _ (read_x m c t r) (read_C64 m c t r) (read_A64 m c t r) (read_B64 m c t r) q).trans ?_
  unfold res_nkc
  exact (ref_nkc (xin m c) (win m c) (tok t r) q).symm

theorem flushed_nkc (c : Dev nD) (t : Fin cfg0.N) (G : Vec Ideal S65536x64 .f32)
    (hG : ∀ (r : Fin 512) (q : Fin 64), out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 15 t = ((cfg0.win 15).blk t).view.read (Elt Ideal) G := by
  rw [Cert.Kernel2Ideal.Value.flushed15]
  funext (j : S512x64.Idx)
  refine Eq.trans ?_ (View.read_apply (Val := Elt Ideal) _ _).symm
  obtain ⟨r, q, rfl⟩ : ∃ (r : Fin 512) (q : Fin 64), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 64 + 1 * q.val; omega

theorem holds_nkc (t : Fin cfg0.N) (i : S65536x64.Idx) (h : (pt t).val = (i 0).val / 512) :
    ∀ a, cc0_transform_15 (grid0.coords t) a * S512x64.size a ≤ (i a).val ∧ (i a).val < cc0_transform_15 (grid0.coords t) a * S512x64.size a + S512x64.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 64 ≤ (i 1).val ∧ (i 1).val < 0 * 64 + 64
    have := (idx2_lt1 i); omega

theorem final_nkc (c : Dev nD) : (dats m 0 c).arrAt 15 cfg0.N = res_nkc m c :=
  (dats m 0 c).arrAt_eq_of_cover 15 (res_nkc m c) (fun t _ => flushed_nkc m c t _ (left_nkc m c t)) fun (i : S65536x64.Idx) => by
    obtain ⟨t, ht⟩ := point_of ⟨(i 0).val / 512, by have := (idx2_lt0 i); omega⟩
    refine ⟨t, flush0_15 t, ?_⟩
    show i ∈ ((View.whole main_v101_3).slice ((cfg0.win 15).rect t)).set
    refine (congrArg (i ∈ ·) (View.set_slice_whole (b := main_v101_3) _)).mpr ?_
    exact (Rect.mem_set_unit).mpr (holds_nkc t i ht)

/-! ## Output 4 -/

/-- The reference's output at the kernel's arguments. -/
@[irreducible] def res_nks (c : Dev nD) : Vec Ideal S65536x64 .f32 := val_main_v220 (F := Ideal) (xin m c) (win m c)

/-- The block the body leaves at point `t`, entry by entry, is the reference's. -/
theorem left_nks (c : Dev nD) (t : Fin cfg0.N) (r : Fin 512) (q : Fin 64) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_nks m c (ix2 (tok t r) q) := by
  rw [read_w64, read_w32, read_wPlain, read_wVt, read_wMerge]
  refine (out_nks (xin m c) (win m c) _ r (tok t r) _ _ _ _ _ _ (read_x m c t r) (read_C64 m c t r) (read_A64 m c t r) (read_B64 m c t r) q).trans ?_
  unfold res_nks
  exact (ref_nks (xin m c) (win m c) (tok t r) q).symm

theorem flushed_nks (c : Dev nD) (t : Fin cfg0.N) (G : Vec Ideal S65536x64 .f32)
    (hG : ∀ (r : Fin 512) (q : Fin 64), out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 16 t = ((cfg0.win 16).blk t).view.read (Elt Ideal) G := by
  rw [Cert.Kernel2Ideal.Value.flushed16]
  funext (j : S512x64.Idx)
  refine Eq.trans ?_ (View.read_apply (Val := Elt Ideal) _ _).symm
  obtain ⟨r, q, rfl⟩ : ∃ (r : Fin 512) (q : Fin 64), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 64 + 1 * q.val; omega

theorem holds_nks (t : Fin cfg0.N) (i : S65536x64.Idx) (h : (pt t).val = (i 0).val / 512) :
    ∀ a, cc0_transform_16 (grid0.coords t) a * S512x64.size a ≤ (i a).val ∧ (i a).val < cc0_transform_16 (grid0.coords t) a * S512x64.size a + S512x64.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 64 ≤ (i 1).val ∧ (i 1).val < 0 * 64 + 64
    have := (idx2_lt1 i); omega

theorem final_nks (c : Dev nD) : (dats m 0 c).arrAt 16 cfg0.N = res_nks m c :=
  (dats m 0 c).arrAt_eq_of_cover 16 (res_nks m c) (fun t _ => flushed_nks m c t _ (left_nks m c t)) fun (i : S65536x64.Idx) => by
    obtain ⟨t, ht⟩ := point_of ⟨(i 0).val / 512, by have := (idx2_lt0 i); omega⟩
    refine ⟨t, flush0_16 t, ?_⟩
    show i ∈ ((View.whole main_v101_4).slice ((cfg0.win 16).rect t)).set
    refine (congrArg (i ∈ ·) (View.set_slice_whole (b := main_v101_4) _)).mpr ?_
    exact (Rect.mem_set_unit).mpr (holds_nks t i ht)

/-! ## Output 5 -/

/-- The reference's output at the kernel's arguments. -/
@[irreducible] def res_nkw (c : Dev nD) : Vec Ideal S65536x64 .f32 := val_main_v259 (F := Ideal) (xin m c) (win m c)

/-- The block the body leaves at point `t`, entry by entry, is the reference's. -/
theorem left_nkw (c : Dev nD) (t : Fin cfg0.N) (r : Fin 512) (q : Fin 64) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_nkw m c (ix2 (tok t r) q) := by
  rw [read_w64, read_w32, read_wPlain, read_wVt, read_wMerge]
  refine (out_nkw (xin m c) (win m c) _ r (tok t r) _ _ _ _ _ _ (read_x m c t r) (read_C64 m c t r) (read_A64 m c t r) (read_B64 m c t r) q).trans ?_
  unfold res_nkw
  exact (ref_nkw (xin m c) (win m c) (tok t r) q).symm

theorem flushed_nkw (c : Dev nD) (t : Fin cfg0.N) (G : Vec Ideal S65536x64 .f32)
    (hG : ∀ (r : Fin 512) (q : Fin 64), out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 17 t = ((cfg0.win 17).blk t).view.read (Elt Ideal) G := by
  rw [Cert.Kernel2Ideal.Value.flushed17]
  funext (j : S512x64.Idx)
  refine Eq.trans ?_ (View.read_apply (Val := Elt Ideal) _ _).symm
  obtain ⟨r, q, rfl⟩ : ∃ (r : Fin 512) (q : Fin 64), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 64 + 1 * q.val; omega

theorem holds_nkw (t : Fin cfg0.N) (i : S65536x64.Idx) (h : (pt t).val = (i 0).val / 512) :
    ∀ a, cc0_transform_17 (grid0.coords t) a * S512x64.size a ≤ (i a).val ∧ (i a).val < cc0_transform_17 (grid0.coords t) a * S512x64.size a + S512x64.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 64 ≤ (i 1).val ∧ (i 1).val < 0 * 64 + 64
    have := (idx2_lt1 i); omega

theorem final_nkw (c : Dev nD) : (dats m 0 c).arrAt 17 cfg0.N = res_nkw m c :=
  (dats m 0 c).arrAt_eq_of_cover 17 (res_nkw m c) (fun t _ => flushed_nkw m c t _ (left_nkw m c t)) fun (i : S65536x64.Idx) => by
    obtain ⟨t, ht⟩ := point_of ⟨(i 0).val / 512, by have := (idx2_lt0 i); omega⟩
    refine ⟨t, flush0_17 t, ?_⟩
    show i ∈ ((View.whole main_v101_5).slice ((cfg0.win 17).rect t)).set
    refine (congrArg (i ∈ ·) (View.set_slice_whole (b := main_v101_5) _)).mpr ?_
    exact (Rect.mem_set_unit).mpr (holds_nkw t i ht)

/-! ## Output 6 -/

/-- The reference's output at the kernel's arguments. -/
@[irreducible] def res_iq (c : Dev nD) : Vec Ideal S65536x128 .f32 := val_main_v298 (F := Ideal) (xin m c) (win m c)

/-- The block the body leaves at point `t`, entry by entry, is the reference's. -/
theorem left_iq (c : Dev nD) (t : Fin cfg0.N) (r : Fin 512) (q : Fin 128) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_iq m c (ix2 (tok t r) q) := by
  rw [read_w64, read_w32, read_wPlain, read_wVt, read_wMerge]
  refine (out_iq (xin m c) (win m c) _ r (tok t r) _ _ _ _ _ _ (read_x m c t r) (read_C32 m c t r) (read_A32 m c t r) (read_B32 m c t r) q).trans ?_
  unfold res_iq
  exact (ref_iq (xin m c) (win m c) (tok t r) q).symm

theorem flushed_iq (c : Dev nD) (t : Fin cfg0.N) (G : Vec Ideal S65536x128 .f32)
    (hG : ∀ (r : Fin 512) (q : Fin 128), out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 18 t = ((cfg0.win 18).blk t).view.read (Elt Ideal) G := by
  rw [Cert.Kernel2Ideal.Value.flushed18]
  funext (j : S512x128.Idx)
  refine Eq.trans ?_ (View.read_apply (Val := Elt Ideal) _ _).symm
  obtain ⟨r, q, rfl⟩ : ∃ (r : Fin 512) (q : Fin 128), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 128 + 1 * q.val; omega

theorem holds_iq (t : Fin cfg0.N) (i : S65536x128.Idx) (h : (pt t).val = (i 0).val / 512) :
    ∀ a, cc0_transform_18 (grid0.coords t) a * S512x128.size a ≤ (i a).val ∧ (i a).val < cc0_transform_18 (grid0.coords t) a * S512x128.size a + S512x128.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 128 ≤ (i 1).val ∧ (i 1).val < 0 * 128 + 128
    have := (idx2_lt1 i); omega

theorem final_iq (c : Dev nD) : (dats m 0 c).arrAt 18 cfg0.N = res_iq m c :=
  (dats m 0 c).arrAt_eq_of_cover 18 (res_iq m c) (fun t _ => flushed_iq m c t _ (left_iq m c t)) fun (i : S65536x128.Idx) => by
    obtain ⟨t, ht⟩ := point_of ⟨(i 0).val / 512, by have := (idx2_lt0 i); omega⟩
    refine ⟨t, flush0_18 t, ?_⟩
    show i ∈ ((View.whole main_v101_6).slice ((cfg0.win 18).rect t)).set
    refine (congrArg (i ∈ ·) (View.set_slice_whole (b := main_v101_6) _)).mpr ?_
    exact (Rect.mem_set_unit).mpr (holds_iq t i ht)

/-! ## Output 7 -/

/-- The reference's output at the kernel's arguments. -/
@[irreducible] def res_ik (c : Dev nD) : Vec Ideal S65536x32 .f32 := val_main_v337 (F := Ideal) (xin m c) (win m c)

/-- The block the body leaves at point `t`, entry by entry, is the reference's. -/
theorem left_ik (c : Dev nD) (t : Fin cfg0.N) (r : Fin 512) (q : Fin 32) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_ik m c (ix2 (tok t r) q) := by
  rw [read_w64, read_w32, read_wPlain, read_wVt, read_wMerge]
  refine (out_ik (xin m c) (win m c) _ r (tok t r) _ _ _ _ _ _ (read_x m c t r) (read_C32 m c t r) (read_A32 m c t r) (read_B32 m c t r) q).trans ?_
  unfold res_ik
  exact (ref_ik (xin m c) (win m c) (tok t r) q).symm

theorem flushed_ik (c : Dev nD) (t : Fin cfg0.N) (G : Vec Ideal S65536x32 .f32)
    (hG : ∀ (r : Fin 512) (q : Fin 32), out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 19 t = ((cfg0.win 19).blk t).view.read (Elt Ideal) G := by
  rw [Cert.Kernel2Ideal.Value.flushed19]
  funext (j : S512x32.Idx)
  refine Eq.trans ?_ (View.read_apply (Val := Elt Ideal) _ _).symm
  obtain ⟨r, q, rfl⟩ : ∃ (r : Fin 512) (q : Fin 32), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 32 + 1 * q.val; omega

theorem holds_ik (t : Fin cfg0.N) (i : S65536x32.Idx) (h : (pt t).val = (i 0).val / 512) :
    ∀ a, cc0_transform_19 (grid0.coords t) a * S512x32.size a ≤ (i a).val ∧ (i a).val < cc0_transform_19 (grid0.coords t) a * S512x32.size a + S512x32.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 32 ≤ (i 1).val ∧ (i 1).val < 0 * 32 + 32
    have := (idx2_lt1 i); omega

theorem final_ik (c : Dev nD) : (dats m 0 c).arrAt 19 cfg0.N = res_ik m c :=
  (dats m 0 c).arrAt_eq_of_cover 19 (res_ik m c) (fun t _ => flushed_ik m c t _ (left_ik m c t)) fun (i : S65536x32.Idx) => by
    obtain ⟨t, ht⟩ := point_of ⟨(i 0).val / 512, by have := (idx2_lt0 i); omega⟩
    refine ⟨t, flush0_19 t, ?_⟩
    show i ∈ ((View.whole main_v101_7).slice ((cfg0.win 19).rect t)).set
    refine (congrArg (i ∈ ·) (View.set_slice_whole (b := main_v101_7) _)).mpr ?_
    exact (Rect.mem_set_unit).mpr (holds_ik t i ht)

end Cert.InProj
-- ==== Proof.InProjValue2.lean ====
/- The final plain arrays of the input projection are the reference's. -/
module

public import proofs.«01_k».proof.Proof.InProjBlocks
public import proofs.«01_k».proof.Proof.InProjPayload
public import proofs.«01_k».proof.Proof.InProjReference
public import Idealize.ShloMosaic.Lib.Pipeline.Value
public import Idealize.ShloMosaic.Lib.Pipeline.Covers
public import Idealize.ShloMosaic.Lib.Tactic

@[expose] public section

set_option maxRecDepth 16384
set_option maxHeartbeats 4000000

noncomputable section

namespace Cert.InProj

open Idealize.ShloMosaic Idealize.ShloMosaic.TcCoe
open Idealize.ShloMosaic.Pipeline (Dat)
open Cert.Kernel2Ideal Cert.Kernel2Ideal.Gen
open Cert.Reference2Ideal.Read (val_main_v338 val_main_v21 val_main_v18 val_main_v15)

variable (m : (ℓ : Loc nD τ sig) → Buf (Elt Ideal) ℓ)

/-! ## Output 8 -/

/-- The reference's output at the kernel's arguments. -/
@[irreducible] def res_nvc (c : Dev nD) : Vec Ideal S65536x64 .f32 := val_main_v338 (F := Ideal) (xin m c) (win m c)

/-- The block the body leaves at point `t`, entry by entry, is the reference's. -/
theorem left_nvc (c : Dev nD) (t : Fin cfg0.N) (r : Fin 512) (q : Fin 64) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_nvc m c (ix2 (tok t r) q) := by
  rw [read_w64, read_w32, read_wPlain, read_wVt, read_wMerge]
  refine (out_nvc (xin m c) (win m c) _ r (tok t r) _ _ _ _ _ _ (read_x m c t r) q).trans ?_
  unfold res_nvc
  exact (ref_nvc (xin m c) (win m c) (tok t r) q).symm

theorem flushed_nvc (c : Dev nD) (t : Fin cfg0.N) (G : Vec Ideal S65536x64 .f32)
    (hG : ∀ (r : Fin 512) (q : Fin 64), out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 20 t = ((cfg0.win 20).blk t).view.read (Elt Ideal) G := by
  rw [Cert.Kernel2Ideal.Value.flushed20]
  funext (j : S512x64.Idx)
  refine Eq.trans ?_ (View.read_apply (Val := Elt Ideal) _ _).symm
  obtain ⟨r, q, rfl⟩ : ∃ (r : Fin 512) (q : Fin 64), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 64 + 1 * q.val; omega

theorem holds_nvc (t : Fin cfg0.N) (i : S65536x64.Idx) (h : (pt t).val = (i 0).val / 512) :
    ∀ a, cc0_transform_20 (grid0.coords t) a * S512x64.size a ≤ (i a).val ∧ (i a).val < cc0_transform_20 (grid0.coords t) a * S512x64.size a + S512x64.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 64 ≤ (i 1).val ∧ (i 1).val < 0 * 64 + 64
    have := (idx2_lt1 i); omega

theorem final_nvc (c : Dev nD) : (dats m 0 c).arrAt 20 cfg0.N = res_nvc m c :=
  (dats m 0 c).arrAt_eq_of_cover 20 (res_nvc m c) (fun t _ => flushed_nvc m c t _ (left_nvc m c t)) fun (i : S65536x64.Idx) => by
    obtain ⟨t, ht⟩ := point_of ⟨(i 0).val / 512, by have := (idx2_lt0 i); omega⟩
    refine ⟨t, flush0_20 t, ?_⟩
    show i ∈ ((View.whole main_v101_8).slice ((cfg0.win 20).rect t)).set
    refine (congrArg (i ∈ ·) (View.set_slice_whole (b := main_v101_8) _)).mpr ?_
    exact (Rect.mem_set_unit).mpr (holds_nvc t i ht)

/-! ## Output 9 -/

/-- The reference's output at the kernel's arguments. -/
@[irreducible] def res_misc (c : Dev nD) : Vec Ideal S65536x128 .f32 := val_main_v21 (F := Ideal) (xin m c) (win m c)

/-- The block the body leaves at point `t`, entry by entry, is the reference's. -/
theorem left_misc (c : Dev nD) (t : Fin cfg0.N) (r : Fin 512) (q : Fin 128) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_misc m c (ix2 (tok t r) q) := by
  rw [read_w64, read_w32, read_wPlain, read_wVt, read_wMerge]
  refine (out_misc (xin m c) (win m c) _ r (tok t r) _ _ _ _ _ _ (read_x m c t r) q).trans ?_
  unfold res_misc
  exact (ref_misc (xin m c) (win m c) (tok t r) q).symm

theorem flushed_misc (c : Dev nD) (t : Fin cfg0.N) (G : Vec Ideal S65536x128 .f32)
    (hG : ∀ (r : Fin 512) (q : Fin 128), out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 21 t = ((cfg0.win 21).blk t).view.read (Elt Ideal) G := by
  rw [Cert.Kernel2Ideal.Value.flushed21]
  funext (j : S512x128.Idx)
  refine Eq.trans ?_ (View.read_apply (Val := Elt Ideal) _ _).symm
  obtain ⟨r, q, rfl⟩ : ∃ (r : Fin 512) (q : Fin 128), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 128 + 1 * q.val; omega

theorem holds_misc (t : Fin cfg0.N) (i : S65536x128.Idx) (h : (pt t).val = (i 0).val / 512) :
    ∀ a, cc0_transform_21 (grid0.coords t) a * S512x128.size a ≤ (i a).val ∧ (i a).val < cc0_transform_21 (grid0.coords t) a * S512x128.size a + S512x128.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 128 ≤ (i 1).val ∧ (i 1).val < 0 * 128 + 128
    have := (idx2_lt1 i); omega

theorem final_misc (c : Dev nD) : (dats m 0 c).arrAt 21 cfg0.N = res_misc m c :=
  (dats m 0 c).arrAt_eq_of_cover 21 (res_misc m c) (fun t _ => flushed_misc m c t _ (left_misc m c t)) fun (i : S65536x128.Idx) => by
    obtain ⟨t, ht⟩ := point_of ⟨(i 0).val / 512, by have := (idx2_lt0 i); omega⟩
    refine ⟨t, flush0_21 t, ?_⟩
    show i ∈ ((View.whole main_v101_9).slice ((cfg0.win 21).rect t)).set
    refine (congrArg (i ∈ ·) (View.set_slice_whole (b := main_v101_9) _)).mpr ?_
    exact (Rect.mem_set_unit).mpr (holds_misc t i ht)

/-! ## Output 10 -/

/-- The reference's output at the kernel's arguments. -/
@[irreducible] def res_gz (c : Dev nD) : Vec Ideal S65536x512 .f32 := val_main_v18 (F := Ideal) (xin m c) (win m c)

/-- The block the body leaves at point `t`, entry by entry, is the reference's. -/
theorem left_gz (c : Dev nD) (t : Fin cfg0.N) (r : Fin 512) (q : Fin 512) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_gz m c (ix2 (tok t r) q) := by
  rw [read_w64, read_w32, read_wPlain, read_wVt, read_wMerge]
  refine (out_gz (xin m c) (win m c) _ r (tok t r) _ _ _ _ _ _ (read_x m c t r) q).trans ?_
  unfold res_gz
  exact (ref_gz (xin m c) (win m c) (tok t r) q).symm

theorem flushed_gz (c : Dev nD) (t : Fin cfg0.N) (G : Vec Ideal S65536x512 .f32)
    (hG : ∀ (r : Fin 512) (q : Fin 512), out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 22 t = ((cfg0.win 22).blk t).view.read (Elt Ideal) G := by
  rw [Cert.Kernel2Ideal.Value.flushed22]
  funext (j : S512x512.Idx)
  refine Eq.trans ?_ (View.read_apply (Val := Elt Ideal) _ _).symm
  obtain ⟨r, q, rfl⟩ : ∃ (r : Fin 512) (q : Fin 512), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 512 + 1 * q.val; omega

theorem holds_gz (t : Fin cfg0.N) (i : S65536x512.Idx) (h : (pt t).val = (i 0).val / 512) :
    ∀ a, cc0_transform_22 (grid0.coords t) a * S512x512.size a ≤ (i a).val ∧ (i a).val < cc0_transform_22 (grid0.coords t) a * S512x512.size a + S512x512.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 512 ≤ (i 1).val ∧ (i 1).val < 0 * 512 + 512
    have := (idx2_lt1 i); omega

theorem final_gz (c : Dev nD) : (dats m 0 c).arrAt 22 cfg0.N = res_gz m c :=
  (dats m 0 c).arrAt_eq_of_cover 22 (res_gz m c) (fun t _ => flushed_gz m c t _ (left_gz m c t)) fun (i : S65536x512.Idx) => by
    obtain ⟨t, ht⟩ := point_of ⟨(i 0).val / 512, by have := (idx2_lt0 i); omega⟩
    refine ⟨t, flush0_22 t, ?_⟩
    show i ∈ ((View.whole main_v101_10).slice ((cfg0.win 22).rect t)).set
    refine (congrArg (i ∈ ·) (View.set_slice_whole (b := main_v101_10) _)).mpr ?_
    exact (Rect.mem_set_unit).mpr (holds_gz t i ht)

/-! ## Output 11 -/

/-- The reference's output at the kernel's arguments. -/
@[irreducible] def res_gqkv (c : Dev nD) : Vec Ideal S65536x1536 .f32 := val_main_v15 (F := Ideal) (xin m c) (win m c)

/-- The block the body leaves at point `t`, entry by entry, is the reference's. -/
theorem left_gqkv (c : Dev nD) (t : Fin cfg0.N) (r : Fin 512) (q : Fin 1536) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_gqkv m c (ix2 (tok t r) q) := by
  rw [read_w64, read_w32, read_wPlain, read_wVt, read_wMerge]
  refine (out_gqkv (xin m c) (win m c) _ r (tok t r) _ _ _ _ _ _ (read_x m c t r) q).trans ?_
  unfold res_gqkv
  exact (ref_gqkv (xin m c) (win m c) (tok t r) q).symm

theorem flushed_gqkv (c : Dev nD) (t : Fin cfg0.N) (G : Vec Ideal S65536x1536 .f32)
    (hG : ∀ (r : Fin 512) (q : Fin 1536), out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 23 t = ((cfg0.win 23).blk t).view.read (Elt Ideal) G := by
  rw [Cert.Kernel2Ideal.Value.flushed23]
  funext (j : S512x1536.Idx)
  refine Eq.trans ?_ (View.read_apply (Val := Elt Ideal) _ _).symm
  obtain ⟨r, q, rfl⟩ : ∃ (r : Fin 512) (q : Fin 1536), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 1536 + 1 * q.val; omega

theorem holds_gqkv (t : Fin cfg0.N) (i : S65536x1536.Idx) (h : (pt t).val = (i 0).val / 512) :
    ∀ a, cc0_transform_23 (grid0.coords t) a * S512x1536.size a ≤ (i a).val ∧ (i a).val < cc0_transform_23 (grid0.coords t) a * S512x1536.size a + S512x1536.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 1536 ≤ (i 1).val ∧ (i 1).val < 0 * 1536 + 1536
    have := (idx2_lt1 i); omega

theorem final_gqkv (c : Dev nD) : (dats m 0 c).arrAt 23 cfg0.N = res_gqkv m c :=
  (dats m 0 c).arrAt_eq_of_cover 23 (res_gqkv m c) (fun t _ => flushed_gqkv m c t _ (left_gqkv m c t)) fun (i : S65536x1536.Idx) => by
    obtain ⟨t, ht⟩ := point_of ⟨(i 0).val / 512, by have := (idx2_lt0 i); omega⟩
    refine ⟨t, flush0_23 t, ?_⟩
    show i ∈ ((View.whole main_v101_11).slice ((cfg0.win 23).rect t)).set
    refine (congrArg (i ∈ ·) (View.set_slice_whole (b := main_v101_11) _)).mpr ?_
    exact (Rect.mem_set_unit).mpr (holds_gqkv t i ht)

end Cert.InProj
-- ==== Proof.InProjValue3.lean ====
/- The final arrays of the values laid out by rows, and of the merge gate, are the reference's. -/
module

public import proofs.«01_k».proof.Proof.InProjBlocks
public import proofs.«01_k».proof.Proof.InProjPayload
public import proofs.«01_k».proof.Proof.InProjReference
public import Idealize.ShloMosaic.Lib.Pipeline.Value
public import Idealize.ShloMosaic.Lib.Pipeline.Covers
public import Idealize.ShloMosaic.Lib.Tactic

@[expose] public section

set_option maxRecDepth 16384
set_option maxHeartbeats 4000000

noncomputable section

namespace Cert.InProj

open Idealize.ShloMosaic Idealize.ShloMosaic.TcCoe
open Idealize.ShloMosaic.Pipeline (Dat)
open Cert.Kernel2Ideal Cert.Kernel2Ideal.Gen
open Cert.Reference2Ideal.Read (val_main_v25 val_main_v344)

variable (m : (ℓ : Loc nD τ sig) → Buf (Elt Ideal) ℓ)

/-! ## Output 12 -/

/-- The reference's output at the kernel's arguments. -/
@[irreducible] def res_vt (c : Dev nD) : Vec Ideal S256x65536 .f32 := val_main_v25 (F := Ideal) (xin m c) (win m c)

/-- The block the body leaves at point `t`, entry by entry, is the reference's. -/
theorem left_vt (c : Dev nD) (t : Fin cfg0.N) (r : Fin 512) (q : Fin 256) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 q r)
      = res_vt m c (ix2 q (tok t r)) := by
  rw [read_w64, read_w32, read_wPlain, read_wVt, read_wMerge]
  refine (out_vt (xin m c) (win m c) _ r (tok t r) _ _ _ _ _ _ (read_x m c t r) q).trans ?_
  unfold res_vt
  exact (ref_vt (xin m c) (win m c) q (tok t r)).symm

theorem flushed_vt (c : Dev nD) (t : Fin cfg0.N) (G : Vec Ideal S256x65536 .f32)
    (hG : ∀ (r : Fin 512) (q : Fin 256), out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 q r) = G (ix2 q (tok t r))) :
    (dats m 0 c).flushed 24 t = ((cfg0.win 24).blk t).view.read (Elt Ideal) G := by
  rw [Cert.Kernel2Ideal.Value.flushed24]
  funext (j : S256x512.Idx)
  refine Eq.trans ?_ (View.read_apply (Val := Elt Ideal) _ _).symm
  obtain ⟨r, q, rfl⟩ : ∃ (r : Fin 512) (q : Fin 256), j = ix2 q r := ⟨j 1, j 0, by funext a; match a with | ⟨0, _⟩ => rfl | ⟨1, _⟩ => rfl⟩
  refine (hG r q).trans ?_
  show G _ = G _
  congr 1
  funext a
  apply Fin.ext
  match a with
  | ⟨0, _⟩ => show q.val = 0 * 256 + 1 * q.val; omega
  | ⟨1, _⟩ =>
    show (pt t).val * 512 + r.val = (BitVec.ofNat 32 (pt t).val).toNat * 512 + 1 * r.val
    rw [word_of, Nat.one_mul]

theorem holds_vt (t : Fin cfg0.N) (i : S256x65536.Idx) (h : (pt t).val = (i 1).val / 512) :
    ∀ a, cc0_transform_24 (grid0.coords t) a * S256x512.size a ≤ (i a).val ∧ (i a).val < cc0_transform_24 (grid0.coords t) a * S256x512.size a + S256x512.size a := by
  intro a
  match a with
  | ⟨0, _⟩ =>
    show 0 * 256 ≤ (i 0).val ∧ (i 0).val < 0 * 256 + 256
    have := (idx2_lt0 i); omega
  | ⟨1, _⟩ =>
    show (BitVec.ofNat 32 (pt t).val).toNat * 512 ≤ (i 1).val ∧ (i 1).val < (BitVec.ofNat 32 (pt t).val).toNat * 512 + 512
    rw [word_of, h]; omega

theorem final_vt (c : Dev nD) : (dats m 0 c).arrAt 24 cfg0.N = res_vt m c :=
  (dats m 0 c).arrAt_eq_of_cover 24 (res_vt m c) (fun t _ => flushed_vt m c t _ (left_vt m c t)) fun (i : S256x65536.Idx) => by
    obtain ⟨t, ht⟩ := point_of ⟨(i 1).val / 512, by have := (idx2_lt1 i); omega⟩
    refine ⟨t, flush0_24 t, ?_⟩
    show i ∈ ((View.whole main_v101_12).slice ((cfg0.win 24).rect t)).set
    refine (congrArg (i ∈ ·) (View.set_slice_whole (b := main_v101_12) _)).mpr ?_
    exact (Rect.mem_set_unit).mpr (holds_vt t i ht)

/-! ## Output 13 -/

/-- The reference's output at the kernel's arguments. -/
@[irreducible] def res_merge (c : Dev nD) : Vec Ideal S65536x3072 .f32 := val_main_v344 (F := Ideal) (xin m c) (win m c)

/-- The block the body leaves at point `t`, entry by entry, is the reference's. -/
theorem left_merge (c : Dev nD) (t : Fin cfg0.N) (r : Fin 512) (q : Fin 3072) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q)
      = res_merge m c (ix2 (tok t r) q) := by
  rw [read_w64, read_w32, read_wPlain, read_wVt, read_wMerge]
  refine (out_merge (xin m c) (win m c) _ r (tok t r) _ _ _ _ _ _ (read_x m c t r) q).trans ?_
  unfold res_merge
  exact (ref_merge (xin m c) (win m c) (tok t r) q).symm

theorem flushed_merge (c : Dev nD) (t : Fin cfg0.N) (G : Vec Ideal S65536x3072 .f32)
    (hG : ∀ (r : Fin 512) (q : Fin 3072), out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = G (ix2 (tok t r) q)) :
    (dats m 0 c).flushed 25 t = ((cfg0.win 25).blk t).view.read (Elt Ideal) G := by
  rw [Cert.Kernel2Ideal.Value.flushed25]
  funext (j : S512x3072.Idx)
  refine Eq.trans ?_ (View.read_apply (Val := Elt Ideal) _ _).symm
  obtain ⟨r, q, rfl⟩ : ∃ (r : Fin 512) (q : Fin 3072), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 3072 + 1 * q.val; omega

theorem holds_merge (t : Fin cfg0.N) (i : S65536x3072.Idx) (h : (pt t).val = (i 0).val / 512) :
    ∀ a, cc0_transform_25 (grid0.coords t) a * S512x3072.size a ≤ (i a).val ∧ (i a).val < cc0_transform_25 (grid0.coords t) a * S512x3072.size a + S512x3072.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 3072 ≤ (i 1).val ∧ (i 1).val < 0 * 3072 + 3072
    have := (idx2_lt1 i); omega

theorem final_merge (c : Dev nD) : (dats m 0 c).arrAt 25 cfg0.N = res_merge m c :=
  (dats m 0 c).arrAt_eq_of_cover 25 (res_merge m c) (fun t _ => flushed_merge m c t _ (left_merge m c t)) fun (i : S65536x3072.Idx) => by
    obtain ⟨t, ht⟩ := point_of ⟨(i 0).val / 512, by have := (idx2_lt0 i); omega⟩
    refine ⟨t, flush0_25 t, ?_⟩
    show i ∈ ((View.whole main_v101_13).slice ((cfg0.win 25).rect t)).set
    refine (congrArg (i ∈ ·) (View.set_slice_whole (b := main_v101_13) _)).mpr ?_
    exact (Rect.mem_set_unit).mpr (holds_merge t i ht)

end Cert.InProj
-- ==== Proof.InProjClaims.lean ====
/- The claims about the input projection: the frames, and the value claim. -/
module

public import proofs.«01_k».proof.Defs
public import proofs.«01_k».proof.Proof.InProjValue0
public import proofs.«01_k».proof.Proof.InProjValue1
public import proofs.«01_k».proof.Proof.InProjValue2
public import proofs.«01_k».proof.Proof.InProjValue3
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

@[expose] public section

set_option maxRecDepth 16384
set_option maxHeartbeats 4000000

noncomputable section

namespace Cert.InProj

open Idealize.ShloMosaic Idealize.ShloMosaic.TcCoe
open Idealize.SL.Sem
open Cert.Kernel2Ideal Cert.Kernel2Ideal.Gen
open Cert.Reference2Ideal.Read (val_main_v64 val_main_v64_eq val_main_v103 val_main_v103_eq val_main_v142 val_main_v142_eq val_main_v181 val_main_v181_eq val_main_v220 val_main_v220_eq val_main_v259 val_main_v259_eq val_main_v298 val_main_v298_eq val_main_v337 val_main_v337_eq val_main_v338 val_main_v338_eq val_main_v21 val_main_v21_eq val_main_v18 val_main_v18_eq val_main_v15 val_main_v15_eq val_main_v25 val_main_v25_eq val_main_v344 val_main_v344_eq)

attribute [local instance] Cert.Kernel2.Gen.facts Cert.Kernel2Ideal.Gen.facts Cert.Reference2Ideal.Gen.facts

theorem frame_bits : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => by obtain ⟨_, _, _, _, _, _, _, _, _, _, _, _, _, _, a0, a1⟩ := h c; exact ⟨a0, a1⟩, sem_eq_zero_of_no_sems rfl r.2⟩)
    (Cert.Reference2Ideal.Value.run m ρ)

variable (m : (ℓ : Loc nD τ sig) → Buf (Elt Ideal) ℓ)

theorem res_dq_eq (c : Dev nD) : val_main_v64 (F := Ideal) (xin m c) (win m c) = res_dq m c := by unfold res_dq; rfl

theorem res_nq_eq (c : Dev nD) : val_main_v103 (F := Ideal) (xin m c) (win m c) = res_nq m c := by unfold res_nq; rfl

theorem res_krot_eq (c : Dev nD) : val_main_v142 (F := Ideal) (xin m c) (win m c) = res_krot m c := by unfold res_krot; rfl

theorem res_nkc_eq (c : Dev nD) : val_main_v181 (F := Ideal) (xin m c) (win m c) = res_nkc m c := by unfold res_nkc; rfl

theorem res_nks_eq (c : Dev nD) : val_main_v220 (F := Ideal) (xin m c) (win m c) = res_nks m c := by unfold res_nks; rfl

theorem res_nkw_eq (c : Dev nD) : val_main_v259 (F := Ideal) (xin m c) (win m c) = res_nkw m c := by unfold res_nkw; rfl

theorem res_iq_eq (c : Dev nD) : val_main_v298 (F := Ideal) (xin m c) (win m c) = res_iq m c := by unfold res_iq; rfl

theorem res_ik_eq (c : Dev nD) : val_main_v337 (F := Ideal) (xin m c) (win m c) = res_ik m c := by unfold res_ik; rfl

theorem res_nvc_eq (c : Dev nD) : val_main_v338 (F := Ideal) (xin m c) (win m c) = res_nvc m c := by unfold res_nvc; rfl

theorem res_misc_eq (c : Dev nD) : val_main_v21 (F := Ideal) (xin m c) (win m c) = res_misc m c := by unfold res_misc; rfl

theorem res_gz_eq (c : Dev nD) : val_main_v18 (F := Ideal) (xin m c) (win m c) = res_gz m c := by unfold res_gz; rfl

theorem res_gqkv_eq (c : Dev nD) : val_main_v15 (F := Ideal) (xin m c) (win m c) = res_gqkv m c := by unfold res_gqkv; rfl

theorem res_vt_eq (c : Dev nD) : val_main_v25 (F := Ideal) (xin m c) (win m c) = res_vt m c := by unfold res_vt; rfl

theorem res_merge_eq (c : Dev nD) : val_main_v344 (F := Ideal) (xin m c) (win m c) = res_merge m c := by unfold res_merge; rfl

/-- At the same arguments the kernel's fourteen outputs over the reals are the reference's. -/
theorem value : Cert.algebraic_Kernel2Ideal_Reference2Ideal := fun m ρ m' ρ' _ hargs => by
  refine ⟨fun c => res_dq m c, fun c => res_nq m c, fun c => res_krot m c, fun c => res_nkc m c, fun c => res_nks m c, fun c => res_nkw m c, fun c => res_iq m c, fun c => res_ik m c, fun c => res_nvc m c, fun c => res_misc m c, fun c => res_gz m c, fun c => res_gqkv m c, fun c => res_vt m c, fun c => res_merge m c, ?_, ?_⟩
  · refine (θ_run defs _ _).mono (fun r h c => ?_) (Cert.Kernel2Ideal.Value.run_blocks m ρ)
    obtain ⟨p0, p1, p2, p3, p4, p5, p6, p7, p8, p9, p10, p11, p12, p13, a0, a1⟩ := h c
    exact ⟨p0.trans (final_dq m c), p1.trans (final_nq m c), p2.trans (final_krot m c), p3.trans (final_nkc m c), p4.trans (final_nks m c), p5.trans (final_nkw m c), p6.trans (final_iq m c), p7.trans (final_ik m c), p8.trans (final_nvc m c), p9.trans (final_misc m c), p10.trans (final_gz m c), p11.trans (final_gqkv m c), p12.trans (final_vt m c), p13.trans (final_merge m c), a0, a1⟩
  · refine (θ_run Cert.Reference2Ideal.defs _ _).mono (fun r h c => ?_) (Cert.Reference2Ideal.Value.run m' ρ')
    obtain ⟨h0, h1⟩ := hargs c
    obtain ⟨p0, p1, p2, p3, p4, p5, p6, p7, p8, p9, p10, p11, p12, p13, a0, a1⟩ := h c
    have key : ∀ {s : Shape} (f : Vec Ideal S16x4096x1024 .f32 → Vec Ideal S1024x6788 .f32 → Vec Ideal s .f32),
        f (m' ((c.tc : Thread Cert.Reference2Ideal.nD Cert.Reference2Ideal.τ).loc Cert.Reference2Ideal.main_arg0))
            (m' ((c.tc : Thread Cert.Reference2Ideal.nD Cert.Reference2Ideal.τ).loc Cert.Reference2Ideal.main_arg1))
          = f (xin m c) (win m c) := by
      intro s f
      rw [h0, h1]
    exact ⟨p0.trans ((val_main_v64_eq _).trans ((key (val_main_v64 (F := Ideal))).trans (res_dq_eq m c))),
      p1.trans ((val_main_v103_eq _).trans ((key (val_main_v103 (F := Ideal))).trans (res_nq_eq m c))),
      p2.trans ((val_main_v142_eq _).trans ((key (val_main_v142 (F := Ideal))).trans (res_krot_eq m c))),
      p3.trans ((val_main_v181_eq _).trans ((key (val_main_v181 (F := Ideal))).trans (res_nkc_eq m c))),
      p4.trans ((val_main_v220_eq _).trans ((key (val_main_v220 (F := Ideal))).trans (res_nks_eq m c))),
      p5.trans ((val_main_v259_eq _).trans ((key (val_main_v259 (F := Ideal))).trans (res_nkw_eq m c))),
      p6.trans ((val_main_v298_eq _).trans ((key (val_main_v298 (F := Ideal))).trans (res_iq_eq m c))),
      p7.trans ((val_main_v337_eq _).trans ((key (val_main_v337 (F := Ideal))).trans (res_ik_eq m c))),
      p8.trans ((val_main_v338_eq _).trans ((key (val_main_v338 (F := Ideal))).trans (res_nvc_eq m c))),
      p9.trans ((val_main_v21_eq _).trans ((key (val_main_v21 (F := Ideal))).trans (res_misc_eq m c))),
      p10.trans ((val_main_v18_eq _).trans ((key (val_main_v18 (F := Ideal))).trans (res_gz_eq m c))),
      p11.trans ((val_main_v15_eq _).trans ((key (val_main_v15 (F := Ideal))).trans (res_gqkv_eq m c))),
      p12.trans ((val_main_v25_eq _).trans ((key (val_main_v25 (F := Ideal))).trans (res_vt_eq m c))),
      p13.trans ((val_main_v344_eq _).trans ((key (val_main_v344 (F := Ideal))).trans (res_merge_eq m c))), a0, a1⟩

end Cert.InProj
-- ==== Proof.MergeMath.lean ====
/- The merge of the mixers in plain terms: one token's gated sum of the three branch products, its output row, the layer norm of a
   row, and the router's score of a row. -/
module

public import proofs.«01_k».proof.Kernel3Ideal
public import Idealize.ShloMosaic.Lib.Pointwise
public import Idealize.ShloMosaic.Lib.Tactic

@[expose] public section

set_option maxRecDepth 16384
set_option maxHeartbeats 4000000

noncomputable section

namespace Cert.Merge

open Idealize.ShloMosaic Idealize.ShloMosaic.TcCoe

open Cert.Kernel3Ideal

/-- Entry `k` of the gated sum: each mixer's row times its projection's column, times the gate's entry, summed over the three. -/
def gated (a b c : Fin 512 → EReal) (g0 g1 g2 : Fin 1024 → EReal) (w0 w1 w2 : Fin 512 → Fin 1024 → EReal) (k : Fin 1024) : EReal :=
  g0 k * ∑ j, a j * w0 j k + g1 k * ∑ j, b j * w1 j k + g2 k * ∑ j, c j * w2 j k

/-- The factor of the layer's input in the sum. -/
def alpha : EReal := Ideal.ofBits .f32 0x3FD744FD#32

/-- The length of a row. -/
def len : EReal := Ideal.ofBits .f32 0x44800000#32

/-- The norm's small term. -/
def small : EReal := Ideal.ofBits .f32 0x3727C5AC#32

/-- Entry `d` of the row before its norm: the scaled input plus the merged row's product with the output projection. -/
def joined (x u : Fin 1024 → EReal) (wo : Fin 1024 → Fin 1024 → EReal) (d : Fin 1024) : EReal :=
  alpha * x d + ∑ k, u k * wo k d

/-- The mean of a row. -/
def mean (v : Fin 1024 → EReal) : EReal := Ideal.div (∑ k, v k) len

/-- Entry `d` of the layer norm of a row. -/
def norm (v g b : Fin 1024 → EReal) (d : Fin 1024) : EReal :=
  (v d - mean v) * Ideal.rsqrt (mean (fun k => (v k - mean v) * (v k - mean v)) + small) * g d + b d

/-- The router's score of a row for one expert's column. -/
def score (v w : Fin 1024 → EReal) : EReal := Ideal.logistic (∑ k, v k * w k)

theorem joined_congr {x x' : Fin 1024 → EReal} {a a' b b' c c' : Fin 512 → EReal} {g0 g0' g1 g1' g2 g2' : Fin 1024 → EReal}
    {w0 w0' w1 w1' w2 w2' : Fin 512 → Fin 1024 → EReal} {wo wo' : Fin 1024 → Fin 1024 → EReal}
    (hx : ∀ k, x k = x' k) (ha : ∀ j, a j = a' j) (hb : ∀ j, b j = b' j) (hc : ∀ j, c j = c' j)
    (h0 : ∀ k, g0 k = g0' k) (h1 : ∀ k, g1 k = g1' k) (h2 : ∀ k, g2 k = g2' k)
    (k0 : ∀ j k, w0 j k = w0' j k) (k1 : ∀ j k, w1 j k = w1' j k) (k2 : ∀ j k, w2 j k = w2' j k) (ho : ∀ k d, wo k d = wo' k d)
    (d : Fin 1024) :
    joined x (gated a b c g0 g1 g2 w0 w1 w2) wo d = joined x' (gated a' b' c' g0' g1' g2' w0' w1' w2') wo' d := by
  obtain rfl := funext hx
  obtain rfl := funext ha
  obtain rfl := funext hb
  obtain rfl := funext hc
  obtain rfl := funext h0
  obtain rfl := funext h1
  obtain rfl := funext h2
  obtain rfl := funext fun j => funext (k0 j)
  obtain rfl := funext fun j => funext (k1 j)
  obtain rfl := funext fun j => funext (k2 j)
  obtain rfl := funext fun j => funext (ho j)
  rfl

theorem norm_congr {v v' g g' b b' : Fin 1024 → EReal} (hv : v = v') (hg : ∀ k, g k = g' k) (hb : ∀ k, b k = b' k) :
    norm v g b = norm v' g' b' := by
  obtain rfl := funext hg
  obtain rfl := funext hb
  rw [hv]

theorem score_congr {v v' w w' : Fin 1024 → EReal} (hv : v = v') (hw : ∀ k, w k = w' k) : score v w = score v' w' := by
  obtain rfl := funext hw
  rw [hv]

/-! ## The token's rows, from the arrays -/

variable (ya yb yc : Vec Ideal S65536x512 .bf16) (mg : Vec Ideal S65536x3072 .f32) (x : Vec Ideal S65536x1024 .f32)
variable (wb : Vec Ideal S3x512x1024 .f32) (wo : Vec Ideal S1024x1024 .f32) (lg lb : Vec Ideal S1024 .f32) (wr : Vec Ideal S1024x64 .f32)

/-- Token `t`'s row before its norm. -/
def rowAt (t : Fin 65536) : Fin 1024 → EReal :=
  joined (fun k => x (ix2 t k))
    (gated (fun j => ya (ix2 t j)) (fun j => yb (ix2 t j)) (fun j => yc (ix2 t j))
      (fun k => mg (ix2 t ⟨k.val, by omega⟩)) (fun k => mg (ix2 t ⟨1024 + k.val, by omega⟩)) (fun k => mg (ix2 t ⟨2048 + k.val, by omega⟩))
      (fun j k => wb (ix3 0 j k)) (fun j k => wb (ix3 1 j k)) (fun j k => wb (ix3 2 j k)))
    (fun k d => wo (ix2 k d))

/-- Token `t`'s row after its norm. -/
def outAt (t : Fin 65536) : Fin 1024 → EReal :=
  norm (rowAt ya yb yc mg x wb wo t) (fun k => lg (ix1 k)) (fun k => lb (ix1 k))

/-- Token `t`'s score for expert `e`. -/
def scoreAt (t : Fin 65536) (e : Fin 64) : EReal := score (outAt ya yb yc mg x wb wo lg lb t) (fun k => wr (ix2 k e))

end Cert.Merge
-- ==== Proof.MergeBlocks.lean ====
/- The blocks the merge kernel reads at a grid point: the rows of 512 tokens, and the whole weights. -/
module

public import proofs.«01_k».proof.Proof.MergeMath
public import proofs.«01_k».proof.Proof.Gen.Kernel3Ideal.Value
public import Idealize.ShloMosaic.Lib.Pipeline.Value
public import Idealize.ShloMosaic.Lib.Pipeline.Covers
public import Idealize.ShloMosaic.Lib.StableHlo.Run

@[expose] public section

set_option maxRecDepth 16384
set_option maxHeartbeats 4000000

noncomputable section

namespace Cert.Merge

open Idealize.ShloMosaic Idealize.ShloMosaic.TcCoe

open Cert.Kernel3Ideal Cert.Kernel3Ideal.Gen

variable (m : (ℓ : Loc nD τ sig) → Buf (Elt Ideal) ℓ)

abbrev in_ya (c : Dev nD) : Vec Ideal S65536x512 .bf16 := m ((c : Thread nD τ).loc main_arg0)
abbrev in_yb (c : Dev nD) : Vec Ideal S65536x512 .bf16 := m ((c : Thread nD τ).loc main_arg1)
abbrev in_yc (c : Dev nD) : Vec Ideal S65536x512 .bf16 := m ((c : Thread nD τ).loc main_arg2)
abbrev in_mg (c : Dev nD) : Vec Ideal S65536x3072 .f32 := m ((c : Thread nD τ).loc main_arg3)
abbrev in_x (c : Dev nD) : Vec Ideal S65536x1024 .f32 := m ((c : Thread nD τ).loc main_arg4)
abbrev in_wb (c : Dev nD) : Vec Ideal S3x512x1024 .f32 := m ((c : Thread nD τ).loc main_arg5)
abbrev in_wo (c : Dev nD) : Vec Ideal S1024x1024 .f32 := m ((c : Thread nD τ).loc main_arg6)
abbrev in_lg (c : Dev nD) : Vec Ideal S1024 .f32 := m ((c : Thread nD τ).loc main_arg7)
abbrev in_lb (c : Dev nD) : Vec Ideal S1024 .f32 := m ((c : Thread nD τ).loc main_arg8)
abbrev in_wr (c : Dev nD) : Vec Ideal S1024x64 .f32 := m ((c : Thread nD τ).loc main_arg9)

/-! ## The arrays the host prepares -/

theorem entry_wb (c : Dev nD) : (V m c main_v0 : Vec Ideal S3x512x1024 .bf16) = (truncf .bf16 (in_wb m c : FVec Ideal S3x512x1024 .f32) bitsLt_bf16_f32 : FVec Ideal S3x512x1024 .bf16) := by
  unfold V
  simp only [hostOps0]
  after_results_simp

theorem entry_wo (c : Dev nD) : (V m c main_v1 : Vec Ideal S1024x1024 .bf16) = (truncf .bf16 (in_wo m c : FVec Ideal S1024x1024 .f32) bitsLt_bf16_f32 : FVec Ideal S1024x1024 .bf16) := by
  unfold V
  simp only [hostOps0]
  after_results_simp

theorem entry_wr (c : Dev nD) : (V m c main_v3 : Vec Ideal S64x1024 .bf16) = (truncf .bf16 (transpose S64x1024 [1, 0] (in_wr m c) transposes_S1024x64_S64x1024_1_0 : FVec Ideal S64x1024 .f32) bitsLt_bf16_f32 : FVec Ideal S64x1024 .bf16) := by
  unfold V
  simp only [hostOps0]
  after_results_simp

theorem entry_lg (c : Dev nD) : (V m c main_v4 : Vec Ideal S1x1024 .f32) = shapeCast _ (in_lg m c) shapeCasts_S1024_S1x1024 := by
  unfold V
  simp only [hostOps0]
  after_results_simp
  rfl

theorem entry_lb (c : Dev nD) : (V m c main_v5 : Vec Ideal S1x1024 .f32) = shapeCast _ (in_lb m c) shapeCasts_S1024_S1x1024 := by
  unfold V
  simp only [hostOps0]
  after_results_simp
  rfl

/-! ## The blocks -/

/-- The grid point's block of tokens. -/
abbrev pt (t : Fin cfg0.N) : Fin 128 := grid0.coords t 0

/-- Row `r` of the block's token. -/
abbrev tok (t : Fin cfg0.N) (r : Fin 512) : Fin 65536 := ⟨(pt t).val * 512 + r.val, by have := (pt t).isLt; omega⟩

/-- Every block of tokens is a grid point's. -/
theorem point_of (k : Fin 128) : ∃ t : Fin cfg0.N, (pt t).val = k.val := by
  obtain ⟨t, ht⟩ := Pipeline.Grid.coords_surjective grid0 (fun a => match a with | ⟨0, _⟩ => k)
  exact ⟨t, congrArg Fin.val (congrFun ht 0)⟩

theorem word_of (n : Fin 128) : (BitVec.ofNat 32 n.val).toNat = n.val := by
  rw [BitVec.toNat_ofNat]; have := n.isLt; omega

theorem read_ya (c : Dev nD) (t : Fin cfg0.N) (r : Fin 512) (k : Fin 512) :
    (iblk m c 0 t : Vec Ideal S512x512 .bf16) (ix2 r k) = in_ya m c (ix2 (tok t r) k) := by
  unfold iblk
  refine (View.read_apply (Val := Elt Ideal) _ _).trans ?_
  show (V m c main_arg0 : Vec Ideal S65536x512 .bf16) _ = _
  rw [V_main_arg0]
  congr 1
  funext a
  apply Fin.ext
  match a with
  | ⟨0, _⟩ =>
    show (BitVec.ofNat 32 (pt t).val).toNat * 512 + 1 * r.val = (pt t).val * 512 + r.val
    rw [word_of, Nat.one_mul]
  | ⟨1, _⟩ => show 0 * 512 + 1 * k.val = k.val; omega

theorem read_yb (c : Dev nD) (t : Fin cfg0.N) (r : Fin 512) (k : Fin 512) :
    (iblk m c 1 t : Vec Ideal S512x512 .bf16) (ix2 r k) = in_yb m c (ix2 (tok t r) k) := by
  unfold iblk
  refine (View.read_apply (Val := Elt Ideal) _ _).trans ?_
  show (V m c main_arg1 : Vec Ideal S65536x512 .bf16) _ = _
  rw [V_main_arg1]
  congr 1
  funext a
  apply Fin.ext
  match a with
  | ⟨0, _⟩ =>
    show (BitVec.ofNat 32 (pt t).val).toNat * 512 + 1 * r.val = (pt t).val * 512 + r.val
    rw [word_of, Nat.one_mul]
  | ⟨1, _⟩ => show 0 * 512 + 1 * k.val = k.val; omega

theorem read_yc (c : Dev nD) (t : Fin cfg0.N) (r : Fin 512) (k : Fin 512) :
    (iblk m c 2 t : Vec Ideal S512x512 .bf16) (ix2 r k) = in_yc m c (ix2 (tok t r) k) := by
  unfold iblk
  refine (View.read_apply (Val := Elt Ideal) _ _).trans ?_
  show (V m c main_arg2 : Vec Ideal S65536x512 .bf16) _ = _
  rw [V_main_arg2]
  congr 1
  funext a
  apply Fin.ext
  match a with
  | ⟨0, _⟩ =>
    show (BitVec.ofNat 32 (pt t).val).toNat * 512 + 1 * r.val = (pt t).val * 512 + r.val
    rw [word_of, Nat.one_mul]
  | ⟨1, _⟩ => show 0 * 512 + 1 * k.val = k.val; omega

theorem read_mg (c : Dev nD) (t : Fin cfg0.N) (r : Fin 512) (k : Fin 3072) :
    (iblk m c 3 t : Vec Ideal S512x3072 .f32) (ix2 r k) = in_mg m c (ix2 (tok t r) k) := by
  unfold iblk
  refine (View.read_apply (Val := Elt Ideal) _ _).trans ?_
  show (V m c main_arg3 : Vec Ideal S65536x3072 .f32) _ = _
  rw [V_main_arg3]
  congr 1
  funext a
  apply Fin.ext
  match a with
  | ⟨0, _⟩ =>
    show (BitVec.ofNat 32 (pt t).val).toNat * 512 + 1 * r.val = (pt t).val * 512 + r.val
    rw [word_of, Nat.one_mul]
  | ⟨1, _⟩ => show 0 * 3072 + 1 * k.val = k.val; omega

theorem read_x (c : Dev nD) (t : Fin cfg0.N) (r : Fin 512) (k : Fin 1024) :
    (iblk m c 4 t : Vec Ideal S512x1024 .f32) (ix2 r k) = in_x m c (ix2 (tok t r) k) := by
  unfold iblk
  refine (View.read_apply (Val := Elt Ideal) _ _).trans ?_
  show (V m c main_arg4 : Vec Ideal S65536x1024 .f32) _ = _
  rw [V_main_arg4]
  congr 1
  funext a
  apply Fin.ext
  match a with
  | ⟨0, _⟩ =>
    show (BitVec.ofNat 32 (pt t).val).toNat * 512 + 1 * r.val = (pt t).val * 512 + r.val
    rw [word_of, Nat.one_mul]
  | ⟨1, _⟩ => show 0 * 1024 + 1 * k.val = k.val; omega

theorem read_wb (c : Dev nD) (t : Fin cfg0.N) (b : Fin 3) (j : Fin 512) (k : Fin 1024) :
    (iblk m c 5 t : Vec Ideal S3x512x1024 .bf16) (ix3 b j k) = in_wb m c (ix3 b j k) := by
  refine Eq.trans (b := (V m c main_v0 : Vec Ideal S3x512x1024 .bf16) (ix3 b j k)) ?_ ?_
  · unfold iblk
    refine (View.read_apply (Val := Elt Ideal) _ _).trans ?_
    show (V m c main_v0 : Vec Ideal S3x512x1024 .bf16) _ = (V m c main_v0 : Vec Ideal S3x512x1024 .bf16) _
    congr 1
    funext a
    apply Fin.ext
    match a with
    | ⟨0, _⟩ => show 0 * 3 + 1 * b.val = b.val; omega
    | ⟨1, _⟩ => show 0 * 512 + 1 * j.val = j.val; omega
    | ⟨2, _⟩ => show 0 * 1024 + 1 * k.val = k.val; omega
  · rw [entry_wb]
    pointwise []

theorem read_wo (c : Dev nD) (t : Fin cfg0.N) (k d : Fin 1024) :
    (iblk m c 6 t : Vec Ideal S1024x1024 .bf16) (ix2 k d) = in_wo m c (ix2 k d) := by
  refine Eq.trans (b := (V m c main_v1 : Vec Ideal S1024x1024 .bf16) (ix2 k d)) ?_ ?_
  · unfold iblk
    refine (View.read_apply (Val := Elt Ideal) _ _).trans ?_
    show (V m c main_v1 : Vec Ideal S1024x1024 .bf16) _ = (V m c main_v1 : Vec Ideal S1024x1024 .bf16) _
    congr 1
    funext a
    apply Fin.ext
    match a with
    | ⟨0, _⟩ => show 0 * 1024 + 1 * k.val = k.val; omega
    | ⟨1, _⟩ => show 0 * 1024 + 1 * d.val = d.val; omega
  · rw [entry_wo]
    pointwise []

theorem read_lg (c : Dev nD) (t : Fin cfg0.N) (k : Fin 1024) :
    (iblk m c 7 t : Vec Ideal S1x1024 .f32) (ix2 0 k) = in_lg m c (ix1 k) := by
  refine Eq.trans (b := (V m c main_v4 : Vec Ideal S1x1024 .f32) (ix2 0 k)) ?_ ?_
  · unfold iblk
    refine (View.read_apply (Val := Elt Ideal) _ _).trans ?_
    show (V m c main_v4 : Vec Ideal S1x1024 .f32) _ = (V m c main_v4 : Vec Ideal S1x1024 .f32) _
    congr 1
    funext a
    apply Fin.ext
    match a with
    | ⟨0, _⟩ => show 0 * 1 + 1 * 0 = 0; omega
    | ⟨1, _⟩ => show 0 * 1024 + 1 * k.val = k.val; omega
  · rw [entry_lg]
    pointwise []

theorem read_lb (c : Dev nD) (t : Fin cfg0.N) (k : Fin 1024) :
    (iblk m c 8 t : Vec Ideal S1x1024 .f32) (ix2 0 k) = in_lb m c (ix1 k) := by
  refine Eq.trans (b := (V m c main_v5 : Vec Ideal S1x1024 .f32) (ix2 0 k)) ?_ ?_
  · unfold iblk
    refine (View.read_apply (Val := Elt Ideal) _ _).trans ?_
    show (V m c main_v5 : Vec Ideal S1x1024 .f32) _ = (V m c main_v5 : Vec Ideal S1x1024 .f32) _
    congr 1
    funext a
    apply Fin.ext
    match a with
    | ⟨0, _⟩ => show 0 * 1 + 1 * 0 = 0; omega
    | ⟨1, _⟩ => show 0 * 1024 + 1 * k.val = k.val; omega
  · rw [entry_lb]
    pointwise []

theorem read_wr (c : Dev nD) (t : Fin cfg0.N) (e : Fin 64) (k : Fin 1024) :
    (iblk m c 9 t : Vec Ideal S64x1024 .bf16) (ix2 e k) = in_wr m c (ix2 k e) := by
  refine Eq.trans (b := (V m c main_v3 : Vec Ideal S64x1024 .bf16) (ix2 e k)) ?_ ?_
  · unfold iblk
    refine (View.read_apply (Val := Elt Ideal) _ _).trans ?_
    show (V m c main_v3 : Vec Ideal S64x1024 .bf16) _ = (V m c main_v3 : Vec Ideal S64x1024 .bf16) _
    congr 1
    funext a
    apply Fin.ext
    match a with
    | ⟨0, _⟩ => show 0 * 64 + 1 * e.val = e.val; omega
    | ⟨1, _⟩ => show 0 * 1024 + 1 * k.val = k.val; omega
  · rw [entry_wr]
    pointwise []

end Cert.Merge
-- ==== Proof.MergePayload.lean ====
/- What one block of the merge kernel leaves in each output, entry by entry: for the row that holds token `t`, the token's row
   after its norm, and its scores. -/
module

public import proofs.«01_k».proof.Proof.MergeMath
public import proofs.«01_k».proof.Proof.Gen.Kernel3Ideal.Value
public import Idealize.ShloMosaic.Lib.Pipeline.ValueKit

@[expose] public section

set_option maxRecDepth 16384
set_option maxHeartbeats 4000000

noncomputable section

namespace Cert.Merge

open Idealize.ShloMosaic Idealize.ShloMosaic.TcCoe

open Cert.Kernel3Ideal Cert.Kernel3Ideal.Gen

theorem pay_joined (v0 v6 v13 v20 : Vec Ideal S512x1024 .f32) (v1 v7 v14 : Vec Ideal S512x512 .bf16) (v2 v8 v15 : Vec Ideal S1x512x1024 .bf16)
    (v24 : Vec Ideal S1024x1024 .bf16) (r : Fin 512) (d : Fin 1024) :
    k0_pay2 (F := Ideal) v0 v1 v2 v6 v7 v8 v13 v14 v15 v20 v24 (ix2 r d)
      = joined (fun k => v20 (ix2 r k))
          (gated (fun j => v1 (ix2 r j)) (fun j => v7 (ix2 r j)) (fun j => v14 (ix2 r j))
            (fun k => v0 (ix2 r k)) (fun k => v6 (ix2 r k)) (fun k => v13 (ix2 r k))
            (fun j k => v2 (ix3 0 j k)) (fun j k => v8 (ix3 0 j k)) (fun j k => v15 (ix3 0 j k)))
          (fun k d => v24 (ix2 k d)) d := by
  pointwise [k0_pay2]
  rfl

theorem pay_norm (v : Vec Ideal S512x1024 .f32) (g b : Vec Ideal S1x1024 .f32) (r : Fin 512) (d : Fin 1024) :
    k0_pay3 (F := Ideal) v g b (ix2 r d)
      = norm (fun k => v (ix2 r k)) (fun k => g (ix2 0 k)) (fun k => b (ix2 0 k)) d := by
  pointwise [k0_pay3]
  rfl

theorem pay_normb (v : Vec Ideal S512x1024 .f32) (g b : Vec Ideal S1x1024 .f32) (r : Fin 512) (d : Fin 1024) :
    k0_pay4 (F := Ideal) v g b (ix2 r d)
      = norm (fun k => v (ix2 r k)) (fun k => g (ix2 0 k)) (fun k => b (ix2 0 k)) d := by
  pointwise [k0_pay4]
  rw [pay_norm]

theorem pay_score (v : Vec Ideal S512x1024 .f32) (g b : Vec Ideal S1x1024 .f32) (w : Vec Ideal S64x1024 .bf16) (e : Fin 64) (r : Fin 512) :
    k0_pay1 (F := Ideal) (k0_pay6 v g b w) (ix2 e r)
      = score (norm (fun k => v (ix2 r k)) (fun k => g (ix2 0 k)) (fun k => b (ix2 0 k))) (fun k => w (ix2 e k)) := by
  pointwise [k0_pay1, k0_pay6]
  unfold score
  refine congrArg Ideal.logistic (Finset.sum_congr rfl fun k _ => ?_)
  rw [pay_normb]
  exact mul_comm _ _

theorem zero_off : (![0, 0] : Fin 2 → Nat) = fun _ => 0 := by
  funext a; match a with
  | ⟨0, _⟩ => rfl
  | ⟨1, _⟩ => rfl

theorem whole_1 (X : Vec Ideal S512x512 .bf16) : View.ld X r0_1 = X := View.ld_unit_zero zero_off _ _

theorem whole_7 (X : Vec Ideal S512x1024 .f32) : View.ld X r0_7 = X := View.ld_unit_zero zero_off _ _

theorem whole_8 (X : Vec Ideal S1024x1024 .bf16) : View.ld X r0_8 = X := View.ld_unit_zero zero_off _ _

theorem whole_9 (X : Vec Ideal S1x1024 .f32) : View.ld X r0_9 = X := View.ld_unit_zero zero_off _ _

theorem whole_11 (X : Vec Ideal S64x1024 .bf16) : View.ld X r0_11 = X := View.ld_unit_zero zero_off _ _

/-! ## The gate's three blocks of columns, and the three branch projections, at an entry -/

theorem ld_0 (X : Vec Ideal S512x3072 .f32) (r : Fin 512) (k : Fin 1024) :
    View.ld X r0_0 (ix2 r k) = X (ix2 r ⟨k.val, by omega⟩) :=
  View.ld_unit_apply_of X _ _ _ _ _ fun a => match a with
    | ⟨0, _⟩ => (Nat.zero_add _).symm
    | ⟨1, _⟩ => (Nat.zero_add _).symm

theorem ld_3 (X : Vec Ideal S512x3072 .f32) (r : Fin 512) (k : Fin 1024) :
    View.ld X r0_3 (ix2 r k) = X (ix2 r ⟨1024 + k.val, by omega⟩) :=
  View.ld_unit_apply_of X _ _ _ _ _ fun a => match a with
    | ⟨0, _⟩ => (Nat.zero_add _).symm
    | ⟨1, _⟩ => rfl

theorem ld_5 (X : Vec Ideal S512x3072 .f32) (r : Fin 512) (k : Fin 1024) :
    View.ld X r0_5 (ix2 r k) = X (ix2 r ⟨2048 + k.val, by omega⟩) :=
  View.ld_unit_apply_of X _ _ _ _ _ fun a => match a with
    | ⟨0, _⟩ => (Nat.zero_add _).symm
    | ⟨1, _⟩ => rfl

theorem ld_2 (X : Vec Ideal S3x512x1024 .bf16) (j : Fin 512) (k : Fin 1024) :
    View.ld X r0_2 (ix3 0 j k) = X (ix3 0 j k) :=
  View.ld_unit_apply_of X _ _ _ _ _ fun a => match a with
    | ⟨0, _⟩ => rfl
    | ⟨1, _⟩ => (Nat.zero_add _).symm
    | ⟨2, _⟩ => (Nat.zero_add _).symm

theorem ld_4 (X : Vec Ideal S3x512x1024 .bf16) (j : Fin 512) (k : Fin 1024) :
    View.ld X r0_4 (ix3 0 j k) = X (ix3 1 j k) :=
  View.ld_unit_apply_of X _ _ _ _ _ fun a => match a with
    | ⟨0, _⟩ => rfl
    | ⟨1, _⟩ => (Nat.zero_add _).symm
    | ⟨2, _⟩ => (Nat.zero_add _).symm

theorem ld_6 (X : Vec Ideal S3x512x1024 .bf16) (j : Fin 512) (k : Fin 1024) :
    View.ld X r0_6 (ix3 0 j k) = X (ix3 2 j k) :=
  View.ld_unit_apply_of X _ _ _ _ _ fun a => match a with
    | ⟨0, _⟩ => rfl
    | ⟨1, _⟩ => (Nat.zero_add _).symm
    | ⟨2, _⟩ => (Nat.zero_add _).symm

/-! ## The outputs -/

section Rows

variable (ya yb yc : Vec Ideal S65536x512 .bf16) (mg : Vec Ideal S65536x3072 .f32) (x : Vec Ideal S65536x1024 .f32)
variable (wb : Vec Ideal S3x512x1024 .f32) (wo : Vec Ideal S1024x1024 .f32) (lg lb : Vec Ideal S1024 .f32) (wr : Vec Ideal S1024x64 .f32)
variable (X0 X1 X2 : Vec Ideal S512x512 .bf16) (X3 : Vec Ideal S512x3072 .f32) (X4 : Vec Ideal S512x1024 .f32) (X5 : Vec Ideal S3x512x1024 .bf16)
variable (X6 : Vec Ideal S1024x1024 .bf16) (X7 X8 : Vec Ideal S1x1024 .f32) (X9 : Vec Ideal S64x1024 .bf16) (r : Fin 512) (t : Fin 65536)

theorem row_of (h0 : ∀ j, X0 (ix2 r j) = ya (ix2 t j)) (h1 : ∀ j, X1 (ix2 r j) = yb (ix2 t j)) (h2 : ∀ j, X2 (ix2 r j) = yc (ix2 t j))
    (h3 : ∀ k, X3 (ix2 r k) = mg (ix2 t k)) (h4 : ∀ k, X4 (ix2 r k) = x (ix2 t k)) (h5 : ∀ a j k, X5 (ix3 a j k) = wb (ix3 a j k))
    (h6 : ∀ k d, X6 (ix2 k d) = wo (ix2 k d)) :
    (fun k => k0_pay7 (F := Ideal) X0 X1 X2 X3 X4 X5 X6 X7 X8 X9 (ix2 r k)) = rowAt ya yb yc mg x wb wo t := by
  funext d
  unfold k0_pay7
  exact (pay_joined _ _ _ _ _ _ _ _ _ _ _ r d).trans (joined_congr
    (fun k => (congrFun (whole_7 X4) _).trans (h4 k))
    (fun j => (congrFun (whole_1 X0) _).trans (h0 j)) (fun j => (congrFun (whole_1 X1) _).trans (h1 j)) (fun j => (congrFun (whole_1 X2) _).trans (h2 j))
    (fun k => (ld_0 X3 r k).trans (h3 _)) (fun k => (ld_3 X3 r k).trans (h3 _)) (fun k => (ld_5 X3 r k).trans (h3 _))
    (fun j k => (ld_2 X5 j k).trans (h5 _ _ _)) (fun j k => (ld_4 X5 j k).trans (h5 _ _ _)) (fun j k => (ld_6 X5 j k).trans (h5 _ _ _))
    (fun k d => (congrFun (whole_8 X6) _).trans (h6 k d)) d)

theorem out_x (h0 : ∀ j, X0 (ix2 r j) = ya (ix2 t j)) (h1 : ∀ j, X1 (ix2 r j) = yb (ix2 t j)) (h2 : ∀ j, X2 (ix2 r j) = yc (ix2 t j))
    (h3 : ∀ k, X3 (ix2 r k) = mg (ix2 t k)) (h4 : ∀ k, X4 (ix2 r k) = x (ix2 t k)) (h5 : ∀ a j k, X5 (ix3 a j k) = wb (ix3 a j k))
    (h6 : ∀ k d, X6 (ix2 k d) = wo (ix2 k d))
    (h7 : ∀ k, X7 (ix2 0 k) = lg (ix1 k)) (h8 : ∀ k, X8 (ix2 0 k) = lb (ix1 k)) (d : Fin 1024) :
    out0_10 (F := Ideal) X0 X1 X2 X3 X4 X5 X6 X7 X8 X9 (ix2 r d) = outAt ya yb yc mg x wb wo lg lb t d := by
  unfold out0_10
  refine (congrFun (View.canon_unit_zero zero_off _ _) _).trans ?_
  exact (pay_norm _ _ _ r d).trans (congrFun (norm_congr (row_of ya yb yc mg x wb wo X0 X1 X2 X3 X4 X5 X6 X7 X8 X9 r t h0 h1 h2 h3 h4 h5 h6)
    (fun k => (congrFun (whole_9 X7) _).trans (h7 k)) (fun k => (congrFun (whole_9 X8) _).trans (h8 k))) d)

theorem out_xb (h0 : ∀ j, X0 (ix2 r j) = ya (ix2 t j)) (h1 : ∀ j, X1 (ix2 r j) = yb (ix2 t j)) (h2 : ∀ j, X2 (ix2 r j) = yc (ix2 t j))
    (h3 : ∀ k, X3 (ix2 r k) = mg (ix2 t k)) (h4 : ∀ k, X4 (ix2 r k) = x (ix2 t k)) (h5 : ∀ a j k, X5 (ix3 a j k) = wb (ix3 a j k))
    (h6 : ∀ k d, X6 (ix2 k d) = wo (ix2 k d))
    (h7 : ∀ k, X7 (ix2 0 k) = lg (ix1 k)) (h8 : ∀ k, X8 (ix2 0 k) = lb (ix1 k)) (d : Fin 1024) :
    out0_11 (F := Ideal) X0 X1 X2 X3 X4 X5 X6 X7 X8 X9 (ix2 r d) = outAt ya yb yc mg x wb wo lg lb t d := by
  unfold out0_11
  refine (congrFun (View.canon_unit_zero zero_off _ _) _).trans ?_
  exact (pay_normb _ _ _ r d).trans (congrFun (norm_congr (row_of ya yb yc mg x wb wo X0 X1 X2 X3 X4 X5 X6 X7 X8 X9 r t h0 h1 h2 h3 h4 h5 h6)
    (fun k => (congrFun (whole_9 X7) _).trans (h7 k)) (fun k => (congrFun (whole_9 X8) _).trans (h8 k))) d)

theorem out_score (h0 : ∀ j, X0 (ix2 r j) = ya (ix2 t j)) (h1 : ∀ j, X1 (ix2 r j) = yb (ix2 t j)) (h2 : ∀ j, X2 (ix2 r j) = yc (ix2 t j))
    (h3 : ∀ k, X3 (ix2 r k) = mg (ix2 t k)) (h4 : ∀ k, X4 (ix2 r k) = x (ix2 t k)) (h5 : ∀ a j k, X5 (ix3 a j k) = wb (ix3 a j k))
    (h6 : ∀ k d, X6 (ix2 k d) = wo (ix2 k d))
    (h7 : ∀ k, X7 (ix2 0 k) = lg (ix1 k)) (h8 : ∀ k, X8 (ix2 0 k) = lb (ix1 k)) (h9 : ∀ e k, X9 (ix2 e k) = wr (ix2 k e)) (e : Fin 64) :
    out0_13 (F := Ideal) X0 X1 X2 X3 X4 X5 X6 X7 X8 X9 (ix2 e r) = scoreAt ya yb yc mg x wb wo lg lb wr t e := by
  unfold out0_13
  refine (congrFun (View.canon_unit_zero zero_off _ _) _).trans ?_
  exact (pay_score _ _ _ _ e r).trans (score_congr (norm_congr (row_of ya yb yc mg x wb wo X0 X1 X2 X3 X4 X5 X6 X7 X8 X9 r t h0 h1 h2 h3 h4 h5 h6)
    (fun k => (congrFun (whole_9 X7) _).trans (h7 k)) (fun k => (congrFun (whole_9 X8) _).trans (h8 k)))
    (fun k => (congrFun (whole_11 X9) _).trans (h9 e k)))

end Rows

end Cert.Merge
-- ==== Proof.MergeReference.lean ====
/- The reference of the merge, read element by element. -/
module

public import proofs.«01_k».proof.Proof.MergeMath
public import proofs.«01_k».proof.Proof.Gen.Reference3Ideal.Read

@[expose] public section

set_option maxRecDepth 16384
set_option maxHeartbeats 4000000

noncomputable section

namespace Cert.Merge

open Idealize.ShloMosaic Idealize.ShloMosaic.TcCoe

open Cert.Kernel3Ideal
open Cert.Reference3Ideal.Read

variable (ya yb yc : Vec Ideal S65536x512 .bf16) (mg : Vec Ideal S65536x3072 .f32) (x : Vec Ideal S65536x1024 .f32)
variable (wb : Vec Ideal S3x512x1024 .f32) (wo : Vec Ideal S1024x1024 .f32) (lg lb : Vec Ideal S1024 .f32) (wr : Vec Ideal S1024x64 .f32)

theorem gate0 (t : Fin 65536) (k : Fin 1024) : val_main_v5 (F := Ideal) mg (ix2 t k) = mg (ix2 t ⟨k.val, by omega⟩) := by
  pointwise [val_main_v5, val_main_v4, val_main_v3]

theorem gate1 (t : Fin 65536) (k : Fin 1024) : val_main_v11 (F := Ideal) mg (ix2 t k) = mg (ix2 t ⟨1024 + k.val, by omega⟩) := by
  pointwise [val_main_v11, val_main_v10, val_main_v3]

theorem gate2 (t : Fin 65536) (k : Fin 1024) : val_main_v18 (F := Ideal) mg (ix2 t k) = mg (ix2 t ⟨2048 + k.val, by omega⟩) := by
  pointwise [val_main_v18, val_main_v17, val_main_v3]

theorem ref_gated (t : Fin 65536) (k : Fin 1024) :
    val_main_v23 (F := Ideal) ya yb yc mg wb (ix2 t k)
      = gated (fun j => ya (ix2 t j)) (fun j => yb (ix2 t j)) (fun j => yc (ix2 t j))
          (fun k => mg (ix2 t ⟨k.val, by omega⟩)) (fun k => mg (ix2 t ⟨1024 + k.val, by omega⟩)) (fun k => mg (ix2 t ⟨2048 + k.val, by omega⟩))
          (fun j k => wb (ix3 0 j k)) (fun j k => wb (ix3 1 j k)) (fun j k => wb (ix3 2 j k)) k := by
  pointwise [val_main_v23, val_main_v22, val_main_v21, val_main_v20, val_main_v19, val_main_v16, val_main_v15, val_main_v14, val_main_v13,
    val_main_v12, val_main_v9, val_main_v8, val_main_v7, val_main_v6, val_main_v2, val_main_v1, val_main_v0]
  rw [gate0, gate1, gate2]
  rfl

theorem ref_row (t : Fin 65536) (d : Fin 1024) :
    val_main_v27 (F := Ideal) ya yb yc mg x wb wo (ix2 t d) = rowAt ya yb yc mg x wb wo t d := by
  pointwise [val_main_v27, val_main_v26, val_main_v25, val_main_v24, val_main_cst]
  simp only [ref_gated]
  rfl

theorem ref_out (t : Fin 65536) (d : Fin 1024) :
    val_main_v51 (F := Ideal) ya yb yc mg x wb wo lg lb (ix2 t d) = outAt ya yb yc mg x wb wo lg lb t d := by
  pointwise [val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_cst_0, val_main_cst_1, val_main_cst_2,
    val_main_cst_3, val_main_cst_4]
  simp only [ref_row]
  rfl

theorem ref_outb (t : Fin 65536) (d : Fin 1024) :
    val_main_v52 (F := Ideal) ya yb yc mg x wb wo lg lb (ix2 t d) = outAt ya yb yc mg x wb wo lg lb t d := by
  pointwise [val_main_v52]
  rw [ref_out]

theorem ref_score (e : Fin 64) (t : Fin 65536) :
    val_main_v60 (F := Ideal) ya yb yc mg x wb wo lg lb wr (ix2 e t) = scoreAt ya yb yc mg x wb wo lg lb wr t e := by
  pointwise [val_main_v60, val_main_v59, val_main_v58, val_main_v57, val_main_v56, val_main_v55, val_main_v54, val_main_v53, val_main_v52,
    val_main_cst_5, val_main_cst_6]
  simp only [ref_out]
  rfl

end Cert.Merge
-- ==== Proof.MergeValue.lean ====
/- The final arrays of the merge kernel are the reference's. -/
module

public import proofs.«01_k».proof.Proof.MergeBlocks
public import proofs.«01_k».proof.Proof.MergePayload
public import proofs.«01_k».proof.Proof.MergeReference
public import Idealize.ShloMosaic.Lib.Pipeline.Value
public import Idealize.ShloMosaic.Lib.Pipeline.Covers

@[expose] public section

set_option maxRecDepth 16384
set_option maxHeartbeats 4000000

noncomputable section

namespace Cert.Merge

open Idealize.ShloMosaic Idealize.ShloMosaic.TcCoe

open Idealize.ShloMosaic.Pipeline (Dat)
open Cert.Kernel3Ideal Cert.Kernel3Ideal.Gen
open Cert.Reference3Ideal.Read (val_main_v51 val_main_v52 val_main_v60)

variable (m : (ℓ : Loc nD τ sig) → Buf (Elt Ideal) ℓ)

theorem idx2_lt0 {a b : Nat} (i : (⟨2, ![a, b]⟩ : Shape).Idx) : (i 0).val < a := (i 0).isLt

theorem idx2_lt1 {a b : Nat} (i : (⟨2, ![a, b]⟩ : Shape).Idx) : (i 1).val < b := (i 1).isLt

/-! ## Output 0 -/

/-- The reference's output at the kernel's arguments. -/
@[irreducible] def res_x (c : Dev nD) : Vec Ideal S65536x1024 .f32 := val_main_v51 (F := Ideal) (in_ya m c) (in_yb m c) (in_yc m c) (in_mg m c) (in_x m c) (in_wb m c) (in_wo m c) (in_lg m c) (in_lb m c)

/-- The block the body leaves at point `t`, entry by entry, is the reference's. -/
theorem left_x (c : Dev nD) (t : Fin cfg0.N) (r : Fin 512) (q : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = res_x m c (ix2 (tok t r) q) := by
  refine (out_x (in_ya m c) (in_yb m c) (in_yc m c) (in_mg m c) (in_x m c) (in_wb m c) (in_wo m c) (in_lg m c) (in_lb m c) _ _ _ _ _ _ _ _ _ _ r (tok t r) (read_ya m c t r) (read_yb m c t r) (read_yc m c t r) (read_mg m c t r) (read_x m c t r) (read_wb m c t) (read_wo m c t) (read_lg m c t) (read_lb m c t) q).trans ?_
  unfold res_x
  exact (ref_out (in_ya m c) (in_yb m c) (in_yc m c) (in_mg m c) (in_x m c) (in_wb m c) (in_wo m c) (in_lg m c) (in_lb m c) (tok t r) q).symm

theorem flushed_x (c : Dev nD) (t : Fin cfg0.N) (G : Vec Ideal S65536x1024 .f32)
    (hG : ∀ (r : Fin 512) (q : Fin 1024), out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = G (ix2 (tok t r) q)) :
    (dats m 0 c).flushed 10 t = ((cfg0.win 10).blk t).view.read (Elt Ideal) G := by
  rw [Cert.Kernel3Ideal.Value.flushed10]
  funext (j : S512x1024.Idx)
  refine Eq.trans ?_ (View.read_apply (Val := Elt Ideal) _ _).symm
  obtain ⟨r, q, rfl⟩ : ∃ (r : Fin 512) (q : Fin 1024), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 1024 + 1 * q.val; omega

theorem holds_x (t : Fin cfg0.N) (i : S65536x1024.Idx) (h : (pt t).val = (i 0).val / 512) :
    ∀ a, cc0_transform_10 (grid0.coords t) a * S512x1024.size a ≤ (i a).val ∧ (i a).val < cc0_transform_10 (grid0.coords t) a * S512x1024.size a + S512x1024.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 1024 ≤ (i 1).val ∧ (i 1).val < 0 * 1024 + 1024
    have := idx2_lt1 i; omega

theorem final_x (c : Dev nD) : (dats m 0 c).arrAt 10 cfg0.N = res_x m c :=
  (dats m 0 c).arrAt_eq_of_cover 10 (res_x m c) (fun t _ => flushed_x m c t _ (left_x m c t)) fun (i : S65536x1024.Idx) => by
    obtain ⟨t, ht⟩ := point_of ⟨(i 0).val / 512, by have := idx2_lt0 i; omega⟩
    refine ⟨t, flush0_10 t, ?_⟩
    show i ∈ ((View.whole main_v6_0).slice ((cfg0.win 10).rect t)).set
    refine (congrArg (i ∈ ·) (View.set_slice_whole (b := main_v6_0) _)).mpr ?_
    exact (Rect.mem_set_unit).mpr (holds_x t i ht)

/-! ## Output 1 -/

/-- The reference's output at the kernel's arguments. -/
@[irreducible] def res_xb (c : Dev nD) : Vec Ideal S65536x1024 .bf16 := val_main_v52 (F := Ideal) (in_ya m c) (in_yb m c) (in_yc m c) (in_mg m c) (in_x m c) (in_wb m c) (in_wo m c) (in_lg m c) (in_lb m c)

/-- The block the body leaves at point `t`, entry by entry, is the reference's. -/
theorem left_xb (c : Dev nD) (t : Fin cfg0.N) (r : Fin 512) (q : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = res_xb m c (ix2 (tok t r) q) := by
  refine (out_xb (in_ya m c) (in_yb m c) (in_yc m c) (in_mg m c) (in_x m c) (in_wb m c) (in_wo m c) (in_lg m c) (in_lb m c) _ _ _ _ _ _ _ _ _ _ r (tok t r) (read_ya m c t r) (read_yb m c t r) (read_yc m c t r) (read_mg m c t r) (read_x m c t r) (read_wb m c t) (read_wo m c t) (read_lg m c t) (read_lb m c t) q).trans ?_
  unfold res_xb
  exact (ref_outb (in_ya m c) (in_yb m c) (in_yc m c) (in_mg m c) (in_x m c) (in_wb m c) (in_wo m c) (in_lg m c) (in_lb m c) (tok t r) q).symm

theorem flushed_xb (c : Dev nD) (t : Fin cfg0.N) (G : Vec Ideal S65536x1024 .bf16)
    (hG : ∀ (r : Fin 512) (q : Fin 1024), out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = G (ix2 (tok t r) q)) :
    (dats m 0 c).flushed 11 t = ((cfg0.win 11).blk t).view.read (Elt Ideal) G := by
  rw [Cert.Kernel3Ideal.Value.flushed11]
  funext (j : S512x1024.Idx)
  refine Eq.trans ?_ (View.read_apply (Val := Elt Ideal) _ _).symm
  obtain ⟨r, q, rfl⟩ : ∃ (r : Fin 512) (q : Fin 1024), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 512 + r.val = (BitVec.ofNat 32 (pt t).val).toNat * 512 + 1 * r.val
    rw [word_of, Nat.one_mul]
  | ⟨1, _⟩ => show q.val = 0 * 1024 + 1 * q.val; omega

theorem holds_xb (t : Fin cfg0.N) (i : S65536x1024.Idx) (h : (pt t).val = (i 0).val / 512) :
    ∀ a, cc0_transform_11 (grid0.coords t) a * S512x1024.size a ≤ (i a).val ∧ (i a).val < cc0_transform_11 (grid0.coords t) a * S512x1024.size a + S512x1024.size a := by
  intro a
  match a with
  | ⟨0, _⟩ =>
    show (BitVec.ofNat 32 (pt t).val).toNat * 512 ≤ (i 0).val ∧ (i 0).val < (BitVec.ofNat 32 (pt t).val).toNat * 512 + 512
    rw [word_of, h]; omega
  | ⟨1, _⟩ =>
    show 0 * 1024 ≤ (i 1).val ∧ (i 1).val < 0 * 1024 + 1024
    have := idx2_lt1 i; omega

theorem final_xb (c : Dev nD) : (dats m 0 c).arrAt 11 cfg0.N = res_xb m c :=
  (dats m 0 c).arrAt_eq_of_cover 11 (res_xb m c) (fun t _ => flushed_xb m c t _ (left_xb m c t)) fun (i : S65536x1024.Idx) => by
    obtain ⟨t, ht⟩ := point_of ⟨(i 0).val / 512, by have := idx2_lt0 i; omega⟩
    refine ⟨t, flush0_11 t, ?_⟩
    show i ∈ ((View.whole main_v6_1).slice ((cfg0.win 11).rect t)).set
    refine (congrArg (i ∈ ·) (View.set_slice_whole (b := main_v6_1) _)).mpr ?_
    exact (Rect.mem_set_unit).mpr (holds_xb t i ht)

/-! ## Output 3 -/

/-- The reference's output at the kernel's arguments. -/
@[irreducible] def res_score (c : Dev nD) : Vec Ideal S64x65536 .f32 := val_main_v60 (F := Ideal) (in_ya m c) (in_yb m c) (in_yc m c) (in_mg m c) (in_x m c) (in_wb m c) (in_wo m c) (in_lg m c) (in_lb m c) (in_wr m c)

/-- The block the body leaves at point `t`, entry by entry, is the reference's. -/
theorem left_score (c : Dev nD) (t : Fin cfg0.N) (r : Fin 512) (q : Fin 64) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 q r) = res_score m c (ix2 q (tok t r)) := by
  refine (out_score (in_ya m c) (in_yb m c) (in_yc m c) (in_mg m c) (in_x m c) (in_wb m c) (in_wo m c) (in_lg m c) (in_lb m c) (in_wr m c) _ _ _ _ _ _ _ _ _ _ r (tok t r) (read_ya m c t r) (read_yb m c t r) (read_yc m c t r) (read_mg m c t r) (read_x m c t r) (read_wb m c t) (read_wo m c t) (read_lg m c t) (read_lb m c t) (read_wr m c t) q).trans ?_
  unfold res_score
  exact (ref_score (in_ya m c) (in_yb m c) (in_yc m c) (in_mg m c) (in_x m c) (in_wb m c) (in_wo m c) (in_lg m c) (in_lb m c) (in_wr m c) q (tok t r)).symm

theorem flushed_score (c : Dev nD) (t : Fin cfg0.N) (G : Vec Ideal S64x65536 .f32)
    (hG : ∀ (r : Fin 512) (q : Fin 64), out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 q r) = G (ix2 q (tok t r))) :
    (dats m 0 c).flushed 13 t = ((cfg0.win 13).blk t).view.read (Elt Ideal) G := by
  rw [Cert.Kernel3Ideal.Value.flushed13]
  funext (j : S64x512.Idx)
  refine Eq.trans ?_ (View.read_apply (Val := Elt Ideal) _ _).symm
  obtain ⟨r, q, rfl⟩ : ∃ (r : Fin 512) (q : Fin 64), j = ix2 q r := ⟨j 1, j 0, by funext a; match a with | ⟨0, _⟩ => rfl | ⟨1, _⟩ => rfl⟩
  refine (hG r q).trans ?_
  show G _ = G _
  congr 1
  funext a
  apply Fin.ext
  match a with
  | ⟨0, _⟩ => show q.val = 0 * 64 + 1 * q.val; omega
  | ⟨1, _⟩ =>
    show (pt t).val * 512 + r.val = (BitVec.ofNat 32 (pt t).val).toNat * 512 + 1 * r.val
    rw [word_of, Nat.one_mul]

theorem holds_score (t : Fin cfg0.N) (i : S64x65536.Idx) (h : (pt t).val = (i 1).val / 512) :
    ∀ a, cc0_transform_13 (grid0.coords t) a * S64x512.size a ≤ (i a).val ∧ (i a).val < cc0_transform_13 (grid0.coords t) a * S64x512.size a + S64x512.size a := by
  intro a
  match a with
  | ⟨0, _⟩ =>
    show 0 * 64 ≤ (i 0).val ∧ (i 0).val < 0 * 64 + 64
    have := idx2_lt0 i; omega
  | ⟨1, _⟩ =>
    show (BitVec.ofNat 32 (pt t).val).toNat * 512 ≤ (i 1).val ∧ (i 1).val < (BitVec.ofNat 32 (pt t).val).toNat * 512 + 512
    rw [word_of, h]; omega

theorem final_score (c : Dev nD) : (dats m 0 c).arrAt 13 cfg0.N = res_score m c :=
  (dats m 0 c).arrAt_eq_of_cover 13 (res_score m c) (fun t _ => flushed_score m c t _ (left_score m c t)) fun (i : S64x65536.Idx) => by
    obtain ⟨t, ht⟩ := point_of ⟨(i 1).val / 512, by have := idx2_lt1 i; omega⟩
    refine ⟨t, flush0_13 t, ?_⟩
    show i ∈ ((View.whole main_v6_3).slice ((cfg0.win 13).rect t)).set
    refine (congrArg (i ∈ ·) (View.set_slice_whole (b := main_v6_3) _)).mpr ?_
    exact (Rect.mem_set_unit).mpr (holds_score t i ht)

end Cert.Merge
-- ==== Proof.MergeClaims.lean ====
/- The claims about the merge: the frames, the rewritten sites, and the value claim. -/
module

public import proofs.«01_k».proof.Defs
public import proofs.«01_k».proof.Proof.MergeValue
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent
public import Idealize.ShloMosaic.Lib.Bf16Pair
public import Idealize.ShloMosaic.Lib.Bf16PairInverse

@[expose] public section

set_option maxRecDepth 16384
set_option maxHeartbeats 4000000

noncomputable section

namespace Cert.Merge

open Idealize.ShloMosaic Idealize.ShloMosaic.TcCoe

open Idealize.SL.Sem
open Cert.Kernel3Ideal Cert.Kernel3Ideal.Gen
open Cert.Reference3Ideal.Read (val_main_v51 val_main_v51_eq val_main_v52 val_main_v52_eq val_main_v60 val_main_v60_eq)

attribute [local instance] Cert.Kernel3.Gen.facts Cert.Kernel3Ideal.Gen.facts Cert.Reference3Ideal.Gen.facts

theorem frame_bits : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => by obtain ⟨_, _, _, a0, a1, a2, a3, a4, a5, a6, a7, a8, a9⟩ := h c; exact ⟨a0, a1, a2, a3, a4, a5, a6, a7, a8, a9⟩, sem_eq_zero_of_no_sems rfl r.2⟩)
    (Cert.Reference3Ideal.Value.run m ρ)

/-- At each rewritten site the halves and the words hold the same bits. -/
theorem preserves : Cert.preserves_Kernel3_Kernel3Ideal :=
  ⟨IdealRules.bf16_pair.bufferStatement _ _, IdealRules.bf16_pair.bufferStatement _ _, IdealRules.bf16_pair.statement _ _,
    IdealRules.bf16_pack.statement _⟩

variable (m : (ℓ : Loc nD τ sig) → Buf (Elt Ideal) ℓ)

theorem res_x_eq (c : Dev nD) : val_main_v51 (F := Ideal) (in_ya m c) (in_yb m c) (in_yc m c) (in_mg m c) (in_x m c) (in_wb m c) (in_wo m c) (in_lg m c) (in_lb m c) = res_x m c := by unfold res_x; rfl

theorem res_xb_eq (c : Dev nD) : val_main_v52 (F := Ideal) (in_ya m c) (in_yb m c) (in_yc m c) (in_mg m c) (in_x m c) (in_wb m c) (in_wo m c) (in_lg m c) (in_lb m c) = res_xb m c := by unfold res_xb; rfl

theorem res_score_eq (c : Dev nD) : val_main_v60 (F := Ideal) (in_ya m c) (in_yb m c) (in_yc m c) (in_mg m c) (in_x m c) (in_wb m c) (in_wo m c) (in_lg m c) (in_lb m c) (in_wr m c) = res_score m c := by unfold res_score; rfl

/-- At the same arguments the kernel's three outputs over the reals are the reference's. -/
theorem value : Cert.algebraic_Kernel3Ideal_Reference3Ideal := fun m ρ m' ρ' _ hargs => by
  refine ⟨fun c => res_x m c, fun c => res_xb m c, fun c => res_score m c, ?_, ?_⟩
  · refine (θ_run defs _ _).mono (fun r h c => ?_) (Cert.Kernel3Ideal.Value.run_blocks m ρ)
    obtain ⟨p0, p1, _, p3, a0, a1, a2, a3, a4, a5, a6, a7, a8, a9⟩ := h c
    exact ⟨p0.trans (final_x m c), p1.trans (final_xb m c), p3.trans (final_score m c), a0, a1, a2, a3, a4, a5, a6, a7, a8, a9⟩
  · refine (θ_run Cert.Reference3Ideal.defs _ _).mono (fun r h c => ?_) (Cert.Reference3Ideal.Value.run m' ρ')
    obtain ⟨h0, h1, h2, h3, h4, h5, h6, h7, h8, h9⟩ := hargs c
    obtain ⟨p0, p1, p2, a0, a1, a2, a3, a4, a5, a6, a7, a8, a9⟩ := h c
    have key9 : ∀ {s : Shape} {e : EltTy} (f : Vec Ideal S65536x512 .bf16 → Vec Ideal S65536x512 .bf16 → Vec Ideal S65536x512 .bf16 → Vec Ideal S65536x3072 .f32
          → Vec Ideal S65536x1024 .f32 → Vec Ideal S3x512x1024 .f32 → Vec Ideal S1024x1024 .f32 → Vec Ideal S1024 .f32 → Vec Ideal S1024 .f32 → Vec Ideal s e),
        f (m' ((c.tc : Thread Cert.Reference3Ideal.nD Cert.Reference3Ideal.τ).loc Cert.Reference3Ideal.main_arg0))
          (m' ((c.tc : Thread Cert.Reference3Ideal.nD Cert.Reference3Ideal.τ).loc Cert.Reference3Ideal.main_arg1))
          (m' ((c.tc : Thread Cert.Reference3Ideal.nD Cert.Reference3Ideal.τ).loc Cert.Reference3Ideal.main_arg2))
          (m' ((c.tc : Thread Cert.Reference3Ideal.nD Cert.Reference3Ideal.τ).loc Cert.Reference3Ideal.main_arg3))
          (m' ((c.tc : Thread Cert.Reference3Ideal.nD Cert.Reference3Ideal.τ).loc Cert.Reference3Ideal.main_arg4))
          (m' ((c.tc : Thread Cert.Reference3Ideal.nD Cert.Reference3Ideal.τ).loc Cert.Reference3Ideal.main_arg5))
          (m' ((c.tc : Thread Cert.Reference3Ideal.nD Cert.Reference3Ideal.τ).loc Cert.Reference3Ideal.main_arg6))
          (m' ((c.tc : Thread Cert.Reference3Ideal.nD Cert.Reference3Ideal.τ).loc Cert.Reference3Ideal.main_arg7))
          (m' ((c.tc : Thread Cert.Reference3Ideal.nD Cert.Reference3Ideal.τ).loc Cert.Reference3Ideal.main_arg8))
          = f (in_ya m c) (in_yb m c) (in_yc m c) (in_mg m c) (in_x m c) (in_wb m c) (in_wo m c) (in_lg m c) (in_lb m c) := by
      intro s e f
      rw [h0, h1, h2, h3, h4, h5, h6, h7, h8]
    have key10 : ∀ {s : Shape} {e : EltTy} (f : Vec Ideal S65536x512 .bf16 → Vec Ideal S65536x512 .bf16 → Vec Ideal S65536x512 .bf16 → Vec Ideal S65536x3072 .f32
          → Vec Ideal S65536x1024 .f32 → Vec Ideal S3x512x1024 .f32 → Vec Ideal S1024x1024 .f32 → Vec Ideal S1024 .f32 → Vec Ideal S1024 .f32
          → Vec Ideal S1024x64 .f32 → Vec Ideal s e),
        f (m' ((c.tc : Thread Cert.Reference3Ideal.nD Cert.Reference3Ideal.τ).loc Cert.Reference3Ideal.main_arg0))
          (m' ((c.tc : Thread Cert.Reference3Ideal.nD Cert.Reference3Ideal.τ).loc Cert.Reference3Ideal.main_arg1))
          (m' ((c.tc : Thread Cert.Reference3Ideal.nD Cert.Reference3Ideal.τ).loc Cert.Reference3Ideal.main_arg2))
          (m' ((c.tc : Thread Cert.Reference3Ideal.nD Cert.Reference3Ideal.τ).loc Cert.Reference3Ideal.main_arg3))
          (m' ((c.tc : Thread Cert.Reference3Ideal.nD Cert.Reference3Ideal.τ).loc Cert.Reference3Ideal.main_arg4))
          (m' ((c.tc : Thread Cert.Reference3Ideal.nD Cert.Reference3Ideal.τ).loc Cert.Reference3Ideal.main_arg5))
          (m' ((c.tc : Thread Cert.Reference3Ideal.nD Cert.Reference3Ideal.τ).loc Cert.Reference3Ideal.main_arg6))
          (m' ((c.tc : Thread Cert.Reference3Ideal.nD Cert.Reference3Ideal.τ).loc Cert.Reference3Ideal.main_arg7))
          (m' ((c.tc : Thread Cert.Reference3Ideal.nD Cert.Reference3Ideal.τ).loc Cert.Reference3Ideal.main_arg8))
          (m' ((c.tc : Thread Cert.Reference3Ideal.nD Cert.Reference3Ideal.τ).loc Cert.Reference3Ideal.main_arg9))
          = f (in_ya m c) (in_yb m c) (in_yc m c) (in_mg m c) (in_x m c) (in_wb m c) (in_wo m c) (in_lg m c) (in_lb m c) (in_wr m c) := by
      intro s e f
      rw [h0, h1, h2, h3, h4, h5, h6, h7, h8, h9]
    exact ⟨p0.trans ((val_main_v51_eq m' c).trans ((key9 (val_main_v51 (F := Ideal))).trans (res_x_eq m c))),
      p1.trans ((val_main_v52_eq m' c).trans ((key9 (val_main_v52 (F := Ideal))).trans (res_xb_eq m c))),
      p2.trans ((val_main_v60_eq m' c).trans ((key10 (val_main_v60 (F := Ideal))).trans (res_score_eq m c))), a0, a1, a2, a3, a4, a5, a6, a7, a8, a9⟩

end Cert.Merge
-- ==== Proof.CompressMath.lean ====
/- The compression of keys and values in plain terms: one window of 32 positions, as two groups of 16, each position's row
   plus its position row, times the weights. -/
module

public import proofs.«01_k».proof.Kernel4Ideal
public import Idealize.ShloMosaic.Lib.Pointwise
public import Idealize.ShloMosaic.Lib.Tactic

@[expose] public section

set_option maxRecDepth 16384
set_option maxHeartbeats 4000000

noncomputable section

namespace Cert.Compress

open Idealize.ShloMosaic Idealize.ShloMosaic.TcCoe

open Cert.Kernel4Ideal

/-- Position of entry `i` of group `t`'s row of 16 positions by 64 columns. -/
def grp (t : Fin 4096) (i : Fin 1024) : Fin 65536 := ⟨t.val * 16 + i.val / 64, by omega⟩

/-- Column of entry `i` of a group's row. -/
def pos (i : Fin 1024) : Fin 64 := ⟨i.val % 64, by omega⟩

/-- The window's position of entry `i` of its half `a`. -/
def win (a : Fin 2) (i : Fin 1024) : Fin 32 := ⟨a.val * 16 + i.val / 64, by omega⟩

/-- The group after `t` in its sequence, the first after the last. -/
def next (t : Fin 4096) : Fin 4096 := ⟨t.val / 256 * 256 + (t.val % 256 + 1) % 256, by omega⟩

/-- Half `a` of a window's product, over the group `t`. -/
def halfAt (x : Vec Ideal S65536x64 .bf16) (w : Vec Ideal S32x64x64 .f32) (pe : Vec Ideal S32x64 .f32) (a : Fin 2) (t : Fin 4096) (e : Fin 64) : EReal :=
  ∑ i : Fin 1024, (x (ix2 (grp t i) (pos i)) + pe (ix2 (win a i) (pos i))) * w (ix3 (win a i) (pos i) e)

/-- Column `e` of the window that starts at group `t`. -/
def compAt (x : Vec Ideal S65536x64 .bf16) (w : Vec Ideal S32x64x64 .f32) (pe : Vec Ideal S32x64 .f32) (t : Fin 4096) (e : Fin 64) : EReal :=
  halfAt x w pe 0 t e + halfAt x w pe 1 (next t) e

/-- A sum over 16 positions of 64 columns is a sum over 1024 entries. -/
theorem sum_group (f : Fin 16 → Fin 64 → EReal) :
    ∑ r, ∑ d, f r d = ∑ i : Fin 1024, f ⟨i.val / 64, by omega⟩ ⟨i.val % 64, by omega⟩ := by
  refine (Fintype.sum_prod_type' f).symm.trans ?_
  refine (Equiv.sum_comp (finProdFinEquiv (m := 16) (n := 64)).symm (fun p : Fin 16 × Fin 64 => f p.1 p.2)).symm.trans ?_
  rfl

/-- A sum over the window is the sum of its two halves. -/
theorem sum_window (f : Fin 32 → Fin 64 → EReal) :
    ∑ d, ∑ r, f r d = ∑ i : Fin 1024, f (win 0 i) (pos i) + ∑ i : Fin 1024, f (win 1 i) (pos i) := by
  rw [Finset.sum_comm]
  refine (Fin.sum_univ_add (a := 16) (b := 16) fun r => ∑ d, f r d).trans ?_
  refine congrArg₂ (· + ·) ((sum_group fun r d => f (Fin.castAdd 16 r) d).trans ?_) ((sum_group fun r d => f (Fin.natAdd 16 r) d).trans ?_)
  · refine Finset.sum_congr rfl fun i _ => congrArg₂ f (Fin.ext ?_) rfl
    show i.val / 64 = 0 * 16 + i.val / 64
    omega
  · refine Finset.sum_congr rfl fun i _ => congrArg₂ f (Fin.ext ?_) rfl
    show 16 + i.val / 64 = 1 * 16 + i.val / 64
    omega

end Cert.Compress
-- ==== Proof.CompressBlocks.lean ====
/- The blocks the compression kernel reads at a grid point: the groups of one sequence, and the whole weights. -/
module

public import proofs.«01_k».proof.Proof.CompressMath
public import proofs.«01_k».proof.Proof.Gen.Kernel4Ideal.Value
public import Idealize.ShloMosaic.Lib.Pipeline.Value
public import Idealize.ShloMosaic.Lib.Pipeline.Covers
public import Idealize.ShloMosaic.Lib.StableHlo.Run

@[expose] public section

set_option maxRecDepth 16384
set_option maxHeartbeats 4000000

noncomputable section

namespace Cert.Compress

open Idealize.ShloMosaic Idealize.ShloMosaic.TcCoe

open Cert.Kernel4Ideal Cert.Kernel4Ideal.Gen

variable (m : (ℓ : Loc nD τ sig) → Buf (Elt Ideal) ℓ)

abbrev in_xk (c : Dev nD) : Vec Ideal S65536x64 .bf16 := m ((c : Thread nD τ).loc main_arg0)
abbrev in_xv (c : Dev nD) : Vec Ideal S65536x64 .bf16 := m ((c : Thread nD τ).loc main_arg1)
abbrev in_wk (c : Dev nD) : Vec Ideal S32x64x64 .f32 := m ((c : Thread nD τ).loc main_arg2)
abbrev in_pk (c : Dev nD) : Vec Ideal S32x64 .f32 := m ((c : Thread nD τ).loc main_arg3)
abbrev in_wv (c : Dev nD) : Vec Ideal S32x64x64 .f32 := m ((c : Thread nD τ).loc main_arg4)
abbrev in_pv (c : Dev nD) : Vec Ideal S32x64 .f32 := m ((c : Thread nD τ).loc main_arg5)

/-! ## The arrays the host prepares -/

theorem entry_xk (c : Dev nD) : (V m c main_v0 : Vec Ideal S4096x1024 .bf16) = shapeCast _ (in_xk m c) shapeCasts_S65536x64_S4096x1024 := by
  unfold V
  simp only [hostOps0]
  after_results_simp
  rfl

theorem entry_xv (c : Dev nD) : (V m c main_v1 : Vec Ideal S4096x1024 .bf16) = shapeCast _ (in_xv m c) shapeCasts_S65536x64_S4096x1024 := by
  unfold V
  simp only [hostOps0]
  after_results_simp
  rfl

theorem entry_wk (c : Dev nD) : (V m c main_v3 : Vec Ideal S2x1024x64 .bf16) = (truncf .bf16 (shapeCast _ (in_wk m c) shapeCasts_S32x64x64_S2x1024x64 : FVec Ideal S2x1024x64 .f32) bitsLt_bf16_f32 : FVec Ideal S2x1024x64 .bf16) := by
  unfold V
  simp only [hostOps0]
  after_results_simp
  rfl

theorem entry_wv (c : Dev nD) : (V m c main_v5 : Vec Ideal S2x1024x64 .bf16) = (truncf .bf16 (shapeCast _ (in_wv m c) shapeCasts_S32x64x64_S2x1024x64 : FVec Ideal S2x1024x64 .f32) bitsLt_bf16_f32 : FVec Ideal S2x1024x64 .bf16) := by
  unfold V
  simp only [hostOps0]
  after_results_simp
  rfl

theorem entry_pk (c : Dev nD) : (V m c main_v6 : Vec Ideal S2x1024 .f32) = shapeCast _ (in_pk m c) shapeCasts_S32x64_S2x1024 := by
  unfold V
  simp only [hostOps0]
  after_results_simp
  rfl

theorem entry_pv (c : Dev nD) : (V m c main_v7 : Vec Ideal S2x1024 .f32) = shapeCast _ (in_pv m c) shapeCasts_S32x64_S2x1024 := by
  unfold V
  simp only [hostOps0]
  after_results_simp
  rfl

/-! ## The blocks -/

/-- The grid point's sequence. -/
abbrev pt (t : Fin cfg0.N) : Fin 16 := grid0.coords t 0

/-- Row `r` of the block's group. -/
abbrev tok (t : Fin cfg0.N) (r : Fin 256) : Fin 4096 := ⟨(pt t).val * 256 + r.val, by have := (pt t).isLt; omega⟩

/-- The row after `r`, the first after the last, holds the group after `r`'s. -/
theorem tok_next (t : Fin cfg0.N) (r : Fin 256) : tok t ⟨(r.val + 256 - 255) % 256, by omega⟩ = next (tok t r) := by
  apply Fin.ext
  show (pt t).val * 256 + (r.val + 256 - 255) % 256
    = ((pt t).val * 256 + r.val) / 256 * 256 + (((pt t).val * 256 + r.val) % 256 + 1) % 256
  have := r.isLt
  omega

/-- Every sequence is a grid point's. -/
theorem point_of (k : Fin 16) : ∃ t : Fin cfg0.N, (pt t).val = k.val := by
  obtain ⟨t, ht⟩ := Pipeline.Grid.coords_surjective grid0 (fun a => match a with | ⟨0, _⟩ => k)
  exact ⟨t, congrArg Fin.val (congrFun ht 0)⟩

theorem word_of (n : Fin 16) : (BitVec.ofNat 32 n.val).toNat = n.val := by
  rw [BitVec.toNat_ofNat]; have := n.isLt; omega

theorem read_xk (c : Dev nD) (t : Fin cfg0.N) (r : Fin 256) (i : Fin 1024) :
    (iblk m c 0 t : Vec Ideal S256x1024 .bf16) (ix2 r i) = in_xk m c (ix2 (grp (tok t r) i) (pos i)) := by
  refine Eq.trans (b := (V m c main_v0 : Vec Ideal S4096x1024 .bf16) (ix2 (tok t r) i)) ?_ ?_
  · unfold iblk
    refine (View.read_apply (Val := Elt Ideal) _ _).trans ?_
    show (V m c main_v0 : Vec Ideal S4096x1024 .bf16) _ = (V m c main_v0 : Vec Ideal S4096x1024 .bf16) _
    congr 1
    funext a
    apply Fin.ext
    match a with
    | ⟨0, _⟩ =>
      show (BitVec.ofNat 32 (pt t).val).toNat * 256 + 1 * r.val = (pt t).val * 256 + r.val
      rw [word_of, Nat.one_mul]
    | ⟨1, _⟩ => show 0 * 1024 + 1 * i.val = i.val; omega
  · rw [entry_xk]
    pointwise []
    rfl

theorem read_xv (c : Dev nD) (t : Fin cfg0.N) (r : Fin 256) (i : Fin 1024) :
    (iblk m c 1 t : Vec Ideal S256x1024 .bf16) (ix2 r i) = in_xv m c (ix2 (grp (tok t r) i) (pos i)) := by
  refine Eq.trans (b := (V m c main_v1 : Vec Ideal S4096x1024 .bf16) (ix2 (tok t r) i)) ?_ ?_
  · unfold iblk
    refine (View.read_apply (Val := Elt Ideal) _ _).trans ?_
    show (V m c main_v1 : Vec Ideal S4096x1024 .bf16) _ = (V m c main_v1 : Vec Ideal S4096x1024 .bf16) _
    congr 1
    funext a
    apply Fin.ext
    match a with
    | ⟨0, _⟩ =>
      show (BitVec.ofNat 32 (pt t).val).toNat * 256 + 1 * r.val = (pt t).val * 256 + r.val
      rw [word_of, Nat.one_mul]
    | ⟨1, _⟩ => show 0 * 1024 + 1 * i.val = i.val; omega
  · rw [entry_xv]
    pointwise []
    rfl

theorem read_wk (c : Dev nD) (t : Fin cfg0.N) (b : Fin 2) (i : Fin 1024) (e : Fin 64) :
    (iblk m c 2 t : Vec Ideal S2x1024x64 .bf16) (ix3 b i e) = in_wk m c (ix3 (win b i) (pos i) e) := by
  refine Eq.trans (b := (V m c main_v3 : Vec Ideal S2x1024x64 .bf16) (ix3 b i e)) ?_ ?_
  · unfold iblk
    refine (View.read_apply (Val := Elt Ideal) _ _).trans ?_
    show (V m c main_v3 : Vec Ideal S2x1024x64 .bf16) _ = (V m c main_v3 : Vec Ideal S2x1024x64 .bf16) _
    congr 1
    funext a
    apply Fin.ext
    match a with
    | ⟨0, _⟩ => show 0 * 2 + 1 * b.val = b.val; omega
    | ⟨1, _⟩ => show 0 * 1024 + 1 * i.val = i.val; omega
    | ⟨2, _⟩ => show 0 * 64 + 1 * e.val = e.val; omega
  · rw [entry_wk]
    pointwise []
    rfl

theorem read_wv (c : Dev nD) (t : Fin cfg0.N) (b : Fin 2) (i : Fin 1024) (e : Fin 64) :
    (iblk m c 3 t : Vec Ideal S2x1024x64 .bf16) (ix3 b i e) = in_wv m c (ix3 (win b i) (pos i) e) := by
  refine Eq.trans (b := (V m c main_v5 : Vec Ideal S2x1024x64 .bf16) (ix3 b i e)) ?_ ?_
  · unfold iblk
    refine (View.read_apply (Val := Elt Ideal) _ _).trans ?_
    show (V m c main_v5 : Vec Ideal S2x1024x64 .bf16) _ = (V m c main_v5 : Vec Ideal S2x1024x64 .bf16) _
    congr 1
    funext a
    apply Fin.ext
    match a with
    | ⟨0, _⟩ => show 0 * 2 + 1 * b.val = b.val; omega
    | ⟨1, _⟩ => show 0 * 1024 + 1 * i.val = i.val; omega
    | ⟨2, _⟩ => show 0 * 64 + 1 * e.val = e.val; omega
  · rw [entry_wv]
    pointwise []
    rfl

theorem read_pk (c : Dev nD) (t : Fin cfg0.N) (b : Fin 2) (i : Fin 1024) :
    (iblk m c 4 t : Vec Ideal S2x1024 .f32) (ix2 b i) = in_pk m c (ix2 (win b i) (pos i)) := by
  refine Eq.trans (b := (V m c main_v6 : Vec Ideal S2x1024 .f32) (ix2 b i)) ?_ ?_
  · unfold iblk
    refine (View.read_apply (Val := Elt Ideal) _ _).trans ?_
    show (V m c main_v6 : Vec Ideal S2x1024 .f32) _ = (V m c main_v6 : Vec Ideal S2x1024 .f32) _
    congr 1
    funext a
    apply Fin.ext
    match a with
    | ⟨0, _⟩ => show 0 * 2 + 1 * b.val = b.val; omega
    | ⟨1, _⟩ => show 0 * 1024 + 1 * i.val = i.val; omega
  · rw [entry_pk]
    pointwise []
    rfl

theorem read_pv (c : Dev nD) (t : Fin cfg0.N) (b : Fin 2) (i : Fin 1024) :
    (iblk m c 5 t : Vec Ideal S2x1024 .f32) (ix2 b i) = in_pv m c (ix2 (win b i) (pos i)) := by
  refine Eq.trans (b := (V m c main_v7 : Vec Ideal S2x1024 .f32) (ix2 b i)) ?_ ?_
  · unfold iblk
    refine (View.read_apply (Val := Elt Ideal) _ _).trans ?_
    show (V m c main_v7 : Vec Ideal S2x1024 .f32) _ = (V m c main_v7 : Vec Ideal S2x1024 .f32) _
    congr 1
    funext a
    apply Fin.ext
    match a with
    | ⟨0, _⟩ => show 0 * 2 + 1 * b.val = b.val; omega
    | ⟨1, _⟩ => show 0 * 1024 + 1 * i.val = i.val; omega
  · rw [entry_pv]
    pointwise []
    rfl

end Cert.Compress
-- ==== Proof.CompressPayload.lean ====
/- What one block of the compression kernel leaves in each output, entry by entry: for the row of group `t`, the window that
   starts at `t`. -/
module

public import proofs.«01_k».proof.Proof.CompressMath
public import proofs.«01_k».proof.Proof.Gen.Kernel4Ideal.Value
public import Idealize.ShloMosaic.Lib.Pipeline.ValueKit

@[expose] public section

set_option maxRecDepth 16384
set_option maxHeartbeats 4000000

noncomputable section

namespace Cert.Compress

open Idealize.ShloMosaic Idealize.ShloMosaic.TcCoe

open Cert.Kernel4Ideal Cert.Kernel4Ideal.Gen

/-- Row `r` of a block against the two halves' weights, the second half's from the row after. -/
def blockAt (v0 : Vec Ideal S256x1024 .bf16) (p0 : Vec Ideal S1x1024 .f32) (w0 : Vec Ideal S1x1024x64 .bf16) (p1 : Vec Ideal S1x1024 .f32)
    (w1 : Vec Ideal S1x1024x64 .bf16) (r : Fin 256) (e : Fin 64) : EReal :=
  ∑ i : Fin 1024, (v0 (ix2 r i) + p0 (ix2 0 i)) * w0 (ix3 0 i e)
    + ∑ i : Fin 1024, (v0 (ix2 ⟨(r.val + 256 - 255) % 256, by omega⟩ i) + p1 (ix2 0 i)) * w1 (ix3 0 i e)

theorem pay_keys (v0 : Vec Ideal S256x1024 .bf16) (p0 : Vec Ideal S1x1024 .f32) (w0 : Vec Ideal S1x1024x64 .bf16) (p1 : Vec Ideal S1x1024 .f32)
    (w1 : Vec Ideal S1x1024x64 .bf16) (r : Fin 256) (e : Fin 64) :
    k0_pay2 (F := Ideal) v0 p0 w0 p1 w1 (ix2 r e) = blockAt v0 p0 w0 p1 w1 r e := by
  pointwise [k0_pay2]
  rfl

theorem pay_values (v0 : Vec Ideal S256x1024 .bf16) (p0 : Vec Ideal S1x1024 .f32) (w0 : Vec Ideal S1x1024x64 .bf16) (p1 : Vec Ideal S1x1024 .f32)
    (w1 : Vec Ideal S1x1024x64 .bf16) (r : Fin 256) (e : Fin 64) :
    k0_pay1 (F := Ideal) (k0_pay3 v0) (k0_pay4 v0 p0) (k0_pay5 w0) (constant S256x64 .f32 0x00000000#32) p1 w1 (ix2 e r)
      = blockAt v0 p0 w0 p1 w1 r e := by
  pointwise [k0_pay1, k0_pay3, k0_pay4, k0_pay5]
  rfl

theorem zero_off : (![0, 0] : Fin 2 → Nat) = fun _ => 0 := by
  funext a; match a with
  | ⟨0, _⟩ => rfl
  | ⟨1, _⟩ => rfl

theorem whole_0 (X : Vec Ideal S256x1024 .bf16) : View.ld X r0_0 = X := View.ld_unit_zero zero_off _ _

theorem ld_1 (X : Vec Ideal S2x1024 .f32) (i : Fin 1024) : View.ld X r0_1 (ix2 0 i) = X (ix2 0 i) :=
  View.ld_unit_apply_of X _ _ _ _ _ fun a => match a with
    | ⟨0, _⟩ => rfl
    | ⟨1, _⟩ => (Nat.zero_add _).symm

theorem ld_3 (X : Vec Ideal S2x1024 .f32) (i : Fin 1024) : View.ld X r0_3 (ix2 0 i) = X (ix2 1 i) :=
  View.ld_unit_apply_of X _ _ _ _ _ fun a => match a with
    | ⟨0, _⟩ => rfl
    | ⟨1, _⟩ => (Nat.zero_add _).symm

theorem ld_2 (X : Vec Ideal S2x1024x64 .bf16) (i : Fin 1024) (e : Fin 64) : View.ld X r0_2 (ix3 0 i e) = X (ix3 0 i e) :=
  View.ld_unit_apply_of X _ _ _ _ _ fun a => match a with
    | ⟨0, _⟩ => rfl
    | ⟨1, _⟩ => (Nat.zero_add _).symm
    | ⟨2, _⟩ => (Nat.zero_add _).symm

theorem ld_4 (X : Vec Ideal S2x1024x64 .bf16) (i : Fin 1024) (e : Fin 64) : View.ld X r0_4 (ix3 0 i e) = X (ix3 1 i e) :=
  View.ld_unit_apply_of X _ _ _ _ _ fun a => match a with
    | ⟨0, _⟩ => rfl
    | ⟨1, _⟩ => (Nat.zero_add _).symm
    | ⟨2, _⟩ => (Nat.zero_add _).symm

/-! ## The outputs -/

section Rows

variable (x : Vec Ideal S65536x64 .bf16) (w : Vec Ideal S32x64x64 .f32) (pe : Vec Ideal S32x64 .f32)
variable (X Y : Vec Ideal S256x1024 .bf16) (W U : Vec Ideal S2x1024x64 .bf16) (Q R : Vec Ideal S2x1024 .f32) (tk : Fin 256 → Fin 4096)

/-- A block whose rows are the groups `tk` of the sequence, in their order around it. -/
theorem block_of (hn : ∀ r : Fin 256, tk ⟨(r.val + 256 - 255) % 256, by omega⟩ = next (tk r)) (h0 : ∀ r i, X (ix2 r i) = x (ix2 (grp (tk r) i) (pos i)))
    (h1 : ∀ a i e, W (ix3 a i e) = w (ix3 (win a i) (pos i) e)) (h2 : ∀ a i, Q (ix2 a i) = pe (ix2 (win a i) (pos i)))
    (r : Fin 256) (e : Fin 64) :
    blockAt (View.ld X r0_0) (View.ld Q r0_1) (View.ld W r0_2) (View.ld Q r0_3) (View.ld W r0_4) r e = compAt x w pe (tk r) e := by
  unfold blockAt compAt halfAt
  refine congrArg₂ (· + ·) (Finset.sum_congr rfl fun i _ => ?_) (Finset.sum_congr rfl fun i _ => ?_)
  · exact congrArg₂ (· * ·) (congrArg₂ (· + ·) ((congrFun (whole_0 X) _).trans (h0 r i)) ((ld_1 Q i).trans (h2 0 i))) ((ld_2 W i e).trans (h1 0 i e))
  · refine congrArg₂ (· * ·) (congrArg₂ (· + ·) ((congrFun (whole_0 X) _).trans ((h0 _ i).trans ?_)) ((ld_3 Q i).trans (h2 1 i)))
      ((ld_4 W i e).trans (h1 1 i e))
    rw [hn]

theorem out_keys (hn : ∀ r : Fin 256, tk ⟨(r.val + 256 - 255) % 256, by omega⟩ = next (tk r)) (h0 : ∀ r i, X (ix2 r i) = x (ix2 (grp (tk r) i) (pos i)))
    (h1 : ∀ a i e, W (ix3 a i e) = w (ix3 (win a i) (pos i) e)) (h2 : ∀ a i, Q (ix2 a i) = pe (ix2 (win a i) (pos i)))
    (r : Fin 256) (e : Fin 64) :
    out0_6 (F := Ideal) X Y W U Q R (ix2 r e) = compAt x w pe (tk r) e := by
  unfold out0_6
  refine (congrFun (View.canon_unit_zero zero_off _ _) _).trans ?_
  exact (pay_keys _ _ _ _ _ r e).trans (block_of x w pe X W Q tk hn h0 h1 h2 r e)

theorem out_values (hn : ∀ r : Fin 256, tk ⟨(r.val + 256 - 255) % 256, by omega⟩ = next (tk r)) (h0 : ∀ r i, X (ix2 r i) = x (ix2 (grp (tk r) i) (pos i)))
    (h1 : ∀ a i e, W (ix3 a i e) = w (ix3 (win a i) (pos i) e)) (h2 : ∀ a i, Q (ix2 a i) = pe (ix2 (win a i) (pos i)))
    (r : Fin 256) (e : Fin 64) :
    out0_7 (F := Ideal) Y X U W R Q (ix2 e r) = compAt x w pe (tk r) e := by
  unfold out0_7
  refine (congrFun (View.canon_unit_zero zero_off _ _) _).trans ?_
  exact (pay_values _ _ _ _ _ r e).trans (block_of x w pe X W Q tk hn h0 h1 h2 r e)

end Rows

end Cert.Compress
-- ==== Proof.CompressReference.lean ====
/- The reference of the compression, read element by element. -/
module

public import proofs.«01_k».proof.Proof.CompressMath
public import proofs.«01_k».proof.Proof.Gen.Reference4Ideal.Read

@[expose] public section

set_option maxRecDepth 16384
set_option maxHeartbeats 4000000

noncomputable section

namespace Cert.Compress

open Idealize.ShloMosaic Idealize.ShloMosaic.TcCoe

open Cert.Kernel4Ideal
open Cert.Reference4Ideal.Read

theorem keys_group (x : Vec Ideal S65536x64 .bf16) (b : Fin 16) (j : Fin 256) (r : Fin 16) (d : Fin 64) :
    val_main_v1 (F := Ideal) x (ix4 b j r d) = x (ix2 ⟨b.val * 4096 + j.val * 16 + r.val, by omega⟩ d) := by
  pointwise [val_main_v1, val_main_v0]

theorem keys_after (x : Vec Ideal S65536x64 .bf16) (b : Fin 16) (j : Fin 256) (r : Fin 16) (d : Fin 64) :
    val_main_v4 (F := Ideal) x (ix4 b j r d) = x (ix2 ⟨b.val * 4096 + (j.val + 1) % 256 * 16 + r.val, by omega⟩ d) := by
  pointwise [val_main_v4, val_main_v3, val_main_v2]
  split
  · rename_i h
    refine (keys_group x b _ r d).trans (congrArg (fun k => x (ix2 k d)) (Fin.ext ?_))
    show b.val * 4096 + (1 + j.val) * 16 + r.val = b.val * 4096 + (j.val + 1) % 256 * 16 + r.val
    omega
  · rename_i h
    refine (keys_group x b _ r d).trans (congrArg (fun k => x (ix2 k d)) (Fin.ext ?_))
    show b.val * 4096 + (j.val - 255) * 16 + r.val = b.val * 4096 + (j.val + 1) % 256 * 16 + r.val
    omega

theorem keys_first (x : Vec Ideal S65536x64 .bf16) (b : Fin 16) (j : Fin 256) (i : Fin 1024) (t : Fin 4096) (ht : t.val = b.val * 256 + j.val) :
    val_main_v5 (F := Ideal) x (ix4 b j (win 0 i) (pos i)) = x (ix2 (grp t i) (pos i)) := by
  pointwise [val_main_v5]
  have hw : (win 0 i).val < 16 := by show 0 * 16 + i.val / 64 < 16; omega
  rw [dif_pos hw]
  refine (keys_group x b j _ _).trans (congrArg (fun k => x (ix2 k (pos i))) (Fin.ext ?_))
  show b.val * 4096 + j.val * 16 + (0 * 16 + i.val / 64) = t.val * 16 + i.val / 64
  omega

theorem keys_second (x : Vec Ideal S65536x64 .bf16) (b : Fin 16) (j : Fin 256) (i : Fin 1024) (t : Fin 4096) (ht : t.val = b.val * 256 + j.val) :
    val_main_v5 (F := Ideal) x (ix4 b j (win 1 i) (pos i)) = x (ix2 (grp (next t) i) (pos i)) := by
  pointwise [val_main_v5]
  have hw : ¬ (win 1 i).val < 16 := by show ¬ 1 * 16 + i.val / 64 < 16; omega
  rw [dif_neg hw]
  refine (keys_after x b j _ _).trans (congrArg (fun k => x (ix2 k (pos i))) (Fin.ext ?_))
  show b.val * 4096 + (j.val + 1) % 256 * 16 + (1 * 16 + i.val / 64 - 16) = (t.val / 256 * 256 + (t.val % 256 + 1) % 256) * 16 + i.val / 64
  omega

theorem keys_window (x : Vec Ideal S65536x64 .bf16) (w : Vec Ideal S32x64x64 .f32) (p : Vec Ideal S32x64 .f32) (b : Fin 16) (j : Fin 256) (e : Fin 64)
    (t : Fin 4096) (ht : t.val = b.val * 256 + j.val) :
    val_main_v9 (F := Ideal) x w p (ix3 b j e) = compAt x w p t e := by
  pointwise [val_main_v9, val_main_v8, val_main_v7, val_main_v6]
  refine (sum_window fun r d => (val_main_v5 (F := Ideal) x (ix4 b j r d) + p (ix2 r d)) * w (ix3 r d e)).trans ?_
  refine congrArg₂ (· + ·) (Finset.sum_congr rfl fun i _ => ?_) (Finset.sum_congr rfl fun i _ => ?_)
  · exact congrArg (fun k => (k + _) * _) (keys_first x b j i t ht)
  · exact congrArg (fun k => (k + _) * _) (keys_second x b j i t ht)

theorem values_group (x : Vec Ideal S65536x64 .bf16) (b : Fin 16) (j : Fin 256) (r : Fin 16) (d : Fin 64) :
    val_main_v13 (F := Ideal) x (ix4 b j r d) = x (ix2 ⟨b.val * 4096 + j.val * 16 + r.val, by omega⟩ d) := by
  pointwise [val_main_v13, val_main_v12]

theorem values_after (x : Vec Ideal S65536x64 .bf16) (b : Fin 16) (j : Fin 256) (r : Fin 16) (d : Fin 64) :
    val_main_v16 (F := Ideal) x (ix4 b j r d) = x (ix2 ⟨b.val * 4096 + (j.val + 1) % 256 * 16 + r.val, by omega⟩ d) := by
  pointwise [val_main_v16, val_main_v15, val_main_v14]
  split
  · rename_i h
    refine (values_group x b _ r d).trans (congrArg (fun k => x (ix2 k d)) (Fin.ext ?_))
    show b.val * 4096 + (1 + j.val) * 16 + r.val = b.val * 4096 + (j.val + 1) % 256 * 16 + r.val
    omega
  · rename_i h
    refine (values_group x b _ r d).trans (congrArg (fun k => x (ix2 k d)) (Fin.ext ?_))
    show b.val * 4096 + (j.val - 255) * 16 + r.val = b.val * 4096 + (j.val + 1) % 256 * 16 + r.val
    omega

theorem values_first (x : Vec Ideal S65536x64 .bf16) (b : Fin 16) (j : Fin 256) (i : Fin 1024) (t : Fin 4096) (ht : t.val = b.val * 256 + j.val) :
    val_main_v17 (F := Ideal) x (ix4 b j (win 0 i) (pos i)) = x (ix2 (grp t i) (pos i)) := by
  pointwise [val_main_v17]
  have hw : (win 0 i).val < 16 := by show 0 * 16 + i.val / 64 < 16; omega
  rw [dif_pos hw]
  refine (values_group x b j _ _).trans (congrArg (fun k => x (ix2 k (pos i))) (Fin.ext ?_))
  show b.val * 4096 + j.val * 16 + (0 * 16 + i.val / 64) = t.val * 16 + i.val / 64
  omega

theorem values_second (x : Vec Ideal S65536x64 .bf16) (b : Fin 16) (j : Fin 256) (i : Fin 1024) (t : Fin 4096) (ht : t.val = b.val * 256 + j.val) :
    val_main_v17 (F := Ideal) x (ix4 b j (win 1 i) (pos i)) = x (ix2 (grp (next t) i) (pos i)) := by
  pointwise [val_main_v17]
  have hw : ¬ (win 1 i).val < 16 := by show ¬ 1 * 16 + i.val / 64 < 16; omega
  rw [dif_neg hw]
  refine (values_after x b j _ _).trans (congrArg (fun k => x (ix2 k (pos i))) (Fin.ext ?_))
  show b.val * 4096 + (j.val + 1) % 256 * 16 + (1 * 16 + i.val / 64 - 16) = (t.val / 256 * 256 + (t.val % 256 + 1) % 256) * 16 + i.val / 64
  omega

theorem values_window (x : Vec Ideal S65536x64 .bf16) (w : Vec Ideal S32x64x64 .f32) (p : Vec Ideal S32x64 .f32) (b : Fin 16) (j : Fin 256) (e : Fin 64)
    (t : Fin 4096) (ht : t.val = b.val * 256 + j.val) :
    val_main_v21 (F := Ideal) x w p (ix3 b j e) = compAt x w p t e := by
  pointwise [val_main_v21, val_main_v20, val_main_v19, val_main_v18]
  refine (sum_window fun r d => (val_main_v17 (F := Ideal) x (ix4 b j r d) + p (ix2 r d)) * w (ix3 r d e)).trans ?_
  refine congrArg₂ (· + ·) (Finset.sum_congr rfl fun i _ => ?_) (Finset.sum_congr rfl fun i _ => ?_)
  · exact congrArg (fun k => (k + _) * _) (values_first x b j i t ht)
  · exact congrArg (fun k => (k + _) * _) (values_second x b j i t ht)

theorem ref_keys (x : Vec Ideal S65536x64 .bf16) (w : Vec Ideal S32x64x64 .f32) (p : Vec Ideal S32x64 .f32) (t : Fin 4096) (e : Fin 64) :
    val_main_v11 (F := Ideal) x w p (ix2 t e) = compAt x w p t e := by
  pointwise [val_main_v11, val_main_v10]
  exact keys_window x w p _ _ e t (by show t.val = t.val / 256 * 256 + t.val % 256; omega)

theorem ref_values (x : Vec Ideal S65536x64 .bf16) (w : Vec Ideal S32x64x64 .f32) (p : Vec Ideal S32x64 .f32) (e : Fin 64) (t : Fin 4096) :
    val_main_v24 (F := Ideal) x w p (ix2 e t) = compAt x w p t e := by
  pointwise [val_main_v24, val_main_v23, val_main_v22]
  exact values_window x w p _ _ e t (by show t.val = t.val / 256 * 256 + t.val % 256; omega)

end Cert.Compress
-- ==== Proof.CompressValue.lean ====
/- The final arrays of the compression kernel are the reference's. -/
module

public import proofs.«01_k».proof.Proof.CompressBlocks
public import proofs.«01_k».proof.Proof.CompressPayload
public import proofs.«01_k».proof.Proof.CompressReference
public import Idealize.ShloMosaic.Lib.Pipeline.Value
public import Idealize.ShloMosaic.Lib.Pipeline.Covers

@[expose] public section

set_option maxRecDepth 16384
set_option maxHeartbeats 4000000

noncomputable section

namespace Cert.Compress

open Idealize.ShloMosaic Idealize.ShloMosaic.TcCoe

open Idealize.ShloMosaic.Pipeline (Dat)
open Cert.Kernel4Ideal Cert.Kernel4Ideal.Gen
open Cert.Reference4Ideal.Read (val_main_v11 val_main_v24)

variable (m : (ℓ : Loc nD τ sig) → Buf (Elt Ideal) ℓ)

theorem idx2_lt0 {a b : Nat} (i : (⟨2, ![a, b]⟩ : Shape).Idx) : (i 0).val < a := (i 0).isLt

theorem idx2_lt1 {a b : Nat} (i : (⟨2, ![a, b]⟩ : Shape).Idx) : (i 1).val < b := (i 1).isLt

/-! ## The compressed keys -/

/-- The reference's output at the kernel's arguments. -/
@[irreducible] def res_keys (c : Dev nD) : Vec Ideal S4096x64 .bf16 := val_main_v11 (F := Ideal) (in_xk m c) (in_wk m c) (in_pk m c)

/-- The block the body leaves at point `t`, entry by entry, is the reference's. -/
theorem left_keys (c : Dev nD) (t : Fin cfg0.N) (r : Fin 256) (q : Fin 64) :
    out0_6 (F := Ideal) (iblk m c 0 t) (iblk m c 1 t) (iblk m c 2 t) (iblk m c 3 t) (iblk m c 4 t) (iblk m c 5 t) (ix2 r q) = res_keys m c (ix2 (tok t r) q) := by
  refine (out_keys (in_xk m c) (in_wk m c) (in_pk m c) _ _ _ _ _ _ (tok t) (tok_next t) (read_xk m c t) (read_wk m c t) (read_pk m c t) r q).trans ?_
  unfold res_keys
  exact (ref_keys (in_xk m c) (in_wk m c) (in_pk m c) (tok t r) q).symm

theorem flushed_keys (c : Dev nD) (t : Fin cfg0.N) (G : Vec Ideal S4096x64 .bf16)
    (hG : ∀ (r : Fin 256) (q : Fin 64), out0_6 (F := Ideal) (iblk m c 0 t) (iblk m c 1 t) (iblk m c 2 t) (iblk m c 3 t) (iblk m c 4 t) (iblk m c 5 t) (ix2 r q) = G (ix2 (tok t r) q)) :
    (dats m 0 c).flushed 6 t = ((cfg0.win 6).blk t).view.read (Elt Ideal) G := by
  rw [Cert.Kernel4Ideal.Value.flushed6]
  funext (j : S256x64.Idx)
  refine Eq.trans ?_ (View.read_apply (Val := Elt Ideal) _ _).symm
  obtain ⟨r, q, rfl⟩ : ∃ (r : Fin 256) (q : Fin 64), j = ix2 r q := ⟨j 0, j 1, by funext a; match a with | ⟨0, _⟩ => rfl | ⟨1, _⟩ => rfl⟩
  refine (hG r q).trans ?_
  show G _ = G _
  congr 1
  funext a
  apply Fin.ext
  match a with
  | ⟨0, _⟩ =>
    show (pt t).val * 256 + r.val = (BitVec.ofNat 32 (pt t).val).toNat * 256 + 1 * r.val
    rw [word_of, Nat.one_mul]
  | ⟨1, _⟩ => show q.val = 0 * 64 + 1 * q.val; omega

theorem holds_keys (t : Fin cfg0.N) (i : S4096x64.Idx) (h : (pt t).val = (i 0).val / 256) :
    ∀ a, cc0_transform_6 (grid0.coords t) a * S256x64.size a ≤ (i a).val ∧ (i a).val < cc0_transform_6 (grid0.coords t) a * S256x64.size a + S256x64.size a := by
  intro a
  match a with
  | ⟨0, _⟩ =>
    show (BitVec.ofNat 32 (pt t).val).toNat * 256 ≤ (i 0).val ∧ (i 0).val < (BitVec.ofNat 32 (pt t).val).toNat * 256 + 256
    rw [word_of, h]; omega
  | ⟨1, _⟩ =>
    show 0 * 64 ≤ (i 1).val ∧ (i 1).val < 0 * 64 + 64
    have := idx2_lt1 i; omega

theorem final_keys (c : Dev nD) : (dats m 0 c).arrAt 6 cfg0.N = res_keys m c :=
  (dats m 0 c).arrAt_eq_of_cover 6 (res_keys m c) (fun t _ => flushed_keys m c t _ (left_keys m c t)) fun (i : S4096x64.Idx) => by
    obtain ⟨t, ht⟩ := point_of ⟨(i 0).val / 256, by have := idx2_lt0 i; omega⟩
    refine ⟨t, flush0_6 t, ?_⟩
    show i ∈ ((View.whole main_v8_0).slice ((cfg0.win 6).rect t)).set
    refine (congrArg (i ∈ ·) (View.set_slice_whole (b := main_v8_0) _)).mpr ?_
    exact (Rect.mem_set_unit).mpr (holds_keys t i ht)

/-! ## The compressed values -/

/-- The reference's output at the kernel's arguments. -/
@[irreducible] def res_values (c : Dev nD) : Vec Ideal S64x4096 .bf16 := val_main_v24 (F := Ideal) (in_xv m c) (in_wv m c) (in_pv m c)

/-- The block the body leaves at point `t`, entry by entry, is the reference's. -/
theorem left_values (c : Dev nD) (t : Fin cfg0.N) (r : Fin 256) (q : Fin 64) :
    out0_7 (F := Ideal) (iblk m c 0 t) (iblk m c 1 t) (iblk m c 2 t) (iblk m c 3 t) (iblk m c 4 t) (iblk m c 5 t) (ix2 q r) = res_values m c (ix2 q (tok t r)) := by
  refine (out_values (in_xv m c) (in_wv m c) (in_pv m c) _ _ _ _ _ _ (tok t) (tok_next t) (read_xv m c t) (read_wv m c t) (read_pv m c t) r q).trans ?_
  unfold res_values
  exact (ref_values (in_xv m c) (in_wv m c) (in_pv m c) q (tok t r)).symm

theorem flushed_values (c : Dev nD) (t : Fin cfg0.N) (G : Vec Ideal S64x4096 .bf16)
    (hG : ∀ (r : Fin 256) (q : Fin 64), out0_7 (F := Ideal) (iblk m c 0 t) (iblk m c 1 t) (iblk m c 2 t) (iblk m c 3 t) (iblk m c 4 t) (iblk m c 5 t) (ix2 q r) = G (ix2 q (tok t r))) :
    (dats m 0 c).flushed 7 t = ((cfg0.win 7).blk t).view.read (Elt Ideal) G := by
  rw [Cert.Kernel4Ideal.Value.flushed7]
  funext (j : S64x256.Idx)
  refine Eq.trans ?_ (View.read_apply (Val := Elt Ideal) _ _).symm
  obtain ⟨r, q, rfl⟩ : ∃ (r : Fin 256) (q : Fin 64), j = ix2 q r := ⟨j 1, j 0, by funext a; match a with | ⟨0, _⟩ => rfl | ⟨1, _⟩ => rfl⟩
  refine (hG r q).trans ?_
  show G _ = G _
  congr 1
  funext a
  apply Fin.ext
  match a with
  | ⟨0, _⟩ => show q.val = 0 * 64 + 1 * q.val; omega
  | ⟨1, _⟩ =>
    show (pt t).val * 256 + r.val = (BitVec.ofNat 32 (pt t).val).toNat * 256 + 1 * r.val
    rw [word_of, Nat.one_mul]

theorem holds_values (t : Fin cfg0.N) (i : S64x4096.Idx) (h : (pt t).val = (i 1).val / 256) :
    ∀ a, cc0_transform_7 (grid0.coords t) a * S64x256.size a ≤ (i a).val ∧ (i a).val < cc0_transform_7 (grid0.coords t) a * S64x256.size a + S64x256.size a := by
  intro a
  match a with
  | ⟨0, _⟩ =>
    show 0 * 64 ≤ (i 0).val ∧ (i 0).val < 0 * 64 + 64
    have := idx2_lt0 i; omega
  | ⟨1, _⟩ =>
    show (BitVec.ofNat 32 (pt t).val).toNat * 256 ≤ (i 1).val ∧ (i 1).val < (BitVec.ofNat 32 (pt t).val).toNat * 256 + 256
    rw [word_of, h]; omega

theorem final_values (c : Dev nD) : (dats m 0 c).arrAt 7 cfg0.N = res_values m c :=
  (dats m 0 c).arrAt_eq_of_cover 7 (res_values m c) (fun t _ => flushed_values m c t _ (left_values m c t)) fun (i : S64x4096.Idx) => by
    obtain ⟨t, ht⟩ := point_of ⟨(i 1).val / 256, by have := idx2_lt1 i; omega⟩
    refine ⟨t, flush0_7 t, ?_⟩
    show i ∈ ((View.whole main_v8_1).slice ((cfg0.win 7).rect t)).set
    refine (congrArg (i ∈ ·) (View.set_slice_whole (b := main_v8_1) _)).mpr ?_
    exact (Rect.mem_set_unit).mpr (holds_values t i ht)

end Cert.Compress
-- ==== Proof.CompressClaims.lean ====
/- The claims about the compression of keys and values: the frames and the value claim. -/
module

public import proofs.«01_k».proof.Defs
public import proofs.«01_k».proof.Proof.CompressValue
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

@[expose] public section

set_option maxRecDepth 16384
set_option maxHeartbeats 4000000

noncomputable section

namespace Cert.Compress

open Idealize.ShloMosaic Idealize.ShloMosaic.TcCoe

open Idealize.SL.Sem
open Cert.Kernel4Ideal Cert.Kernel4Ideal.Gen
open Cert.Reference4Ideal.Read (val_main_v11 val_main_v11_eq val_main_v24 val_main_v24_eq)

attribute [local instance] Cert.Kernel4.Gen.facts Cert.Kernel4Ideal.Gen.facts Cert.Reference4Ideal.Gen.facts

theorem frame_bits : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => by obtain ⟨_, _, a0, a1, a2, a3, a4, a5⟩ := h c; exact ⟨a0, a1, a2, a3, a4, a5⟩, sem_eq_zero_of_no_sems rfl r.2⟩)
    (Cert.Reference4Ideal.Value.run m ρ)

variable (m : (ℓ : Loc nD τ sig) → Buf (Elt Ideal) ℓ)

theorem res_keys_eq (c : Dev nD) : val_main_v11 (F := Ideal) (in_xk m c) (in_wk m c) (in_pk m c) = res_keys m c := by unfold res_keys; rfl

theorem res_values_eq (c : Dev nD) : val_main_v24 (F := Ideal) (in_xv m c) (in_wv m c) (in_pv m c) = res_values m c := by unfold res_values; rfl

/-- At the same arguments the kernel's two outputs over the reals are the reference's. -/
theorem value : Cert.algebraic_Kernel4Ideal_Reference4Ideal := fun m ρ m' ρ' _ hargs => by
  refine ⟨fun c => res_keys m c, fun c => res_values m c, ?_, ?_⟩
  · refine (θ_run defs _ _).mono (fun r h c => ?_) (Cert.Kernel4Ideal.Value.run_blocks m ρ)
    obtain ⟨p0, p1, a0, a1, a2, a3, a4, a5⟩ := h c
    exact ⟨p0.trans (final_keys m c), p1.trans (final_values m c), a0, a1, a2, a3, a4, a5⟩
  · refine (θ_run Cert.Reference4Ideal.defs _ _).mono (fun r h c => ?_) (Cert.Reference4Ideal.Value.run m' ρ')
    obtain ⟨h0, h1, h2, h3, h4, h5⟩ := hargs c
    obtain ⟨p0, p1, a0, a1, a2, a3, a4, a5⟩ := h c
    have keyk : ∀ {s : Shape} {e : EltTy} (f : Vec Ideal S65536x64 .bf16 → Vec Ideal S32x64x64 .f32 → Vec Ideal S32x64 .f32 → Vec Ideal s e),
        f (m' ((c.tc : Thread Cert.Reference4Ideal.nD Cert.Reference4Ideal.τ).loc Cert.Reference4Ideal.main_arg0))
          (m' ((c.tc : Thread Cert.Reference4Ideal.nD Cert.Reference4Ideal.τ).loc Cert.Reference4Ideal.main_arg2))
          (m' ((c.tc : Thread Cert.Reference4Ideal.nD Cert.Reference4Ideal.τ).loc Cert.Reference4Ideal.main_arg3))
          = f (in_xk m c) (in_wk m c) (in_pk m c) := by
      intro s e f
      rw [h0, h2, h3]
    have keyv : ∀ {s : Shape} {e : EltTy} (f : Vec Ideal S65536x64 .bf16 → Vec Ideal S32x64x64 .f32 → Vec Ideal S32x64 .f32 → Vec Ideal s e),
        f (m' ((c.tc : Thread Cert.Reference4Ideal.nD Cert.Reference4Ideal.τ).loc Cert.Reference4Ideal.main_arg1))
          (m' ((c.tc : Thread Cert.Reference4Ideal.nD Cert.Reference4Ideal.τ).loc Cert.Reference4Ideal.main_arg4))
          (m' ((c.tc : Thread Cert.Reference4Ideal.nD Cert.Reference4Ideal.τ).loc Cert.Reference4Ideal.main_arg5))
          = f (in_xv m c) (in_wv m c) (in_pv m c) := by
      intro s e f
      rw [h1, h4, h5]
    exact ⟨p0.trans ((val_main_v11_eq _ _ _).trans ((keyk (val_main_v11 (F := Ideal))).trans (res_keys_eq m c))),
      p1.trans ((val_main_v24_eq _ _ _).trans ((keyv (val_main_v24 (F := Ideal))).trans (res_values_eq m c))), a0, a1, a2, a3, a4, a5⟩

end Cert.Compress
-- ==== Proof.PlanMath.lean ====
/- The one-hot sum of the experts' starts, over the reals, and its way back to a word. -/
module

public import Idealize.ShloMosaic.Lib.Pointwise
public import Idealize.ShloMosaic.Lib.Pipeline.ValueKit

@[expose] public section

set_option maxRecDepth 16384
set_option maxHeartbeats 1600000

noncomputable section

namespace Cert.Plan

open Idealize.ShloMosaic Idealize.ShloMosaic.TcCoe

/-- A word taken to the reals and back is itself. -/
theorem word_back (b : BitVec 32) : Ideal.fptosi 32 (((b.toInt : ℝ) : EReal)) = b := by
  unfold Ideal.fptosi
  rw [Ideal.toIntClamped_coe, Int.floor_intCast, Int.ceil_intCast, ite_self]
  have h1 := BitVec.le_toInt b
  have h2 := BitVec.toInt_lt (x := b)
  norm_num at h1 h2 ⊢
  rw [min_eq_right (by omega), max_eq_right (by omega), BitVec.ofInt_toInt]

/-- The one-hot sum the kernel takes at a pick `w`: the entries of `s` at the experts that `w` names. -/
def pick (s : Fin 64 → EReal) (w : BitVec 32) : EReal :=
  ∑ x : Fin 64, Scalar.select (IntOp.cmpi .eq (BitVec.ofNat 32 x.val) w) (s x) 0

/-- A pick that names expert `e` reads its entry. -/
theorem pick_of (s : Fin 64 → EReal) (w : BitVec 32) (e : Fin 64) (h : w.toInt = (e.val : Int)) : pick s w = s e := by
  have hw : w = BitVec.ofNat 32 e.val := by
    have he := e.isLt
    apply BitVec.eq_of_toNat_eq
    have h1 := BitVec.toInt_eq_toNat_cond w
    have h2 := w.isLt
    rw [BitVec.toNat_ofNat]
    split at h1 <;> omega
  unfold pick
  rw [Finset.sum_eq_single e]
  · subst hw
    simp [Scalar.select, IntOp.cmpi]
  · intro x _ hx
    have hne : ¬ BitVec.ofNat 32 x.val = w := fun hxw => hx (Fin.ext (by
      have h3 := congrArg BitVec.toNat (hxw.trans hw)
      rw [BitVec.toNat_ofNat, BitVec.toNat_ofNat] at h3
      have := x.isLt; have := e.isLt
      omega))
    have hb : (BitVec.ofNat 32 x.val == w) = false := beq_eq_false_iff_ne.mpr hne
    simp [Scalar.select, IntOp.cmpi, hb]
  · intro hx
    exact absurd (Finset.mem_univ e) hx

/-- The entry of the result: the rank past the start the pick names. -/
def destAt (rank : BitVec 32) (s : Fin 64 → EReal) (w : BitVec 32) : BitVec 32 := IntOp.addi rank (Ideal.fptosi 32 (pick s w))

theorem destAt_of (rank w : BitVec 32) (b : Fin 64 → BitVec 32) (e : Fin 64) (h : w.toInt = (e.val : Int)) :
    destAt rank (fun x => (((b x).toInt : ℝ) : EReal)) w = IntOp.addi (b e) rank := by
  unfold destAt
  rw [pick_of _ w e h, word_back]
  exact BitVec.add_comm _ _

end Cert.Plan

end
-- ==== Proof.PlanHost.lean ====
/- What the plan's host lines leave for the call, and the two results they make: the reference's stages of the counts. -/
module

public import proofs.«01_k».proof.Proof.Gen.Kernel5Ideal.Skeleton
public import Idealize.ShloMosaic.Lib.Pointwise
public import Idealize.ShloMosaic.Lib.Pipeline.ValueKit
public import proofs.«01_k».proof.Proof.Gen.Kernel5Ideal.Launch
public import proofs.«01_k».proof.Proof.Gen.Kernel5Ideal.Frame
public import proofs.«01_k».proof.Proof.Gen.Reference5Ideal.Read
public import Idealize.ShloMosaic.Lib.StableHlo.Run

@[expose] public section

set_option maxRecDepth 16384
set_option maxHeartbeats 1600000

noncomputable section

namespace Cert.Plan

open Idealize.ShloMosaic Idealize.ShloMosaic.TcCoe

open Cert.Kernel5Ideal Cert.Kernel5Ideal.Gen
open Cert.Reference5Ideal.Read (val_main_v9 val_main_v10 val_main_v24 val_main_v24_apply val_main_v28 val_main_call2_call0_v0 val_main_call2_call0_v1 val_main_call2_call0_v2 val_main_call2_call0_v3 val_main_call2_call0_v4 val_main_call2_call0_v5 val_main_call2_call0_c val_main_v19 val_main_v20 val_main_v21 val_main_v22 val_main_v23 val_main_c_5 val_main_c_6)

variable {F : FTy → Type} [FloatOps F]

/-- The first row of each block of the padded layout. -/
def blockStart : IVec S576 32 := muli (iotaInDim S576 32 0) (broadcastInDim S576 ![] bcast_S_S576 (constantI S_ 32 1024#32))

/-- For block `i` and expert `e`: whether the expert's padded rows end at or before the block's first row. -/
def below (x : Vec F S64x1 .f32) : IVec S576x64 32 :=
  extui 32 (cmpi .sle
    (broadcastInDim S576x64 ![0, 1] bcast_S1x64_S576x64_0_1 (broadcastInDim S1x64 ![1] bcast_S64_S1x64_1 (val_main_v9 (F := F) x)))
    (broadcastInDim S576x64 ![0, 1] bcast_S576x1_S576x64_0_1 (broadcastInDim S576x1 ![0] bcast_S576_S576x1_0 blockStart))) natLt_1_32

/-- The kernel's block table: for each block the number of experts whose rows end at or before it, at most the last expert. -/
def table (x : Vec F S64x1 .f32) : IVec S576 32 :=
  minsi (Host.reduce IntOp.addi (below x) (constantI S_ 32 0#32) reducesTo_S576x64_S576_d1 h_S_)
    (broadcastInDim S576 ![] bcast_S_S576 (constantI S_ 32 63#32))

variable (m : (ℓ : Loc nD τ sig) → Buf (Elt F) ℓ)

abbrev in_counts (c : Dev nD) : Vec F S64x1 .f32 := m ((c : Thread nD τ).loc main_arg2)

theorem entry_starts (c : Dev nD) : (V m c main_v28 : Vec F S64x1 .f32)
    = shapeCast _ (sitofp .f32 (val_main_v10 (F := F) (in_counts m c)) : FVec F S64 .f32) shapeCasts_S64_S64x1 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem entry_used (c : Dev nD) : (V m c main_v26 : Vec F S1 .i32)
    = val_main_v28 (F := F) (in_counts m c) := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem entry_table (c : Dev nD) : (V m c main_v22 : Vec F S576 .i32)
    = table (F := F) (in_counts m c) := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  unfold table below blockStart
  rfl

theorem table_eq (x : Vec F S64x1 .f32) : table x = val_main_v24 (F := F) x := by
  funext i
  obtain ⟨i, rfl⟩ : ∃ k : Fin 576, i = ix1 k := ⟨i 0, by funext a; match a with | ⟨0, _⟩ => rfl⟩
  rw [val_main_v24_apply]
  unfold table below blockStart val_main_v22
  pointwise [val_main_v21, val_main_v20, val_main_v19, val_main_v23, val_main_c_5, val_main_c_6, val_main_call2_call0_v0, val_main_call2_call0_v1,
    val_main_call2_call0_v2, val_main_call2_call0_v3, val_main_call2_call0_v4, val_main_call2_call0_v5, val_main_call2_call0_c]

end Cert.Plan

end
-- ==== Proof.PlanBlocks.lean ====
/- The blocks the placing kernel reads at a grid point: 512 tokens' picks and ranks, and all the experts' starts. -/
module

public import proofs.«01_k».proof.Proof.PlanMath
public import proofs.«01_k».proof.Proof.PlanHost
public import proofs.«01_k».proof.Proof.Gen.Kernel5Ideal.Value
public import Idealize.ShloMosaic.Lib.Pipeline.Value
public import Idealize.ShloMosaic.Lib.Pipeline.Covers

@[expose] public section

set_option maxRecDepth 16384
set_option maxHeartbeats 1600000

noncomputable section

namespace Cert.Plan

open Idealize.ShloMosaic Idealize.ShloMosaic.TcCoe

open Cert.Kernel5Ideal Cert.Kernel5Ideal.Gen
open Cert.Reference5Ideal.Read (val_main_v10)

variable (m : (ℓ : Loc nD τ sig) → Buf (Elt Ideal) ℓ)

abbrev in_picks (c : Dev nD) : Vec Ideal S8x65536 .i32 := m ((c : Thread nD τ).loc main_arg0)
abbrev in_ranks (c : Dev nD) : Vec Ideal S8x65536 .i32 := m ((c : Thread nD τ).loc main_arg1)

/-- The grid point's stretch of tokens. -/
abbrev pt (t : Fin cfg0.N) : Fin 128 := grid0.coords t 0

/-- Token `r` of the block. -/
abbrev tok (t : Fin cfg0.N) (r : Fin 512) : Fin 65536 := ⟨(pt t).val * 512 + r.val, by have := (pt t).isLt; omega⟩

/-- Every stretch is a grid point's. -/
theorem point_of (k : Fin 128) : ∃ t : Fin cfg0.N, (pt t).val = k.val := by
  obtain ⟨t, ht⟩ := Pipeline.Grid.coords_surjective grid0 (fun a => match a with | ⟨0, _⟩ => k)
  exact ⟨t, congrArg Fin.val (congrFun ht 0)⟩

theorem word_of (n : Fin 128) : (BitVec.ofNat 32 n.val).toNat = n.val := by
  rw [BitVec.toNat_ofNat]; have := n.isLt; omega

theorem read_picks (c : Dev nD) (t : Fin cfg0.N) (k : Fin 8) (r : Fin 512) :
    (iblk m c 0 t : Vec Ideal S8x512 .i32) (ix2 k r) = in_picks m c (ix2 k (tok t r)) := by
  refine Eq.trans (b := (V m c main_arg0 : Vec Ideal S8x65536 .i32) (ix2 k (tok t r))) ?_ (congrFun (V_main_arg0 m c) _)
  unfold iblk
  refine (View.read_apply (Val := Elt Ideal) _ _).trans ?_
  show (V m c main_arg0 : Vec Ideal S8x65536 .i32) _ = (V m c main_arg0 : Vec Ideal S8x65536 .i32) _
  congr 1
  funext a
  apply Fin.ext
  match a with
  | ⟨0, _⟩ => show 0 * 8 + 1 * k.val = k.val; omega
  | ⟨1, _⟩ =>
    show (BitVec.ofNat 32 (pt t).val).toNat * 512 + 1 * r.val = (pt t).val * 512 + r.val
    rw [word_of, Nat.one_mul]

theorem read_ranks (c : Dev nD) (t : Fin cfg0.N) (k : Fin 8) (r : Fin 512) :
    (iblk m c 1 t : Vec Ideal S8x512 .i32) (ix2 k r) = in_ranks m c (ix2 k (tok t r)) := by
  refine Eq.trans (b := (V m c main_arg1 : Vec Ideal S8x65536 .i32) (ix2 k (tok t r))) ?_ (congrFun (V_main_arg1 m c) _)
  unfold iblk
  refine (View.read_apply (Val := Elt Ideal) _ _).trans ?_
  show (V m c main_arg1 : Vec Ideal S8x65536 .i32) _ = (V m c main_arg1 : Vec Ideal S8x65536 .i32) _
  congr 1
  funext a
  apply Fin.ext
  match a with
  | ⟨0, _⟩ => show 0 * 8 + 1 * k.val = k.val; omega
  | ⟨1, _⟩ =>
    show (BitVec.ofNat 32 (pt t).val).toNat * 512 + 1 * r.val = (pt t).val * 512 + r.val
    rw [word_of, Nat.one_mul]

theorem read_starts (c : Dev nD) (t : Fin cfg0.N) (e : Fin 64) :
    (iblk m c 2 t : Vec Ideal S64x1 .f32) (ix2 e 0) = (((val_main_v10 (F := Ideal) (in_counts m c) (ix1 e)).toInt : ℝ) : EReal) := by
  refine Eq.trans (b := (V m c main_v28 : Vec Ideal S64x1 .f32) (ix2 e 0)) ?_ ?_
  · unfold iblk
    refine (View.read_apply (Val := Elt Ideal) _ _).trans ?_
    show (V m c main_v28 : Vec Ideal S64x1 .f32) _ = (V m c main_v28 : Vec Ideal S64x1 .f32) _
    congr 1
    funext a
    apply Fin.ext
    match a with
    | ⟨0, _⟩ => show 0 * 64 + 1 * e.val = e.val; omega
    | ⟨1, _⟩ => rfl
  · rw [entry_starts]
    pointwise []
    rfl

end Cert.Plan

end
-- ==== Proof.PlanPayload.lean ====
/- What the kernel's body leaves in its block: for every pick, the rank past the start of the expert it names. -/
module

public import proofs.«01_k».proof.Proof.PlanMath
public import proofs.«01_k».proof.Proof.Gen.Kernel5Ideal.Frame

@[expose] public section

set_option maxRecDepth 16384
set_option maxHeartbeats 1600000

noncomputable section

namespace Cert.Plan

open Idealize.ShloMosaic Idealize.ShloMosaic.TcCoe

open Cert.Kernel5Ideal Cert.Kernel5Ideal.Gen

theorem zero_off : (![0, 0] : Fin 2 → Nat) = fun _ => 0 := by
  funext a
  match a with
  | ⟨0, _⟩ => rfl
  | ⟨1, _⟩ => rfl

theorem whole_starts (X : Vec Ideal S64x1 .f32) : View.ld X r0_0 = X := View.ld_unit_zero zero_off _ _

theorem whole_ranks (X : Vec Ideal S8x512 .i32) : View.ld X r0_9 = X := View.ld_unit_zero zero_off _ _

/-! ## The block's rows of picks -/

theorem ld_row0 (X : Vec Ideal S8x512 .i32) (r : Fin 512) : View.ld X r0_1 (ix2 0 r) = X (ix2 0 r) :=
  View.ld_unit_apply_of X _ _ _ _ _ fun a => match a with
    | ⟨0, _⟩ => rfl
    | ⟨1, _⟩ => (Nat.zero_add _).symm

theorem ld_row1 (X : Vec Ideal S8x512 .i32) (r : Fin 512) : View.ld X r0_2 (ix2 0 r) = X (ix2 1 r) :=
  View.ld_unit_apply_of X _ _ _ _ _ fun a => match a with
    | ⟨0, _⟩ => rfl
    | ⟨1, _⟩ => (Nat.zero_add _).symm

theorem ld_row2 (X : Vec Ideal S8x512 .i32) (r : Fin 512) : View.ld X r0_3 (ix2 0 r) = X (ix2 2 r) :=
  View.ld_unit_apply_of X _ _ _ _ _ fun a => match a with
    | ⟨0, _⟩ => rfl
    | ⟨1, _⟩ => (Nat.zero_add _).symm

theorem ld_row3 (X : Vec Ideal S8x512 .i32) (r : Fin 512) : View.ld X r0_4 (ix2 0 r) = X (ix2 3 r) :=
  View.ld_unit_apply_of X _ _ _ _ _ fun a => match a with
    | ⟨0, _⟩ => rfl
    | ⟨1, _⟩ => (Nat.zero_add _).symm

theorem ld_row4 (X : Vec Ideal S8x512 .i32) (r : Fin 512) : View.ld X r0_5 (ix2 0 r) = X (ix2 4 r) :=
  View.ld_unit_apply_of X _ _ _ _ _ fun a => match a with
    | ⟨0, _⟩ => rfl
    | ⟨1, _⟩ => (Nat.zero_add _).symm

theorem ld_row5 (X : Vec Ideal S8x512 .i32) (r : Fin 512) : View.ld X r0_6 (ix2 0 r) = X (ix2 5 r) :=
  View.ld_unit_apply_of X _ _ _ _ _ fun a => match a with
    | ⟨0, _⟩ => rfl
    | ⟨1, _⟩ => (Nat.zero_add _).symm

theorem ld_row6 (X : Vec Ideal S8x512 .i32) (r : Fin 512) : View.ld X r0_7 (ix2 0 r) = X (ix2 6 r) :=
  View.ld_unit_apply_of X _ _ _ _ _ fun a => match a with
    | ⟨0, _⟩ => rfl
    | ⟨1, _⟩ => (Nat.zero_add _).symm

theorem ld_row7 (X : Vec Ideal S8x512 .i32) (r : Fin 512) : View.ld X r0_8 (ix2 0 r) = X (ix2 7 r) :=
  View.ld_unit_apply_of X _ _ _ _ _ fun a => match a with
    | ⟨0, _⟩ => rfl
    | ⟨1, _⟩ => (Nat.zero_add _).symm

/-! ## The output, one row of picks at a time -/

variable (X R : Vec Ideal S8x512 .i32) (T : Vec Ideal S64x1 .f32)

theorem out_row0 (r : Fin 512) : out0_3 (F := Ideal) X R T (ix2 0 r) = destAt (R (ix2 0 r)) (fun x => T (ix2 x 0)) (X (ix2 0 r)) := by
  unfold out0_3
  refine (congrFun (View.canon_unit_zero zero_off _ _) _).trans ?_
  rw [whole_starts, whole_ranks]
  pointwise [k0_pay6, k0_pay5, k0_pay4, k0_pay3, k0_pay2, k0_pay1, ld_row0]
  rfl

theorem out_row1 (r : Fin 512) : out0_3 (F := Ideal) X R T (ix2 1 r) = destAt (R (ix2 1 r)) (fun x => T (ix2 x 0)) (X (ix2 1 r)) := by
  unfold out0_3
  refine (congrFun (View.canon_unit_zero zero_off _ _) _).trans ?_
  rw [whole_starts, whole_ranks]
  pointwise [k0_pay6, k0_pay5, k0_pay4, k0_pay3, k0_pay2, k0_pay1, ld_row1]
  rfl

theorem out_row2 (r : Fin 512) : out0_3 (F := Ideal) X R T (ix2 2 r) = destAt (R (ix2 2 r)) (fun x => T (ix2 x 0)) (X (ix2 2 r)) := by
  unfold out0_3
  refine (congrFun (View.canon_unit_zero zero_off _ _) _).trans ?_
  rw [whole_starts, whole_ranks]
  pointwise [k0_pay6, k0_pay5, k0_pay4, k0_pay3, k0_pay2, k0_pay1, ld_row2]
  rfl

theorem out_row3 (r : Fin 512) : out0_3 (F := Ideal) X R T (ix2 3 r) = destAt (R (ix2 3 r)) (fun x => T (ix2 x 0)) (X (ix2 3 r)) := by
  unfold out0_3
  refine (congrFun (View.canon_unit_zero zero_off _ _) _).trans ?_
  rw [whole_starts, whole_ranks]
  pointwise [k0_pay6, k0_pay5, k0_pay4, k0_pay3, k0_pay2, k0_pay1, ld_row3]
  rfl

theorem out_row4 (r : Fin 512) : out0_3 (F := Ideal) X R T (ix2 4 r) = destAt (R (ix2 4 r)) (fun x => T (ix2 x 0)) (X (ix2 4 r)) := by
  unfold out0_3
  refine (congrFun (View.canon_unit_zero zero_off _ _) _).trans ?_
  rw [whole_starts, whole_ranks]
  pointwise [k0_pay6, k0_pay5, k0_pay4, k0_pay3, k0_pay2, k0_pay1, ld_row4]
  rfl

theorem out_row5 (r : Fin 512) : out0_3 (F := Ideal) X R T (ix2 5 r) = destAt (R (ix2 5 r)) (fun x => T (ix2 x 0)) (X (ix2 5 r)) := by
  unfold out0_3
  refine (congrFun (View.canon_unit_zero zero_off _ _) _).trans ?_
  rw [whole_starts, whole_ranks]
  pointwise [k0_pay6, k0_pay5, k0_pay4, k0_pay3, k0_pay2, k0_pay1, ld_row5]
  rfl

theorem out_row6 (r : Fin 512) : out0_3 (F := Ideal) X R T (ix2 6 r) = destAt (R (ix2 6 r)) (fun x => T (ix2 x 0)) (X (ix2 6 r)) := by
  unfold out0_3
  refine (congrFun (View.canon_unit_zero zero_off _ _) _).trans ?_
  rw [whole_starts, whole_ranks]
  pointwise [k0_pay6, k0_pay5, k0_pay4, k0_pay3, k0_pay2, k0_pay1, ld_row6]
  rfl

theorem out_row7 (r : Fin 512) : out0_3 (F := Ideal) X R T (ix2 7 r) = destAt (R (ix2 7 r)) (fun x => T (ix2 x 0)) (X (ix2 7 r)) := by
  unfold out0_3
  refine (congrFun (View.canon_unit_zero zero_off _ _) _).trans ?_
  rw [whole_starts, whole_ranks]
  pointwise [k0_pay6, k0_pay5, k0_pay4, k0_pay3, k0_pay2, k0_pay1, ld_row7]
  rfl

theorem out_dest (k : Fin 8) (r : Fin 512) :
    out0_3 (F := Ideal) X R T (ix2 k r) = destAt (R (ix2 k r)) (fun x => T (ix2 x 0)) (X (ix2 k r)) := by
  match k with
  | ⟨0, _⟩ => exact out_row0 X R T r
  | ⟨1, _⟩ => exact out_row1 X R T r
  | ⟨2, _⟩ => exact out_row2 X R T r
  | ⟨3, _⟩ => exact out_row3 X R T r
  | ⟨4, _⟩ => exact out_row4 X R T r
  | ⟨5, _⟩ => exact out_row5 X R T r
  | ⟨6, _⟩ => exact out_row6 X R T r
  | ⟨7, _⟩ => exact out_row7 X R T r

end Cert.Plan

end
-- ==== Proof.PlanReference.lean ====
/- The reference's places at picks that name an expert: the expert's start and the rank. With it, what the precondition says. -/
module

public import proofs.«01_k».proof.Proof.PlanMath
public import proofs.«01_k».proof.Proof.Gen.Reference5Ideal.Read
public import proofs.«01_k».proof.Proof.Gen.Pre_experts_named
public import Idealize.ShloMosaic.Lib.ReduceAll
public import Idealize.ShloMosaic.Lib.Affine

@[expose] public section

set_option maxRecDepth 16384
set_option maxHeartbeats 1600000

noncomputable section

namespace Cert.Plan

open Idealize.ShloMosaic Idealize.ShloMosaic.TcCoe

open Cert.Reference5Ideal Cert.Reference5Ideal.Gen Cert.Reference5Ideal.Read

/-- `table[idx]` of a rank-1 table at a matrix of picks, where the pick names an entry in range. -/
theorem gather_flat {α : Type} {E A B : Nat} (d : GatherDims ⟨1, ![E]⟩ ⟨3, ![A, B, 1]⟩ ⟨2, ![A, B]⟩)
    (hoff : d.offsetDims = []) (hcoll : d.collapsedSliceDims = [0]) (hob : d.operandBatchingDims = [])
    (hsim : d.startIndexMap = [0]) (hivd : d.indexVectorDim = 2) (x : (⟨1, ![E]⟩ : Shape).Idx → α) (idx : IVec ⟨3, ![A, B, 1]⟩ 32)
    (a : Fin A) (b : Fin B) (e : Fin E) (he : (idx (ix3 a b 0)).toInt = (e.val : Int)) :
    Host.gather d x idx (ix2 a b) = x (ix1 e) := by
  obtain ⟨off, coll, ob, sb, sim, ivd, ss, wf⟩ := d
  dsimp only at hoff hcoll hob hsim hivd
  subst hoff hcoll hob hsim hivd
  have hsb : sb = [] := List.length_eq_zero_iff.mp (GatherDims.ob_length ⟨_, _, _, sb, _, _, ss, wf⟩).symm
  subst hsb
  generalize hd : (⟨[], [0], [], [], [0], 2, ss, wf⟩ : GatherDims ⟨1, ![E]⟩ ⟨3, ![A, B, 1]⟩ ⟨2, ![A, B]⟩) = d
  have hss : d.sliceSizes 0 = 1 := by subst hd; exact GatherDims.slice_collapsed _ 0 (List.mem_singleton.2 rfl)
  unfold Host.gather
  refine congrArg x (funext fun ax => Fin.ext ?_)
  show d.start (ix2 a b) idx ax + d.batchCoord (ix2 a b) ax + d.offCoord (ix2 a b) ax = _
  rw [GatherDims.batchCoord_eq_zero _ _ _ (by subst hd; exact List.not_mem_nil)]
  match ax with
  | ⟨0, _⟩ =>
    have hk : (0 : Fin 1) ∉ d.sKept := fun h => ((d.mem_sKept 0).1 h).1 (by subst hd; exact List.mem_singleton.2 rfl)
    have hm : (0 : Fin 1) ∈ d.startIndexMap := by subst hd; exact List.mem_singleton.2 rfl
    show d.start (ix2 a b) idx 0 + 0 + d.offCoord (ix2 a b) 0 = e.val
    rw [d.offCoord_eq_zero _ _ hk]
    unfold GatherDims.start
    rw [dif_pos hm]
    have hsi : d.siIdx (ix2 a b) ⟨d.startIndexMap.idxOf 0, List.idxOf_lt_length_iff.2 hm⟩ = ix3 a b 0 := by
      subst hd
      funext bx; refine Fin.ext ?_
      match bx with
      | ⟨0, _⟩ => rfl
      | ⟨1, _⟩ => rfl
      | ⟨2, _⟩ => rfl
    have hel := e.isLt
    rw [hsi, he, hss]
    show min ((e.val : Int)).toNat (E - 1) + 0 + 0 = e.val
    omega

variable (x0 x1 : Vec Ideal S8x65536 .i32) (x2 : Vec Ideal S64x1 .f32)

/-- A pick that is not negative is looked up as it is. -/
theorem looked_up (k : Fin 8) (i : Fin 65536) (h : 0 ≤ (x0 (ix2 k i)).toInt) : val_main_v16 (F := Ideal) x0 (ix3 k i 0) = x0 (ix2 k i) := by
  pointwise [val_main_v16, val_main_v15, val_main_v14, val_main_v13, val_main_v12, val_main_v11, val_main_c_3, val_main_c_2]
  have hs : (x0 (ix2 k i)).slt 0#32 = false := by
    rw [BitVec.slt_eq_decide, decide_eq_false_iff_not]
    simpa using h
  simp [Scalar.select, IntOp.cmpi, hs]

theorem ref_dest (k : Fin 8) (i : Fin 65536) (e : Fin 64) (h : (x0 (ix2 k i)).toInt = (e.val : Int)) :
    val_main_v18 (F := Ideal) x0 x1 x2 (ix2 k i) = IntOp.addi (val_main_v10 (F := Ideal) x2 (ix1 e)) (x1 (ix2 k i)) := by
  rw [val_main_v18_apply]
  unfold val_main_v17
  rw [gather_flat _ rfl rfl rfl rfl rfl _ _ k i e (by rw [looked_up x0 k i (by omega)]; exact h)]

/-- What the precondition says of the picks. -/
structure Named (x0 : Vec Ideal S8x65536 .i32) : Prop where
  lo : ∀ i, 0 ≤ (x0 i).toInt
  hi : ∀ i, (x0 i).toInt < 64

attribute [local instance] Cert.Pre_experts_named.Gen.facts

theorem named_of_pre (h : Cert.Pre_experts_named.fn (F := Ideal) x0 x1 x2 = fun _ => 1#1) : Named x0 := by
  have h0 := congrFun h (fun a => a.elim0)
  dsimp only [Cert.Pre_experts_named.fn] at h0
  have hb := fun i => IntOp.andi_eq_one.mp (Host.reduce_andi_all _ _ _ _ _ h0 i)
  exact ⟨fun i => IntOp.cmpi_sge.mp (hb i).1, fun i => IntOp.cmpi_slt.mp (hb i).2⟩

/-- The expert a pick names. -/
theorem Named.expert {x0 : Vec Ideal S8x65536 .i32} (h : Named x0) (i : S8x65536.Idx) : ∃ e : Fin 64, (x0 i).toInt = (e.val : Int) :=
  ⟨⟨(x0 i).toInt.toNat, by have := h.lo i; have := h.hi i; omega⟩, by have := h.lo i; show (x0 i).toInt = (((x0 i).toInt.toNat : Nat) : Int); omega⟩

end Cert.Plan

end
-- ==== Proof.PlanValue.lean ====
/- The final array of the placing kernel is the reference's, at picks that name an expert. -/
module

public import proofs.«01_k».proof.Proof.PlanBlocks
public import proofs.«01_k».proof.Proof.PlanPayload
public import proofs.«01_k».proof.Proof.PlanReference

@[expose] public section

set_option maxRecDepth 16384
set_option maxHeartbeats 1600000

noncomputable section

namespace Cert.Plan

open Idealize.ShloMosaic Idealize.ShloMosaic.TcCoe

open Idealize.ShloMosaic.Pipeline (Dat)
open Cert.Kernel5Ideal Cert.Kernel5Ideal.Gen
open Cert.Reference5Ideal.Read (val_main_v10 val_main_v18)

variable (m : (ℓ : Loc nD τ sig) → Buf (Elt Ideal) ℓ)

theorem idx2_lt0 {a b : Nat} (i : (⟨2, ![a, b]⟩ : Shape).Idx) : (i 0).val < a := (i 0).isLt

theorem idx2_lt1 {a b : Nat} (i : (⟨2, ![a, b]⟩ : Shape).Idx) : (i 1).val < b := (i 1).isLt

/-- The reference's places at the kernel's arguments. -/
@[irreducible] def res_dest (c : Dev nD) : Vec Ideal S8x65536 .i32 := val_main_v18 (F := Ideal) (in_picks m c) (in_ranks m c) (in_counts m c)

/-- The block the body leaves at point `t`, entry by entry, is the reference's. -/
theorem left_dest (c : Dev nD) (hN : Named (in_picks m c)) (t : Fin cfg0.N) (k : Fin 8) (r : Fin 512) :
    out0_3 (F := Ideal) (iblk m c 0 t) (iblk m c 1 t) (iblk m c 2 t) (ix2 k r) = res_dest m c (ix2 k (tok t r)) := by
  obtain ⟨e, he⟩ := hN.expert (ix2 k (tok t r))
  refine (out_dest _ _ _ k r).trans ?_
  rw [read_picks, read_ranks, funext (read_starts m c t), destAt_of _ _ (fun x => val_main_v10 (F := Ideal) (in_counts m c) (ix1 x)) e he]
  unfold res_dest
  exact (ref_dest _ _ _ k (tok t r) e he).symm

theorem flushed_dest (c : Dev nD) (t : Fin cfg0.N) (G : Vec Ideal S8x65536 .i32)
    (hG : ∀ (k : Fin 8) (r : Fin 512), out0_3 (F := Ideal) (iblk m c 0 t) (iblk m c 1 t) (iblk m c 2 t) (ix2 k r) = G (ix2 k (tok t r))) :
    (dats m 0 c).flushed 3 t = ((cfg0.win 3).blk t).view.read (Elt Ideal) G := by
  rw [Cert.Kernel5Ideal.Value.flushed3]
  funext (j : S8x512.Idx)
  refine Eq.trans ?_ (View.read_apply (Val := Elt Ideal) _ _).symm
  obtain ⟨k, r, rfl⟩ : ∃ (k : Fin 8) (r : Fin 512), j = ix2 k r := ⟨j 0, j 1, by funext a; match a with | ⟨0, _⟩ => rfl | ⟨1, _⟩ => rfl⟩
  refine (hG k r).trans ?_
  show G _ = G _
  congr 1
  funext a
  apply Fin.ext
  match a with
  | ⟨0, _⟩ => show k.val = 0 * 8 + 1 * k.val; omega
  | ⟨1, _⟩ =>
    show (pt t).val * 512 + r.val = (BitVec.ofNat 32 (pt t).val).toNat * 512 + 1 * r.val
    rw [word_of, Nat.one_mul]

theorem holds_dest (t : Fin cfg0.N) (i : S8x65536.Idx) (h : (pt t).val = (i 1).val / 512) :
    ∀ a, cc0_transform_3 (grid0.coords t) a * S8x512.size a ≤ (i a).val ∧ (i a).val < cc0_transform_3 (grid0.coords t) a * S8x512.size a + S8x512.size a := by
  intro a
  match a with
  | ⟨0, _⟩ =>
    show 0 * 8 ≤ (i 0).val ∧ (i 0).val < 0 * 8 + 8
    have := idx2_lt0 i; omega
  | ⟨1, _⟩ =>
    show (BitVec.ofNat 32 (pt t).val).toNat * 512 ≤ (i 1).val ∧ (i 1).val < (BitVec.ofNat 32 (pt t).val).toNat * 512 + 512
    rw [word_of, h]; omega

theorem final_dest (c : Dev nD) (hN : Named (in_picks m c)) : (dats m 0 c).arrAt 3 cfg0.N = res_dest m c :=
  (dats m 0 c).arrAt_eq_of_cover 3 (res_dest m c) (fun t _ => flushed_dest m c t _ (left_dest m c hN t)) fun (i : S8x65536.Idx) => by
    obtain ⟨t, ht⟩ := point_of ⟨(i 1).val / 512, by have := idx2_lt1 i; omega⟩
    refine ⟨t, Cert.Kernel5Ideal.Gen.flush0_3 t, ?_⟩
    show i ∈ ((View.whole main_v29).slice ((cfg0.win 3).rect t)).set
    refine (congrArg (i ∈ ·) (View.set_slice_whole (b := main_v29) _)).mpr ?_
    exact (Rect.mem_set_unit).mpr (holds_dest t i ht)

end Cert.Plan

end
-- ==== Proof.PlanClaims.lean ====
/- The claims about the places of the routed rows: the frames and the value claim. -/
module

public import proofs.«01_k».proof.Defs
public import proofs.«01_k».proof.Proof.PlanValue
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_experts_named
public import Idealize.ShloMosaic.Lib.Quiescent

@[expose] public section

set_option maxRecDepth 16384
set_option maxHeartbeats 1600000

noncomputable section

namespace Cert.Plan

open Idealize.ShloMosaic Idealize.ShloMosaic.TcCoe

open Idealize.SL.Sem
open Cert.Kernel5Ideal Cert.Kernel5Ideal.Gen
open Cert.Reference5Ideal.Read (val_main_v18 val_main_v18_eq val_main_v24 val_main_v24_eq val_main_v28 val_main_v28_eq)

attribute [local instance] Cert.Kernel5.Gen.facts Cert.Kernel5Ideal.Gen.facts Cert.Reference5Ideal.Gen.facts Cert.Pre_experts_named.Gen.facts

theorem frame_bits : Cert.quiescent_Kernel5 := fun m ρ _ => Cert.Kernel5.Gen.frame m ρ

theorem frame_ideal : Cert.quiescent_Kernel5Ideal := fun m ρ _ => Cert.Kernel5Ideal.Gen.frame m ρ

theorem frame_ideal_named : Cert.quiescent_Kernel5Ideal_pre_experts_named := fun m ρ _ => Cert.Kernel5Ideal.Gen.frame m ρ

theorem frame_reference : Cert.quiescent_Reference5Ideal := fun m ρ _ =>
  (θ_run Cert.Reference5Ideal.defs _ _).mono (fun r h => ⟨fun c => by obtain ⟨_, _, _, a0, a1, a2⟩ := h c; exact ⟨a0, a1, a2⟩, sem_eq_zero_of_no_sems rfl r.2⟩)
    (Cert.Reference5Ideal.Value.run m ρ)

theorem frame_reference_named : Cert.quiescent_Reference5Ideal_pre_experts_named := fun m ρ _ => frame_reference m ρ trivial

variable (m : (ℓ : Loc nD τ sig) → Buf (Elt Ideal) ℓ)

theorem res_dest_eq (c : Dev nD) : val_main_v18 (F := Ideal) (in_picks m c) (in_ranks m c) (in_counts m c) = res_dest m c := by unfold res_dest; rfl

/-- The run's arrays: the places from the kernel, the table and the used count from the host lines before it. -/
theorem run_results (ρ : Dev nD → PrngReg) :
    θ_run defs (onTc (τ := τ) (main (F := Ideal))) ⟨m, fun _ => 0, ρ⟩ fun r => ∀ c : Dev nD,
      r.2.mem ((c.tc : Thread nD τ).loc main_v29) = (dats m 0 c).arrAt 3 cfg0.N
      ∧ r.2.mem ((c.tc : Thread nD τ).loc main_v22) = V m c main_v22
      ∧ r.2.mem ((c.tc : Thread nD τ).loc main_v26) = V m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨Cert.Kernel5Ideal.Value.post3 m r h c,
      (h c).2 main_v22 (Pipeline.mem_restRefs_of main_v22 (by decide) (by decide)),
      (h c).2 main_v26 (Pipeline.mem_restRefs_of main_v26 (by decide) (by decide)),
      Cert.Kernel5Ideal.Value.kept_main_arg0 m r h c, Cert.Kernel5Ideal.Value.kept_main_arg1 m r h c, Cert.Kernel5Ideal.Value.kept_main_arg2 m r h c⟩)
    (Cert.Kernel5Ideal.Gen.run_main m ρ)

/-- At the same arguments, picks that name an expert, the kernel's three outputs over the reals are the reference's. -/
theorem value : Cert.algebraic_Kernel5Ideal_Reference5Ideal_pre_experts_named := fun m ρ m' ρ' hpre hargs => by
  have hN : ∀ c : Dev nD, Named (in_picks m c) := fun c => named_of_pre _ _ _ (hpre c)
  refine ⟨fun c => res_dest m c, fun c => val_main_v24 (F := Ideal) (in_counts m c), fun c => val_main_v28 (F := Ideal) (in_counts m c), ?_, ?_⟩
  · refine (θ_run defs _ _).mono (fun r h c => ?_) (run_results m ρ)
    obtain ⟨p0, p1, p2, a0, a1, a2⟩ := h c
    exact ⟨p0.trans (final_dest m c (hN c)), p1.trans ((entry_table m c).trans (table_eq _)), p2.trans (entry_used m c), a0, a1, a2⟩
  · refine (θ_run Cert.Reference5Ideal.defs _ _).mono (fun r h c => ?_) (Cert.Reference5Ideal.Value.run m' ρ')
    obtain ⟨h0, h1, h2⟩ := hargs c
    obtain ⟨p0, p1, p2, a0, a1, a2⟩ := h c
    have key : ∀ {s : Shape} {e : EltTy} (f : Vec Ideal S8x65536 .i32 → Vec Ideal S8x65536 .i32 → Vec Ideal S64x1 .f32 → Vec Ideal s e),
        f (m' ((c.tc : Thread Cert.Reference5Ideal.nD Cert.Reference5Ideal.τ).loc Cert.Reference5Ideal.main_arg0))
          (m' ((c.tc : Thread Cert.Reference5Ideal.nD Cert.Reference5Ideal.τ).loc Cert.Reference5Ideal.main_arg1))
          (m' ((c.tc : Thread Cert.Reference5Ideal.nD Cert.Reference5Ideal.τ).loc Cert.Reference5Ideal.main_arg2))
          = f (in_picks m c) (in_ranks m c) (in_counts m c) := by
      intro s e f
      rw [h0, h1, h2]
    exact ⟨p0.trans ((val_main_v18_eq _ _ _).trans ((key (val_main_v18 (F := Ideal))).trans (res_dest_eq m c))),
      p1.trans ((val_main_v24_eq _).trans (key (fun _ _ x => val_main_v24 (F := Ideal) x))),
      p2.trans ((val_main_v28_eq m' c).trans (key (fun _ _ x => val_main_v28 (F := Ideal) x))), a0, a1, a2⟩

end Cert.Plan

end
-- ==== Proof.lean ====
/- The claim, assembled from the modules that prove its parts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_blocks_named
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.ExpertsClaims
public import proofs.«01_k».proof.Proof.InProjClaims
public import proofs.«01_k».proof.Proof.MergeClaims
public import proofs.«01_k».proof.Proof.CompressClaims
public import proofs.«01_k».proof.Proof.PlanClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_blocks_named.Gen.facts, Cert.Pre_experts_named.Gen.facts,
  Cert.Experts.frame_bits, Cert.Experts.frame_ideal, Cert.Experts.frame_reference, Cert.Experts.frame_reference_named,
  Cert.InProj.frame_bits, Cert.InProj.frame_ideal, Cert.InProj.frame_reference,
  Cert.Merge.frame_bits, Cert.Merge.frame_ideal, Cert.Merge.frame_reference,
  Cert.Compress.frame_bits, Cert.Compress.frame_ideal, Cert.Compress.frame_reference,
  Cert.Plan.frame_bits, Cert.Plan.frame_ideal, Cert.Plan.frame_ideal_named, Cert.Plan.frame_reference, Cert.Plan.frame_reference_named,
  trivial, Cert.Experts.value, trivial, Cert.InProj.value, Cert.Merge.preserves, Cert.Merge.value,
  trivial, Cert.Compress.value, trivial, Cert.Plan.value⟩

end Cert.Proof

end
